-- ==== Defs.lean ====
def Pre_Kernel (m : (ℓ : Loc Cert.Kernel.nD Cert.Kernel.τ Cert.Kernel.sig) → Buf (Elt Bits) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn0Kernel (m : (ℓ : Loc Cert.Ffn0Kernel.nD Cert.Ffn0Kernel.τ Cert.Ffn0Kernel.sig) → Buf (Elt Bits) ℓ) : Prop :=
  True

def Pre_Ffn0KernelIdeal (m : (ℓ : Loc Cert.Ffn0KernelIdeal.nD Cert.Ffn0KernelIdeal.τ Cert.Ffn0KernelIdeal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Ffn0Kernel [hFfn0Kernel : Cert.Ffn0Kernel.Facts] : Prop :=
  ∀ (m : (ℓ : Loc Cert.Ffn0Kernel.nD Cert.Ffn0Kernel.τ Cert.Ffn0Kernel.sig) → Buf (Elt Bits) ℓ) (g : Dev Cert.Ffn0Kernel.nD → PrngReg), Pre_Ffn0Kernel m →
    θ_run (Cert.Ffn0Kernel.defs (F := Bits)) (onTc (τ := Cert.Ffn0Kernel.τ) (Cert.Ffn0Kernel.main (F := Bits))) ⟨m, fun _ => 0, g⟩ (fun r => (∀ c : Dev Cert.Ffn0Kernel.nD,
      r.2.mem ((c.tc : Thread Cert.Ffn0Kernel.nD Cert.Ffn0Kernel.τ).loc Cert.Ffn0Kernel.main_arg0) = m ((c.tc : Thread Cert.Ffn0Kernel.nD Cert.Ffn0Kernel.τ).loc Cert.Ffn0Kernel.main_arg0)
      ∧ r.2.mem ((c.tc : Thread Cert.Ffn0Kernel.nD Cert.Ffn0Kernel.τ).loc Cert.Ffn0Kernel.main_arg1) = m ((c.tc : Thread Cert.Ffn0Kernel.nD Cert.Ffn0Kernel.τ).loc Cert.Ffn0Kernel.main_arg1)
      ∧ r.2.mem ((c.tc : Thread Cert.Ffn0Kernel.nD Cert.Ffn0Kernel.τ).loc Cert.Ffn0Kernel.main_arg2) = m ((c.tc : Thread Cert.Ffn0Kernel.nD Cert.Ffn0Kernel.τ).loc Cert.Ffn0Kernel.main_arg2)
      ∧ r.2.mem ((c.tc : Thread Cert.Ffn0Kernel.nD Cert.Ffn0Kernel.τ).loc Cert.Ffn0Kernel.main_arg3) = m ((c.tc : Thread Cert.Ffn0Kernel.nD Cert.Ffn0Kernel.τ).loc Cert.Ffn0Kernel.main_arg3)
      ∧ r.2.mem ((c.tc : Thread Cert.Ffn0Kernel.nD Cert.Ffn0Kernel.τ).loc Cert.Ffn0Kernel.main_arg4) = m ((c.tc : Thread Cert.Ffn0Kernel.nD Cert.Ffn0Kernel.τ).loc Cert.Ffn0Kernel.main_arg4)
      ∧ r.2.mem ((c.tc : Thread Cert.Ffn0Kernel.nD Cert.Ffn0Kernel.τ).loc Cert.Ffn0Kernel.main_arg5) = m ((c.tc : Thread Cert.Ffn0Kernel.nD Cert.Ffn0Kernel.τ).loc Cert.Ffn0Kernel.main_arg5))
      ∧ r.2.sem = fun _ => 0)

def quiescent_Ffn0KernelIdeal [hFfn0KernelIdeal : Cert.Ffn0KernelIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg), Pre_Ffn0KernelIdeal m →
    θ_run (Cert.Ffn0KernelIdeal.defs (F := Ideal)) (onTc (τ := Cert.Ffn0KernelIdeal.τ) (Cert.Ffn0KernelIdeal.main (F := Ideal))) ⟨m, fun _ => 0, g⟩ (fun r => (∀ c : Dev Cert.Ffn0KernelIdeal.nD,
      r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
      ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
      ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
      ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
      ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
      ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1)
      ∧ r.2.mem ((c.tc : Thread Cert.Ffn0ReferenceIdeal.nD Cert.Ffn0ReferenceIdeal.τ).loc Cert.Ffn0ReferenceIdeal.main_arg2) = m ((c.tc : Thread Cert.Ffn0ReferenceIdeal.nD Cert.Ffn0ReferenceIdeal.τ).loc Cert.Ffn0ReferenceIdeal.main_arg2)
      ∧ r.2.mem ((c.tc : Thread Cert.Ffn0ReferenceIdeal.nD Cert.Ffn0ReferenceIdeal.τ).loc Cert.Ffn0ReferenceIdeal.main_arg3) = m ((c.tc : Thread Cert.Ffn0ReferenceIdeal.nD Cert.Ffn0ReferenceIdeal.τ).loc Cert.Ffn0ReferenceIdeal.main_arg3)
      ∧ r.2.mem ((c.tc : Thread Cert.Ffn0ReferenceIdeal.nD Cert.Ffn0ReferenceIdeal.τ).loc Cert.Ffn0ReferenceIdeal.main_arg4) = m ((c.tc : Thread Cert.Ffn0ReferenceIdeal.nD Cert.Ffn0ReferenceIdeal.τ).loc Cert.Ffn0ReferenceIdeal.main_arg4)
      ∧ r.2.mem ((c.tc : Thread Cert.Ffn0ReferenceIdeal.nD Cert.Ffn0ReferenceIdeal.τ).loc Cert.Ffn0ReferenceIdeal.main_arg5) = m ((c.tc : Thread Cert.Ffn0ReferenceIdeal.nD Cert.Ffn0ReferenceIdeal.τ).loc Cert.Ffn0ReferenceIdeal.main_arg5))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6)
      ∧ r.2.mem ((c.tc : Thread Cert.ConvKernel.nD Cert.ConvKernel.τ).loc Cert.ConvKernel.main_arg7) = m ((c.tc : Thread Cert.ConvKernel.nD Cert.ConvKernel.τ).loc Cert.ConvKernel.main_arg7)
      ∧ r.2.mem ((c.tc : Thread Cert.ConvKernel.nD Cert.ConvKernel.τ).loc Cert.ConvKernel.main_arg8) = m ((c.tc : Thread Cert.ConvKernel.nD Cert.ConvKernel.τ).loc Cert.ConvKernel.main_arg8)
      ∧ r.2.mem ((c.tc : Thread Cert.ConvKernel.nD Cert.ConvKernel.τ).loc Cert.ConvKernel.main_arg9) = m ((c.tc : Thread Cert.ConvKernel.nD Cert.ConvKernel.τ).loc Cert.ConvKernel.main_arg9))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7)
      ∧ r.2.mem ((c.tc : Thread Cert.ConvKernelIdeal.nD Cert.ConvKernelIdeal.τ).loc Cert.ConvKernelIdeal.main_arg8) = m ((c.tc : Thread Cert.ConvKernelIdeal.nD Cert.ConvKernelIdeal.τ).loc Cert.ConvKernelIdeal.main_arg8)
      ∧ r.2.mem ((c.tc : Thread Cert.ConvKernelIdeal.nD Cert.ConvKernelIdeal.τ).loc Cert.ConvKernelIdeal.main_arg9) = m ((c.tc : Thread Cert.ConvKernelIdeal.nD Cert.ConvKernelIdeal.τ).loc Cert.ConvKernelIdeal.main_arg9))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8)
      ∧ r.2.mem ((c.tc : Thread Cert.ConvReferenceIdeal.nD Cert.ConvReferenceIdeal.τ).loc Cert.ConvReferenceIdeal.main_arg9) = m ((c.tc : Thread Cert.ConvReferenceIdeal.nD Cert.ConvReferenceIdeal.τ).loc Cert.ConvReferenceIdeal.main_arg9))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Ffn0Kernel_Ffn0KernelIdeal : Prop :=
  True

def algebraic_Ffn0KernelIdeal_Ffn0ReferenceIdeal [hFfn0KernelIdeal : Cert.Ffn0KernelIdeal.Facts] [hFfn0ReferenceIdeal : Cert.Ffn0ReferenceIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0KernelIdeal m →
    (∀ c : Dev Cert.Ffn0KernelIdeal.nD,
      m' ((c.tc : Thread Cert.Ffn0ReferenceIdeal.nD Cert.Ffn0ReferenceIdeal.τ).loc Cert.Ffn0ReferenceIdeal.main_arg0) = m ((c.tc : Thread Cert.Ffn0KernelIdeal.nD Cert.Ffn0KernelIdeal.τ).loc Cert.Ffn0KernelIdeal.main_arg0)
      ∧ m' ((c.tc : Thread Cert.Ffn0ReferenceIdeal.nD Cert.Ffn0ReferenceIdeal.τ).loc Cert.Ffn0ReferenceIdeal.main_arg1) = m ((c.tc : Thread Cert.Ffn0KernelIdeal.nD Cert.Ffn0KernelIdeal.τ).loc Cert.Ffn0KernelIdeal.main_arg1)
      ∧ m' ((c.tc : Thread Cert.Ffn0ReferenceIdeal.nD Cert.Ffn0ReferenceIdeal.τ).loc Cert.Ffn0ReferenceIdeal.main_arg2) = m ((c.tc : Thread Cert.Ffn0KernelIdeal.nD Cert.Ffn0KernelIdeal.τ).loc Cert.Ffn0KernelIdeal.main_arg2)
      ∧ m' ((c.tc : Thread Cert.Ffn0ReferenceIdeal.nD Cert.Ffn0ReferenceIdeal.τ).loc Cert.Ffn0ReferenceIdeal.main_arg3) = m ((c.tc : Thread Cert.Ffn0KernelIdeal.nD Cert.Ffn0KernelIdeal.τ).loc Cert.Ffn0KernelIdeal.main_arg3)
      ∧ m' ((c.tc : Thread Cert.Ffn0ReferenceIdeal.nD Cert.Ffn0ReferenceIdeal.τ).loc Cert.Ffn0ReferenceIdeal.main_arg4) = m ((c.tc : Thread Cert.Ffn0KernelIdeal.nD Cert.Ffn0KernelIdeal.τ).loc Cert.Ffn0KernelIdeal.main_arg4)
      ∧ m' ((c.tc : Thread Cert.Ffn0ReferenceIdeal.nD Cert.Ffn0ReferenceIdeal.τ).loc Cert.Ffn0ReferenceIdeal.main_arg5) = m ((c.tc : Thread Cert.Ffn0KernelIdeal.nD Cert.Ffn0KernelIdeal.τ).loc Cert.Ffn0KernelIdeal.main_arg5)) →
    ∃ (v0 : (c : Dev Cert.Ffn0KernelIdeal.nD) → Buf (Elt Ideal) ((c.tc : Thread Cert.Ffn0KernelIdeal.nD Cert.Ffn0KernelIdeal.τ).loc Cert.Ffn0KernelIdeal.main_v5)),
      θ_run (Cert.Ffn0KernelIdeal.defs (F := Ideal)) (onTc (τ := Cert.Ffn0KernelIdeal.τ) (Cert.Ffn0KernelIdeal.main (F := Ideal))) ⟨m, fun _ => 0, g⟩ (fun r => ∀ c : Dev Cert.Ffn0KernelIdeal.nD,
          r.2.mem ((c.tc : Thread Cert.Ffn0KernelIdeal.nD Cert.Ffn0KernelIdeal.τ).loc Cert.Ffn0KernelIdeal.main_v5) = v0 c
          ∧ r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
          ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
          ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
          ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
          ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
          ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v31) = v0 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1)
          ∧ r.2.mem ((c.tc : Thread Cert.Ffn0ReferenceIdeal.nD Cert.Ffn0ReferenceIdeal.τ).loc Cert.Ffn0ReferenceIdeal.main_arg2) = m' ((c.tc : Thread Cert.Ffn0ReferenceIdeal.nD Cert.Ffn0ReferenceIdeal.τ).loc Cert.Ffn0ReferenceIdeal.main_arg2)
          ∧ r.2.mem ((c.tc : Thread Cert.Ffn0ReferenceIdeal.nD Cert.Ffn0ReferenceIdeal.τ).loc Cert.Ffn0ReferenceIdeal.main_arg3) = m' ((c.tc : Thread Cert.Ffn0ReferenceIdeal.nD Cert.Ffn0ReferenceIdeal.τ).loc Cert.Ffn0ReferenceIdeal.main_arg3)
          ∧ r.2.mem ((c.tc : Thread Cert.Ffn0ReferenceIdeal.nD Cert.Ffn0ReferenceIdeal.τ).loc Cert.Ffn0ReferenceIdeal.main_arg4) = m' ((c.tc : Thread Cert.Ffn0ReferenceIdeal.nD Cert.Ffn0ReferenceIdeal.τ).loc Cert.Ffn0ReferenceIdeal.main_arg4)
          ∧ r.2.mem ((c.tc : Thread Cert.Ffn0ReferenceIdeal.nD Cert.Ffn0ReferenceIdeal.τ).loc Cert.Ffn0ReferenceIdeal.main_arg5) = m' ((c.tc : Thread Cert.Ffn0ReferenceIdeal.nD Cert.Ffn0ReferenceIdeal.τ).loc Cert.Ffn0ReferenceIdeal.main_arg5))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v12) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v7_0)) (v1 : (c : Dev Cert.ProjKernelIdeal.nD) → Buf (Elt Ideal) ((c.tc : Thread Cert.ProjKernelIdeal.nD Cert.ProjKernelIdeal.τ).loc Cert.ProjKernelIdeal.main_v7_1)) (v2 : (c : Dev Cert.ProjKernelIdeal.nD) → Buf (Elt Ideal) ((c.tc : Thread Cert.ProjKernelIdeal.nD Cert.ProjKernelIdeal.τ).loc Cert.ProjKernelIdeal.main_v7_2)) (v3 : (c : Dev Cert.ProjKernelIdeal.nD) → Buf (Elt Ideal) ((c.tc : Thread Cert.ProjKernelIdeal.nD Cert.ProjKernelIdeal.τ).loc Cert.ProjKernelIdeal.main_v7_3)) (v4 : (c : Dev Cert.ProjKernelIdeal.nD) → Buf (Elt Ideal) ((c.tc : Thread Cert.ProjKernelIdeal.nD Cert.ProjKernelIdeal.τ).loc Cert.ProjKernelIdeal.main_v7_4)) (v5 : (c : Dev Cert.ProjKernelIdeal.nD) → Buf (Elt Ideal) ((c.tc : Thread Cert.ProjKernelIdeal.nD Cert.ProjKernelIdeal.τ).loc Cert.ProjKernelIdeal.main_v7_5)) (v6 : (c : Dev Cert.ProjKernelIdeal.nD) → Buf (Elt Ideal) ((c.tc : Thread Cert.ProjKernelIdeal.nD Cert.ProjKernelIdeal.τ).loc Cert.ProjKernelIdeal.main_v7_6)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v7_0) = v0 c
          ∧ r.2.mem ((c.tc : Thread Cert.ProjKernelIdeal.nD Cert.ProjKernelIdeal.τ).loc Cert.ProjKernelIdeal.main_v7_1) = v1 c
          ∧ r.2.mem ((c.tc : Thread Cert.ProjKernelIdeal.nD Cert.ProjKernelIdeal.τ).loc Cert.ProjKernelIdeal.main_v7_2) = v2 c
          ∧ r.2.mem ((c.tc : Thread Cert.ProjKernelIdeal.nD Cert.ProjKernelIdeal.τ).loc Cert.ProjKernelIdeal.main_v7_3) = v3 c
          ∧ r.2.mem ((c.tc : Thread Cert.ProjKernelIdeal.nD Cert.ProjKernelIdeal.τ).loc Cert.ProjKernelIdeal.main_v7_4) = v4 c
          ∧ r.2.mem ((c.tc : Thread Cert.ProjKernelIdeal.nD Cert.ProjKernelIdeal.τ).loc Cert.ProjKernelIdeal.main_v7_5) = v5 c
          ∧ r.2.mem ((c.tc : Thread Cert.ProjKernelIdeal.nD Cert.ProjKernelIdeal.τ).loc Cert.ProjKernelIdeal.main_v7_6) = v6 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v19) = v1 c
          ∧ r.2.mem ((c.tc : Thread Cert.ProjReferenceIdeal.nD Cert.ProjReferenceIdeal.τ).loc Cert.ProjReferenceIdeal.main_v22) = v2 c
          ∧ r.2.mem ((c.tc : Thread Cert.ProjReferenceIdeal.nD Cert.ProjReferenceIdeal.τ).loc Cert.ProjReferenceIdeal.main_v25) = v3 c
          ∧ r.2.mem ((c.tc : Thread Cert.ProjReferenceIdeal.nD Cert.ProjReferenceIdeal.τ).loc Cert.ProjReferenceIdeal.main_v28) = v4 c
          ∧ r.2.mem ((c.tc : Thread Cert.ProjReferenceIdeal.nD Cert.ProjReferenceIdeal.τ).loc Cert.ProjReferenceIdeal.main_v31) = v5 c
          ∧ r.2.mem ((c.tc : Thread Cert.ProjReferenceIdeal.nD Cert.ProjReferenceIdeal.τ).loc Cert.ProjReferenceIdeal.main_v33) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)
      ∧ m' ((c.tc : Thread Cert.ConvReferenceIdeal.nD Cert.ConvReferenceIdeal.τ).loc Cert.ConvReferenceIdeal.main_arg7) = m ((c.tc : Thread Cert.ConvKernelIdeal.nD Cert.ConvKernelIdeal.τ).loc Cert.ConvKernelIdeal.main_arg7)
      ∧ m' ((c.tc : Thread Cert.ConvReferenceIdeal.nD Cert.ConvReferenceIdeal.τ).loc Cert.ConvReferenceIdeal.main_arg8) = m ((c.tc : Thread Cert.ConvKernelIdeal.nD Cert.ConvKernelIdeal.τ).loc Cert.ConvKernelIdeal.main_arg8)
      ∧ m' ((c.tc : Thread Cert.ConvReferenceIdeal.nD Cert.ConvReferenceIdeal.τ).loc Cert.ConvReferenceIdeal.main_arg9) = m ((c.tc : Thread Cert.ConvKernelIdeal.nD Cert.ConvKernelIdeal.τ).loc Cert.ConvKernelIdeal.main_arg9)) →
    ∃ (v0 : (c : Dev Cert.ConvKernelIdeal.nD) → Buf (Elt Ideal) ((c.tc : Thread Cert.ConvKernelIdeal.nD Cert.ConvKernelIdeal.τ).loc Cert.ConvKernelIdeal.main_v10)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
          ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7)
          ∧ r.2.mem ((c.tc : Thread Cert.ConvKernelIdeal.nD Cert.ConvKernelIdeal.τ).loc Cert.ConvKernelIdeal.main_arg8) = m ((c.tc : Thread Cert.ConvKernelIdeal.nD Cert.ConvKernelIdeal.τ).loc Cert.ConvKernelIdeal.main_arg8)
          ∧ r.2.mem ((c.tc : Thread Cert.ConvKernelIdeal.nD Cert.ConvKernelIdeal.τ).loc Cert.ConvKernelIdeal.main_arg9) = m ((c.tc : Thread Cert.ConvKernelIdeal.nD Cert.ConvKernelIdeal.τ).loc Cert.ConvKernelIdeal.main_arg9))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v279) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8)
          ∧ r.2.mem ((c.tc : Thread Cert.ConvReferenceIdeal.nD Cert.ConvReferenceIdeal.τ).loc Cert.ConvReferenceIdeal.main_arg9) = m' ((c.tc : Thread Cert.ConvReferenceIdeal.nD Cert.ConvReferenceIdeal.τ).loc Cert.ConvReferenceIdeal.main_arg9))

def Claim : Prop :=
  ∃ (hKernel : Cert.Kernel.Facts) (hFfnKernel : Cert.FfnKernel.Facts) (hFfnKernelIdeal : Cert.FfnKernelIdeal.Facts) (hFfnReferenceIdeal : Cert.FfnReferenceIdeal.Facts) (hFfn0Kernel : Cert.Ffn0Kernel.Facts) (hFfn0KernelIdeal : Cert.Ffn0KernelIdeal.Facts) (hFfn0ReferenceIdeal : Cert.Ffn0ReferenceIdeal.Facts) (hGluKernel : Cert.GluKernel.Facts) (hGluKernelIdeal : Cert.GluKernelIdeal.Facts) (hGluReferenceIdeal : Cert.GluReferenceIdeal.Facts) (hProjKernel : Cert.ProjKernel.Facts) (hProjKernelIdeal : Cert.ProjKernelIdeal.Facts) (hProjReferenceIdeal : Cert.ProjReferenceIdeal.Facts) (hConvKernel : Cert.ConvKernel.Facts) (hConvKernelIdeal : Cert.ConvKernelIdeal.Facts) (hConvReferenceIdeal : Cert.ConvReferenceIdeal.Facts),
    quiescent_Kernel (hKernel := hKernel)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_Ffn0Kernel (hFfn0Kernel := hFfn0Kernel)
    ∧ quiescent_Ffn0KernelIdeal (hFfn0KernelIdeal := hFfn0KernelIdeal)
    ∧ quiescent_Ffn0ReferenceIdeal (hFfn0ReferenceIdeal := hFfn0ReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_Ffn0Kernel_Ffn0KernelIdeal
    ∧ algebraic_Ffn0KernelIdeal_Ffn0ReferenceIdeal (hFfn0KernelIdeal := hFfn0KernelIdeal) (hFfn0ReferenceIdeal := hFfn0ReferenceIdeal)
    ∧ preserves_GluKernel_GluKernelIdeal
    ∧ algebraic_GluKernelIdeal_GluReferenceIdeal (hGluKernelIdeal := hGluKernelIdeal) (hGluReferenceIdeal := hGluReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_ConvKernel_ConvKernelIdeal
    ∧ algebraic_ConvKernelIdeal_ConvReferenceIdeal (hConvKernelIdeal := hConvKernelIdeal) (hConvReferenceIdeal := hConvReferenceIdeal)
-- ==== Kernel.lean ====
abbrev S16x2176x1024 : Shape := ⟨3, ![16, 2176, 1024]⟩
abbrev S16x2176x512 : Shape := ⟨3, ![16, 2176, 512]⟩
abbrev S16x2176x128 : Shape := ⟨3, ![16, 2176, 128]⟩
abbrev S16x2176x8 : Shape := ⟨3, ![16, 2176, 8]⟩
abbrev S8x3x128x256 : Shape := ⟨4, ![8, 3, 128, 256]⟩
abbrev S1024x1024 : Shape := ⟨2, ![1024, 1024]⟩
abbrev S1024 : Shape := ⟨1, ![1024]⟩
abbrev S16x8x2176 : Shape := ⟨3, ![16, 8, 2176]⟩
abbrev S1x1024 : Shape := ⟨2, ![1, 1024]⟩
abbrev S16x17x128x1024 : Shape := ⟨4, ![16, 17, 128, 1024]⟩
abbrev S16x17x128x128 : Shape := ⟨4, ![16, 17, 128, 128]⟩
abbrev S1x128x1024 : Shape := ⟨3, ![1, 128, 1024]⟩
abbrev S1x17x128x1024 : Shape := ⟨4, ![1, 17, 128, 1024]⟩
abbrev S1x128x512 : Shape := ⟨3, ![1, 128, 512]⟩
abbrev S1x17x128x128 : Shape := ⟨4, ![1, 17, 128, 128]⟩
abbrev S1x8x128 : Shape := ⟨3, ![1, 8, 128]⟩
abbrev S1x512x1024 : Shape := ⟨3, ![1, 512, 1024]⟩
abbrev S18x128x128 : Shape := ⟨3, ![18, 128, 128]⟩
abbrev S1024x128 : Shape := ⟨2, ![1024, 128]⟩
abbrev S18x128x256 : Shape := ⟨3, ![18, 128, 256]⟩
abbrev S128x256 : Shape := ⟨2, ![128, 256]⟩
abbrev S128x128 : Shape := ⟨2, ![128, 128]⟩
abbrev S1x128x128 : Shape := ⟨3, ![1, 128, 128]⟩
abbrev S8x128 : Shape := ⟨2, ![8, 128]⟩
abbrev S1x1x128x128 : Shape := ⟨4, ![1, 1, 128, 128]⟩
abbrev S128x1024 : Shape := ⟨2, ![128, 1024]⟩
abbrev S1x128 : Shape := ⟨2, ![1, 128]⟩
abbrev S16x8x128 : Shape := ⟨3, ![16, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x128 : Shape := ⟨2, ![256, 128]⟩
abbrev S8x256 : Shape := ⟨2, ![8, 256]⟩
abbrev S1x1x128x256 : Shape := ⟨4, ![1, 1, 128, 256]⟩
abbrev S1x128x256 : Shape := ⟨3, ![1, 128, 256]⟩
abbrev S16x8x256 : Shape := ⟨3, ![16, 8, 256]⟩
abbrev S256 : Shape := ⟨1, ![256]⟩
abbrev S1x256 : Shape := ⟨2, ![1, 256]⟩
abbrev S768x256 : Shape := ⟨2, ![768, 256]⟩
abbrev S768x128 : Shape := ⟨2, ![768, 128]⟩
abbrev S64x128 : Shape := ⟨2, ![64, 128]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 41
  | .smem => 0
  | _ => 0

abbrev bufTy : (tb : Table) → Fin (tcTables nBuf tb) → BufTy
  | .hbm, ⟨0, _⟩ => ⟨S16x2176x1024, .f32⟩
  | .hbm, ⟨1, _⟩ => ⟨S16x2176x1024, .bf16⟩
  | .hbm, ⟨2, _⟩ => ⟨S16x2176x1024, .bf16⟩
  | .hbm, ⟨3, _⟩ => ⟨S16x2176x1024, .bf16⟩
  | .hbm, ⟨4, _⟩ => ⟨S16x2176x512, .bf16⟩
  | .hbm, ⟨5, _⟩ => ⟨S16x2176x128, .bf16⟩
  | .hbm, ⟨6, _⟩ => ⟨S16x2176x8, .f32⟩
  | .hbm, ⟨7, _⟩ => ⟨S8x3x128x256, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16x8x2176, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16x17x128x1024, .bf16⟩
  | .hbm, ⟨16, _⟩ => ⟨S16x17x128x1024, .bf16⟩
  | .hbm, ⟨17, _⟩ => ⟨S16x17x128x128, .bf16⟩
  | .hbm, ⟨18, _⟩ => ⟨S16x2176x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x17x128x1024, .bf16⟩
  | .local _ .vmem, ⟨3, _⟩ => ⟨S1x17x128x1024, .bf16⟩
  | .local _ .vmem, ⟨4, _⟩ => ⟨S1x17x128x1024, .bf16⟩
  | .local _ .vmem, ⟨5, _⟩ => ⟨S1x17x128x1024, .bf16⟩
  | .local _ .vmem, ⟨6, _⟩ => ⟨S1x128x512, .bf16⟩
  | .local _ .vmem, ⟨7, _⟩ => ⟨S1x128x512, .bf16⟩
  | .local _ .vmem, ⟨8, _⟩ => ⟨S1x17x128x128, .bf16⟩
  | .local _ .vmem, ⟨9, _⟩ => ⟨S1x17x128x128, .bf16⟩
  | .local _ .vmem, ⟨10, _⟩ => ⟨S1x8x128, .f32⟩
  | .local _ .vmem, ⟨11, _⟩ => ⟨S1x8x128, .f32⟩
  | .local _ .vmem, ⟨12, _⟩ => ⟨S8x3x128x256, .f32⟩
  | .local _ .vmem, ⟨13, _⟩ => ⟨S1x512x1024, .f32⟩
  | .local _ .vmem, ⟨14, _⟩ => ⟨S1x512x1024, .f32⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S18x128x128, .i32⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S18x128x256, .f32⟩
  | .local _ .vmem, ⟨26, _⟩ => ⟨S18x128x256, .f32⟩
  | .local _ .vmem, ⟨27, _⟩ => ⟨S18x128x256, .f32⟩
  | .local _ .vmem, ⟨28, _⟩ => ⟨S18x128x256, .f32⟩
  | .local _ .vmem, ⟨29, _⟩ => ⟨S18x128x256, .f32⟩
  | .local _ .vmem, ⟨30, _⟩ => ⟨S18x128x256, .f32⟩
  | .local _ .vmem, ⟨31, _⟩ => ⟨S18x128x256, .f32⟩
  | .local _ .vmem, ⟨32, _⟩ => ⟨S18x128x256, .f32⟩
  | .local _ .vmem, ⟨33, _⟩ => ⟨S128x256, .f32⟩
  | .local _ .vmem, ⟨34, _⟩ => ⟨S128x256, .f32⟩
  | .local _ .vmem, ⟨35, _⟩ => ⟨S128x256, .f32⟩
  | .local _ .vmem, ⟨36, _⟩ => ⟨S128x256, .f32⟩
  | .local _ .vmem, ⟨37, _⟩ => ⟨S128x256, .f32⟩
  | .local _ .vmem, ⟨38, _⟩ => ⟨S128x256, .f32⟩
  | .local _ .vmem, ⟨39, _⟩ => ⟨S128x256, .f32⟩
  | .local _ .vmem, ⟨40, _⟩ => ⟨S128x256, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_scratch14 : Ref sig .tc := ⟨.vmem, 34, rfl⟩
abbrev cc0_scratch15 : Ref sig .tc := ⟨.vmem, 35, rfl⟩
abbrev cc0_scratch16 : Ref sig .tc := ⟨.vmem, 36, rfl⟩
abbrev cc0_scratch17 : Ref sig .tc := ⟨.vmem, 37, rfl⟩
abbrev cc0_scratch18 : Ref sig .tc := ⟨.vmem, 38, rfl⟩
abbrev cc0_scratch19 : Ref sig .tc := ⟨.vmem, 39, rfl⟩
abbrev cc0_scratch20 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![16, 17], ![false, false]⟩

@[reducible] def k0_t1_loop (i : grid0.Coords) : Scf.Loop 32 :=
  let c0_i32_42 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v67 : BitVec 32 := Scalar.subi v19 c0_i32_42
  let c1_i32_43 : BitVec 32 := 1#32
  let v69 : BitVec 32 := Scalar.divsi v67 c1_i32_43
  let v70 : BitVec 32 := Scalar.muli v69 c1_i32_43
  let v71 : BitVec 32 := Scalar.addi c0_i32_42 v70
  let c1_i32_44 : BitVec 32 := 1#32
  ⟨c0_i32_42, v71, c1_i32_44⟩
def k0_off1 (i : grid0.Coords) (k0_t1 : Fin (k0_t1_loop i).trips) (c0_i32_231 : BitVec 32) : Fin 4 → Nat :=
  let c0_257 : Index := 0#32
  let c6_i32_230 : BitVec 32 := 6#32
  let c0_i32_42 : BitVec 32 := 0#32
  let c1_i32_44 : BitVec 32 := 1#32
  let arg35 : BitVec 32 := Scf.iv c0_i32_42 c1_i32_44 k0_t1
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v422 : Index := Scalar.indexCast v396
  let c0_258 : Index := 0#32
  let c0_259 : Index := 0#32
  ![0, v422.toNat, 0, 0]
def k0_off2 (i : grid0.Coords) (k0_t1 : Fin (k0_t1_loop i).trips) (c0_i32_229 : BitVec 32) : Fin 3 → Nat :=
  let c6_i32_228 : BitVec 32 := 6#32
  let c0_i32_42 : BitVec 32 := 0#32
  let c1_i32_44 : BitVec 32 := 1#32
  let arg35 : BitVec 32 := Scf.iv c0_i32_42 c1_i32_44 k0_t1
  let v392 : BitVec 32 := Scalar.muli c6_i32_228 arg35
  let v393 : BitVec 32 := Scalar.addi v392 c0_i32_229
  let v495 : Index := Scalar.indexCast v393
  let c0_272 : Index := 0#32
  let c0_273 : Index := 0#32
  ![v495.toNat, 0, 0]
@[reducible] def k0_t2_loop (i : grid0.Coords) : Scf.Loop 32 :=
  let c0_i32_42 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v67 : BitVec 32 := Scalar.subi v19 c0_i32_42
  let c1_i32_43 : BitVec 32 := 1#32
  let v69 : BitVec 32 := Scalar.divsi v67 c1_i32_43
  let v70 : BitVec 32 := Scalar.muli v69 c1_i32_43
  let v71 : BitVec 32 := Scalar.addi c0_i32_42 v70
  let v68 : BitVec 32 := Scalar.addi c0_i32_42 v67
  let c1_i32_45 : BitVec 32 := 1#32
  ⟨v71, v68, c1_i32_45⟩
def k0_off3 (i : grid0.Coords) (k0_t2 : Fin (k0_t2_loop i).trips) (c0_i32_231 : BitVec 32) : Fin 4 → Nat :=
  let c0_257 : Index := 0#32
  let c6_i32_230 : BitVec 32 := 6#32
  let c0_i32_42 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v67 : BitVec 32 := Scalar.subi v19 c0_i32_42
  let c1_i32_43 : BitVec 32 := 1#32
  let v69 : BitVec 32 := Scalar.divsi v67 c1_i32_43
  let v70 : BitVec 32 := Scalar.muli v69 c1_i32_43
  let v71 : BitVec 32 := Scalar.addi c0_i32_42 v70
  let c1_i32_45 : BitVec 32 := 1#32
  let arg35 : BitVec 32 := Scf.iv v71 c1_i32_45 k0_t2
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v422 : Index := Scalar.indexCast v396
  let c0_258 : Index := 0#32
  let c0_259 : Index := 0#32
  ![0, v422.toNat, 0, 0]
def k0_off4 (i : grid0.Coords) (k0_t2 : Fin (k0_t2_loop i).trips) (c0_i32_229 : BitVec 32) : Fin 3 → Nat :=
  let c6_i32_228 : BitVec 32 := 6#32
  let c0_i32_42 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v67 : BitVec 32 := Scalar.subi v19 c0_i32_42
  let c1_i32_43 : BitVec 32 := 1#32
  let v69 : BitVec 32 := Scalar.divsi v67 c1_i32_43
  let v70 : BitVec 32 := Scalar.muli v69 c1_i32_43
  let v71 : BitVec 32 := Scalar.addi c0_i32_42 v70
  let c1_i32_45 : BitVec 32 := 1#32
  let arg35 : BitVec 32 := Scf.iv v71 c1_i32_45 k0_t2
  let v392 : BitVec 32 := Scalar.muli c6_i32_228 arg35
  let v393 : BitVec 32 := Scalar.addi v392 c0_i32_229
  let v495 : Index := Scalar.indexCast v393
  let c0_272 : Index := 0#32
  let c0_273 : Index := 0#32
  ![v495.toNat, 0, 0]
def k0_cond1 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c0_i32_51 : BitVec 32 := 0#32
  let v79 : BitVec 1 := Scalar.cmpi .ne v78 c0_i32_51
  v79

def k0_cond2 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c0_i32_229 : BitVec 32 := 0#32
  let v393 : BitVec 1 := Scalar.cmpi .ne v392 c0_i32_229
  v393

def k0_cond3 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c0_i32_231 : BitVec 32 := 0#32
  let v396 : BitVec 1 := Scalar.cmpi .ne v395 c0_i32_231
  v396

def k0_cond4 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c0_i32_233 : BitVec 32 := 0#32
  let v399 : BitVec 1 := Scalar.cmpi .ne v398 c0_i32_233
  v399

def k0_cond5 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c0_i32_235 : BitVec 32 := 0#32
  let v402 : BitVec 1 := Scalar.cmpi .ne v401 c0_i32_235
  v402

def k0_cond6 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c0_i32_237 : BitVec 32 := 0#32
  let v405 : BitVec 1 := Scalar.cmpi .ne v404 c0_i32_237
  v405

def k0_cond7 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c0_i32_239 : BitVec 32 := 0#32
  let v408 : BitVec 1 := Scalar.cmpi .ne v407 c0_i32_239
  v408

def k0_cond8 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c0_i32_241 : BitVec 32 := 0#32
  let v411 : BitVec 1 := Scalar.cmpi .ne v410 c0_i32_241
  v411

def k0_cond9 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c0_i32_243 : BitVec 32 := 0#32
  let v414 : BitVec 1 := Scalar.cmpi .ne v413 c0_i32_243
  v414

def k0_cond10 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c0_i32_245 : BitVec 32 := 0#32
  let v417 : BitVec 1 := Scalar.cmpi .ne v416 c0_i32_245
  v417

def k0_cond11 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c1_i32_246 : BitVec 32 := 1#32
  let v419 : BitVec 32 := Scalar.subi v416 c1_i32_246
  let c0_i32_247 : BitVec 32 := 0#32
  let v420 : BitVec 1 := Scalar.cmpi .ne v419 c0_i32_247
  v420

def k0_cond12 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c1_i32_246 : BitVec 32 := 1#32
  let v419 : BitVec 32 := Scalar.subi v416 c1_i32_246
  let c1_i32_248 : BitVec 32 := 1#32
  let v422 : BitVec 32 := Scalar.subi v419 c1_i32_248
  let c0_i32_249 : BitVec 32 := 0#32
  let v423 : BitVec 1 := Scalar.cmpi .ne v422 c0_i32_249
  v423

def k0_cond13 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c1_i32_246 : BitVec 32 := 1#32
  let v419 : BitVec 32 := Scalar.subi v416 c1_i32_246
  let c1_i32_248 : BitVec 32 := 1#32
  let v422 : BitVec 32 := Scalar.subi v419 c1_i32_248
  let c1_i32_250 : BitVec 32 := 1#32
  let v425 : BitVec 32 := Scalar.subi v422 c1_i32_250
  let c0_i32_251 : BitVec 32 := 0#32
  let v426 : BitVec 1 := Scalar.cmpi .ne v425 c0_i32_251
  v426

def k0_cond14 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c1_i32_246 : BitVec 32 := 1#32
  let v419 : BitVec 32 := Scalar.subi v416 c1_i32_246
  let c1_i32_248 : BitVec 32 := 1#32
  let v422 : BitVec 32 := Scalar.subi v419 c1_i32_248
  let c1_i32_250 : BitVec 32 := 1#32
  let v425 : BitVec 32 := Scalar.subi v422 c1_i32_250
  let c1_i32_252 : BitVec 32 := 1#32
  let v428 : BitVec 32 := Scalar.subi v425 c1_i32_252
  let c0_i32_253 : BitVec 32 := 0#32
  let v429 : BitVec 1 := Scalar.cmpi .ne v428 c0_i32_253
  v429

def k0_cond15 (i : grid0.Coords) : BitVec 1 :=
  let arg1 : BitVec 32 := BitVec.ofNat 32 (i 1).val
  let c128_i32 : BitVec 32 := 128#32
  let v20 : BitVec 32 := Scalar.muli arg1 c128_i32
  let c128_i32_46 : BitVec 32 := 128#32
  let v72 : BitVec 32 := Scalar.addi v20 c128_i32_46
  let c256_i32 : BitVec 32 := 256#32
  let v73 : BitVec 1 := Scalar.cmpi .sle v72 c256_i32
  let c0_i32_48 : BitVec 32 := 0#32
  let c1_i32 : BitVec 32 := 1#32
  let v0 : BitVec 32 := Scalar.addi arg1 c1_i32
  let c3_i32 : BitVec 32 := 3#32
  let v74 : BitVec 32 := Scalar.subi v0 c3_i32
  let c1_i32_47 : BitVec 32 := 1#32
  let v75 : BitVec 32 := Scalar.addi v74 c1_i32_47
  let v76 : BitVec 32 := Scalar.select v73 c0_i32_48 v75
  let c0_i32_49 : BitVec 32 := 0#32
  let v77 : BitVec 32 := Scalar.maxsi v76 c0_i32_49
  let c15_i32 : BitVec 32 := 15#32
  let v78 : BitVec 32 := Scalar.minsi v77 c15_i32
  let c1_i32_228 : BitVec 32 := 1#32
  let v392 : BitVec 32 := Scalar.subi v78 c1_i32_228
  let c1_i32_230 : BitVec 32 := 1#32
  let v395 : BitVec 32 := Scalar.subi v392 c1_i32_230
  let c1_i32_232 : BitVec 32 := 1#32
  let v398 : BitVec 32 := Scalar.subi v395 c1_i32_232
  let c1_i32_234 : BitVec 32 := 1#32
  let v401 : BitVec 32 := Scalar.subi v398 c1_i32_234
  let c1_i32_236 : BitVec 32 := 1#32
  let v404 : BitVec 32 := Scalar.subi v401 c1_i32_236
  let c1_i32_238 : BitVec 32 := 1#32
  let v407 : BitVec 32 := Scalar.subi v404 c1_i32_238
  let c1_i32_240 : BitVec 32 := 1#32
  let v410 : BitVec 32 := Scalar.subi v407 c1_i32_240
  let c1_i32_242 : BitVec 32 := 1#32
  let v413 : BitVec 32 := Scalar.subi v410 c1_i32_242
  let c1_i32_244 : BitVec 32 := 1#32
  let v416 : BitVec 32 := Scalar.subi v413 c1_i32_244
  let c1_i32_246 : BitVec 32 := 1#32
  let v419 : BitVec 32 := Scalar.subi v416 c1_i32_246
  let c1_i32_248 : BitVec 32 := 1#32
  let v422 : BitVec 32 := Scalar.subi v419 c1_i32_248
  let c1_i32_250 : BitVec 32 := 1#32
  let v425 : BitVec 32 := Scalar.subi v422 c1_i32_250
  let c1_i32_252 : BitVec 32 := 1#32
  let v428 : BitVec 32 := Scalar.subi v425 c1_i32_252
  let c1_i32_254 : BitVec 32 := 1#32
  let v431 : BitVec 32 := Scalar.subi v428 c1_i32_254
  let c0_i32_255 : BitVec 32 := 0#32
  let v432 : BitVec 1 := Scalar.cmpi .ne v431 c0_i32_255
  v432

@[reducible] def k0_t3_loop : Scf.Loop 32 :=
  let c0_i32_257 : BitVec 32 := 0#32
  let c32_i32 : BitVec 32 := 32#32
  let v435 : BitVec 32 := Scalar.addi c0_i32_257 c32_i32
  let c1_i32_258 : BitVec 32 := 1#32
  ⟨c0_i32_257, v435, c1_i32_258⟩
@[reducible] def k0_t4_loop : Scf.Loop 32 :=
  let c0_i32_257 : BitVec 32 := 0#32
  let c32_i32 : BitVec 32 := 32#32
  let v435 : BitVec 32 := Scalar.addi c0_i32_257 c32_i32
  let c1_i32_258 : BitVec 32 := 1#32
  ⟨c0_i32_257, v435, c1_i32_258⟩
@[reducible] def k0_t5_loop : Scf.Loop 32 :=
  let c0_i32_255 : BitVec 32 := 0#32
  let c32_i32 : BitVec 32 := 32#32
  let v432 : BitVec 32 := Scalar.addi c0_i32_255 c32_i32
  let c1_i32_256 : BitVec 32 := 1#32
  ⟨c0_i32_255, v432, c1_i32_256⟩
@[reducible] def k0_t6_loop : Scf.Loop 32 :=
  let c0_i32_253 : BitVec 32 := 0#32
  let c32_i32 : BitVec 32 := 32#32
  let v429 : BitVec 32 := Scalar.addi c0_i32_253 c32_i32
  let c1_i32_254 : BitVec 32 := 1#32
  ⟨c0_i32_253, v429, c1_i32_254⟩
@[reducible] def k0_t7_loop : Scf.Loop 32 :=
  let c0_i32_251 : BitVec 32 := 0#32
  let c32_i32 : BitVec 32 := 32#32
  let v426 : BitVec 32 := Scalar.addi c0_i32_251 c32_i32
  let c1_i32_252 : BitVec 32 := 1#32
  ⟨c0_i32_251, v426, c1_i32_252⟩
@[reducible] def k0_t8_loop : Scf.Loop 32 :=
  let c0_i32_249 : BitVec 32 := 0#32
  let c32_i32 : BitVec 32 := 32#32
  let v423 : BitVec 32 := Scalar.addi c0_i32_249 c32_i32
  let c1_i32_250 : BitVec 32 := 1#32
  ⟨c0_i32_249, v423, c1_i32_250⟩
@[reducible] def k0_t9_loop : Scf.Loop 32 :=
  let c0_i32_247 : BitVec 32 := 0#32
  let c32_i32 : BitVec 32 := 32#32
  let v420 : BitVec 32 := Scalar.addi c0_i32_247 c32_i32
  let c1_i32_248 : BitVec 32 := 1#32
  ⟨c0_i32_247, v420, c1_i32_248⟩
@[reducible] def k0_t10_loop : Scf.Loop 32 :=
  let c0_i32_245 : BitVec 32 := 0#32
  let c32_i32 : BitVec 32 := 32#32
  let v417 : BitVec 32 := Scalar.addi c0_i32_245 c32_i32
  let c1_i32_246 : BitVec 32 := 1#32
  ⟨c0_i32_245, v417, c1_i32_246⟩
@[reducible] def k0_t11_loop : Scf.Loop 32 :=
  let c0_i32_243 : BitVec 32 := 0#32
  let c32_i32 : BitVec 32 := 32#32
  let v414 : BitVec 32 := Scalar.addi c0_i32_243 c32_i32
  let c1_i32_244 : BitVec 32 := 1#32
  ⟨c0_i32_243, v414, c1_i32_244⟩
@[reducible] def k0_t12_loop : Scf.Loop 32 :=
  let c0_i32_241 : BitVec 32 := 0#32
  let c32_i32 : BitVec 32 := 32#32
  let v411 : BitVec 32 := Scalar.addi c0_i32_241 c32_i32
  let c1_i32_242 : BitVec 32 := 1#32
  ⟨c0_i32_241, v411, c1_i32_242⟩
@[reducible] def k0_t13_loop : Scf.Loop 32 :=
  let c0_i32_239 : BitVec 32 := 0#32
  let c32_i32 : BitVec 32 := 32#32
  let v408 : BitVec 32 := Scalar.addi c0_i32_239 c32_i32
  let c1_i32_240 : BitVec 32 := 1#32
  ⟨c0_i32_239, v408, c1_i32_240⟩
@[reducible] def k0_t14_loop : Scf.Loop 32 :=
  let c0_i32_237 : BitVec 32 := 0#32
  let c32_i32 : BitVec 32 := 32#32
  let v405 : BitVec 32 := Scalar.addi c0_i32_237 c32_i32
  let c1_i32_238 : BitVec 32 := 1#32
  ⟨c0_i32_237, v405, c1_i32_238⟩
@[reducible] def k0_t15_loop : Scf.Loop 32 :=
  let c0_i32_235 : BitVec 32 := 0#32
  let c32_i32 : BitVec 32 := 32#32
  let v402 : BitVec 32 := Scalar.addi c0_i32_235 c32_i32
  let c1_i32_236 : BitVec 32 := 1#32
  ⟨c0_i32_235, v402, c1_i32_236⟩
@[reducible] def k0_t16_loop : Scf.Loop 32 :=
  let c0_i32_233 : BitVec 32 := 0#32
  let c32_i32 : BitVec 32 := 32#32
  let v399 : BitVec 32 := Scalar.addi c0_i32_233 c32_i32
  let c1_i32_234 : BitVec 32 := 1#32
  ⟨c0_i32_233, v399, c1_i32_234⟩
@[reducible] def k0_t17_loop : Scf.Loop 32 :=
  let c0_i32_231 : BitVec 32 := 0#32
  let c32_i32 : BitVec 32 := 32#32
  let v396 : BitVec 32 := Scalar.addi c0_i32_231 c32_i32
  let c1_i32_232 : BitVec 32 := 1#32
  ⟨c0_i32_231, v396, c1_i32_232⟩
@[reducible] def k0_t18_loop : Scf.Loop 32 :=
  let c0_i32_229 : BitVec 32 := 0#32
  let c12_i32 : BitVec 32 := 12#32
  let v393 : BitVec 32 := Scalar.addi c0_i32_229 c12_i32
  let c1_i32_230 : BitVec 32 := 1#32
  ⟨c0_i32_229, v393, c1_i32_230⟩
@[reducible] def k0_t19_loop (i : grid0.Coords) : Scf.Loop 32 :=
  let c0_i32_234 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v400 : BitVec 32 := Scalar.subi v19 c0_i32_234
  let c1_i32_235 : BitVec 32 := 1#32
  let v402 : BitVec 32 := Scalar.divsi v400 c1_i32_235
  let v403 : BitVec 32 := Scalar.muli v402 c1_i32_235
  let v404 : BitVec 32 := Scalar.addi c0_i32_234 v403
  let c1_i32_236 : BitVec 32 := 1#32
  ⟨c0_i32_234, v404, c1_i32_236⟩
def k0_off5 (i : grid0.Coords) (k0_t19 : Fin (k0_t19_loop i).trips) (c0_i32_240 : BitVec 32) : Fin 3 → Nat :=
  let c6_i32_239 : BitVec 32 := 6#32
  let c0_i32_234 : BitVec 32 := 0#32
  let c1_i32_236 : BitVec 32 := 1#32
  let arg37 : BitVec 32 := Scf.iv c0_i32_234 c1_i32_236 k0_t19
  let v411 : BitVec 32 := Scalar.muli c6_i32_239 arg37
  let v412 : BitVec 32 := Scalar.addi v411 c0_i32_240
  let v441 : Index := Scalar.indexCast v412
  let c0_268 : Index := 0#32
  let c0_269 : Index := 0#32
  ![v441.toNat, 0, 0]
@[reducible] def k0_t20_loop (i : grid0.Coords) : Scf.Loop 32 :=
  let c0_i32_234 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v400 : BitVec 32 := Scalar.subi v19 c0_i32_234
  let c1_i32_235 : BitVec 32 := 1#32
  let v402 : BitVec 32 := Scalar.divsi v400 c1_i32_235
  let v403 : BitVec 32 := Scalar.muli v402 c1_i32_235
  let v404 : BitVec 32 := Scalar.addi c0_i32_234 v403
  let v401 : BitVec 32 := Scalar.addi c0_i32_234 v400
  let c1_i32_237 : BitVec 32 := 1#32
  ⟨v404, v401, c1_i32_237⟩
def k0_off6 (i : grid0.Coords) (k0_t20 : Fin (k0_t20_loop i).trips) (c0_i32_240 : BitVec 32) : Fin 3 → Nat :=
  let c6_i32_239 : BitVec 32 := 6#32
  let c0_i32_234 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v400 : BitVec 32 := Scalar.subi v19 c0_i32_234
  let c1_i32_235 : BitVec 32 := 1#32
  let v402 : BitVec 32 := Scalar.divsi v400 c1_i32_235
  let v403 : BitVec 32 := Scalar.muli v402 c1_i32_235
  let v404 : BitVec 32 := Scalar.addi c0_i32_234 v403
  let c1_i32_237 : BitVec 32 := 1#32
  let arg37 : BitVec 32 := Scf.iv v404 c1_i32_237 k0_t20
  let v411 : BitVec 32 := Scalar.muli c6_i32_239 arg37
  let v412 : BitVec 32 := Scalar.addi v411 c0_i32_240
  let v441 : Index := Scalar.indexCast v412
  let c0_268 : Index := 0#32
  let c0_269 : Index := 0#32
  ![v441.toNat, 0, 0]
@[reducible] def k0_t21_loop (i : grid0.Coords) : Scf.Loop 32 :=
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_121 : BitVec 32 := 1#32
  ⟨c0_i32_119, v193, c1_i32_121⟩
def k0_off7 (i : grid0.Coords) (k0_t21 : Fin (k0_t21_loop i).trips) (c0_i32_229 : BitVec 32) : Fin 3 → Nat :=
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let v422 : Index := Scalar.indexCast v393
  let c0_257 : Index := 0#32
  let c0_258 : Index := 0#32
  ![v422.toNat, 0, 0]
def k0_off8 (i : grid0.Coords) (k0_t21 : Fin (k0_t21_loop i).trips) (c0_i32_231 : BitVec 32) : Fin 4 → Nat :=
  let c0_265 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v447 : Index := Scalar.indexCast v396
  let c0_266 : Index := 0#32
  let c0_267 : Index := 0#32
  ![0, v447.toNat, 0, 0]
def k0_off9 (i : grid0.Coords) (k0_t21 : Fin (k0_t21_loop i).trips) (c0_i32_229 : BitVec 32) : Fin 4 → Nat :=
  let c0_269 : Index := 0#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v452 : Index := Scalar.indexCast v446
  let c0_270 : Index := 0#32
  let c0_271 : Index := 0#32
  ![0, v452.toNat, 0, 0]
def k0_off10 (i : grid0.Coords) (k0_t21 : Fin (k0_t21_loop i).trips) (c0_i32_229 : BitVec 32) : Fin 3 → Nat :=
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let v456 : Index := Scalar.indexCast v393
  let c0_272 : Index := 0#32
  let c0_273 : Index := 0#32
  ![v456.toNat, 0, 0]
def k0_off11 (i : grid0.Coords) (k0_t21 : Fin (k0_t21_loop i).trips) (c0_i32_231 : BitVec 32) : Fin 4 → Nat :=
  let c0_275 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v463 : Index := Scalar.indexCast v396
  let c0_276 : Index := 0#32
  let c128_277 : Index := 128#32
  ![0, v463.toNat, 0, 128]
def k0_off12 (i : grid0.Coords) (k0_t21 : Fin (k0_t21_loop i).trips) (c0_i32_229 : BitVec 32) : Fin 4 → Nat :=
  let c1 : Index := 1#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v468 : Index := Scalar.indexCast v446
  let c0_279 : Index := 0#32
  let c0_280 : Index := 0#32
  ![1, v468.toNat, 0, 0]
def k0_off13 (i : grid0.Coords) (k0_t21 : Fin (k0_t21_loop i).trips) (c0_i32_231 : BitVec 32) : Fin 4 → Nat :=
  let c0_284 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v479 : Index := Scalar.indexCast v396
  let c0_285 : Index := 0#32
  let c256_286 : Index := 256#32
  ![0, v479.toNat, 0, 256]
def k0_off14 (i : grid0.Coords) (k0_t21 : Fin (k0_t21_loop i).trips) (c0_i32_229 : BitVec 32) : Fin 4 → Nat :=
  let c2 : Index := 2#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v484 : Index := Scalar.indexCast v446
  let c0_288 : Index := 0#32
  let c0_289 : Index := 0#32
  ![2, v484.toNat, 0, 0]
def k0_off15 (i : grid0.Coords) (k0_t21 : Fin (k0_t21_loop i).trips) (c0_i32_231 : BitVec 32) : Fin 4 → Nat :=
  let c0_293 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v495 : Index := Scalar.indexCast v396
  let c0_294 : Index := 0#32
  let c384_295 : Index := 384#32
  ![0, v495.toNat, 0, 384]
def k0_off16 (i : grid0.Coords) (k0_t21 : Fin (k0_t21_loop i).trips) (c0_i32_229 : BitVec 32) : Fin 4 → Nat :=
  let c3 : Index := 3#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v500 : Index := Scalar.indexCast v446
  let c0_297 : Index := 0#32
  let c0_298 : Index := 0#32
  ![3, v500.toNat, 0, 0]
def k0_off17 (i : grid0.Coords) (k0_t21 : Fin (k0_t21_loop i).trips) (c0_i32_231 : BitVec 32) : Fin 4 → Nat :=
  let c0_302 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v511 : Index := Scalar.indexCast v396
  let c0_303 : Index := 0#32
  let c512_304 : Index := 512#32
  ![0, v511.toNat, 0, 512]
def k0_off18 (i : grid0.Coords) (k0_t21 : Fin (k0_t21_loop i).trips) (c0_i32_229 : BitVec 32) : Fin 4 → Nat :=
  let c4 : Index := 4#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v516 : Index := Scalar.indexCast v446
  let c0_306 : Index := 0#32
  let c0_307 : Index := 0#32
  ![4, v516.toNat, 0, 0]
def k0_off19 (i : grid0.Coords) (k0_t21 : Fin (k0_t21_loop i).trips) (c0_i32_231 : BitVec 32) : Fin 4 → Nat :=
  let c0_311 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v527 : Index := Scalar.indexCast v396
  let c0_312 : Index := 0#32
  let c640_313 : Index := 640#32
  ![0, v527.toNat, 0, 640]
def k0_off20 (i : grid0.Coords) (k0_t21 : Fin (k0_t21_loop i).trips) (c0_i32_229 : BitVec 32) : Fin 4 → Nat :=
  let c5 : Index := 5#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v532 : Index := Scalar.indexCast v446
  let c0_315 : Index := 0#32
  let c0_316 : Index := 0#32
  ![5, v532.toNat, 0, 0]
def k0_off21 (i : grid0.Coords) (k0_t21 : Fin (k0_t21_loop i).trips) (c0_i32_231 : BitVec 32) : Fin 4 → Nat :=
  let c0_320 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v543 : Index := Scalar.indexCast v396
  let c0_321 : Index := 0#32
  let c768_322 : Index := 768#32
  ![0, v543.toNat, 0, 768]
def k0_off22 (i : grid0.Coords) (k0_t21 : Fin (k0_t21_loop i).trips) (c0_i32_229 : BitVec 32) : Fin 4 → Nat :=
  let c6 : Index := 6#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v548 : Index := Scalar.indexCast v446
  let c0_324 : Index := 0#32
  let c0_325 : Index := 0#32
  ![6, v548.toNat, 0, 0]
def k0_off23 (i : grid0.Coords) (k0_t21 : Fin (k0_t21_loop i).trips) (c0_i32_231 : BitVec 32) : Fin 4 → Nat :=
  let c0_329 : Index := 0#32
  let c6_i32_230 : BitVec 32 := 6#32
  let c0_i32_119 : BitVec 32 := 0#32
  let c1_i32_121 : BitVec 32 := 1#32
  let arg35 : BitVec 32 := Scf.iv c0_i32_119 c1_i32_121 k0_t21
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v559 : Index := Scalar.indexCast v396
  let c0_330 : Index := 0#32
  let c896_331 : Index := 896#32
  ![0, v559.toNat, 0, 896]
def k0_off24 (i : grid0.Coords) (k0_t21 : Fin (k0_t21_loop i).trips) (c0_i32_229 : BitVec 32) : Fin 4 → Nat :=
  let c7 : Index := 7#32
  let c2_i32_264 : BitVec 32 := 2#32
  let c0_i32_263 : BitVec 32 := 0#32
  let c6_i32_228 : BitVec 32 := 6#32
  let c0_i32_119 : BitVec 32 := 0#32
  let c1_i32_121 : BitVec 32 := 1#32
  let arg35 : BitVec 32 := Scf.iv c0_i32_119 c1_i32_121 k0_t21
  let v392 : BitVec 32 := Scalar.muli c6_i32_228 arg35
  let v393 : BitVec 32 := Scalar.addi v392 c0_i32_229
  let arg1 : BitVec 32 := BitVec.ofNat 32 (i 1).val
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v564 : Index := Scalar.indexCast v446
  let c0_333 : Index := 0#32
  let c0_334 : Index := 0#32
  ![7, v564.toNat, 0, 0]
@[reducible] def k0_t22_loop (i : grid0.Coords) : Scf.Loop 32 :=
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let v190 : BitVec 32 := Scalar.addi c0_i32_119 v189
  let c1_i32_122 : BitVec 32 := 1#32
  ⟨v193, v190, c1_i32_122⟩
def k0_off25 (i : grid0.Coords) (k0_t22 : Fin (k0_t22_loop i).trips) (c0_i32_229 : BitVec 32) : Fin 3 → Nat :=
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let v422 : Index := Scalar.indexCast v393
  let c0_257 : Index := 0#32
  let c0_258 : Index := 0#32
  ![v422.toNat, 0, 0]
def k0_off26 (i : grid0.Coords) (k0_t22 : Fin (k0_t22_loop i).trips) (c0_i32_231 : BitVec 32) : Fin 4 → Nat :=
  let c0_265 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v447 : Index := Scalar.indexCast v396
  let c0_266 : Index := 0#32
  let c0_267 : Index := 0#32
  ![0, v447.toNat, 0, 0]
def k0_off27 (i : grid0.Coords) (k0_t22 : Fin (k0_t22_loop i).trips) (c0_i32_229 : BitVec 32) : Fin 4 → Nat :=
  let c0_269 : Index := 0#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v452 : Index := Scalar.indexCast v446
  let c0_270 : Index := 0#32
  let c0_271 : Index := 0#32
  ![0, v452.toNat, 0, 0]
def k0_off28 (i : grid0.Coords) (k0_t22 : Fin (k0_t22_loop i).trips) (c0_i32_229 : BitVec 32) : Fin 3 → Nat :=
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let v456 : Index := Scalar.indexCast v393
  let c0_272 : Index := 0#32
  let c0_273 : Index := 0#32
  ![v456.toNat, 0, 0]
def k0_off29 (i : grid0.Coords) (k0_t22 : Fin (k0_t22_loop i).trips) (c0_i32_231 : BitVec 32) : Fin 4 → Nat :=
  let c0_275 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v463 : Index := Scalar.indexCast v396
  let c0_276 : Index := 0#32
  let c128_277 : Index := 128#32
  ![0, v463.toNat, 0, 128]
def k0_off30 (i : grid0.Coords) (k0_t22 : Fin (k0_t22_loop i).trips) (c0_i32_229 : BitVec 32) : Fin 4 → Nat :=
  let c1 : Index := 1#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v468 : Index := Scalar.indexCast v446
  let c0_279 : Index := 0#32
  let c0_280 : Index := 0#32
  ![1, v468.toNat, 0, 0]
def k0_off31 (i : grid0.Coords) (k0_t22 : Fin (k0_t22_loop i).trips) (c0_i32_231 : BitVec 32) : Fin 4 → Nat :=
  let c0_284 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v479 : Index := Scalar.indexCast v396
  let c0_285 : Index := 0#32
  let c256_286 : Index := 256#32
  ![0, v479.toNat, 0, 256]
def k0_off32 (i : grid0.Coords) (k0_t22 : Fin (k0_t22_loop i).trips) (c0_i32_229 : BitVec 32) : Fin 4 → Nat :=
  let c2 : Index := 2#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v484 : Index := Scalar.indexCast v446
  let c0_288 : Index := 0#32
  let c0_289 : Index := 0#32
  ![2, v484.toNat, 0, 0]
def k0_off33 (i : grid0.Coords) (k0_t22 : Fin (k0_t22_loop i).trips) (c0_i32_231 : BitVec 32) : Fin 4 → Nat :=
  let c0_293 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v495 : Index := Scalar.indexCast v396
  let c0_294 : Index := 0#32
  let c384_295 : Index := 384#32
  ![0, v495.toNat, 0, 384]
def k0_off34 (i : grid0.Coords) (k0_t22 : Fin (k0_t22_loop i).trips) (c0_i32_229 : BitVec 32) : Fin 4 → Nat :=
  let c3 : Index := 3#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v500 : Index := Scalar.indexCast v446
  let c0_297 : Index := 0#32
  let c0_298 : Index := 0#32
  ![3, v500.toNat, 0, 0]
def k0_off35 (i : grid0.Coords) (k0_t22 : Fin (k0_t22_loop i).trips) (c0_i32_231 : BitVec 32) : Fin 4 → Nat :=
  let c0_302 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v511 : Index := Scalar.indexCast v396
  let c0_303 : Index := 0#32
  let c512_304 : Index := 512#32
  ![0, v511.toNat, 0, 512]
def k0_off36 (i : grid0.Coords) (k0_t22 : Fin (k0_t22_loop i).trips) (c0_i32_229 : BitVec 32) : Fin 4 → Nat :=
  let c4 : Index := 4#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v516 : Index := Scalar.indexCast v446
  let c0_306 : Index := 0#32
  let c0_307 : Index := 0#32
  ![4, v516.toNat, 0, 0]
def k0_off37 (i : grid0.Coords) (k0_t22 : Fin (k0_t22_loop i).trips) (c0_i32_231 : BitVec 32) : Fin 4 → Nat :=
  let c0_311 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v527 : Index := Scalar.indexCast v396
  let c0_312 : Index := 0#32
  let c640_313 : Index := 640#32
  ![0, v527.toNat, 0, 640]
def k0_off38 (i : grid0.Coords) (k0_t22 : Fin (k0_t22_loop i).trips) (c0_i32_229 : BitVec 32) : Fin 4 → Nat :=
  let c5 : Index := 5#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v532 : Index := Scalar.indexCast v446
  let c0_315 : Index := 0#32
  let c0_316 : Index := 0#32
  ![5, v532.toNat, 0, 0]
def k0_off39 (i : grid0.Coords) (k0_t22 : Fin (k0_t22_loop i).trips) (c0_i32_231 : BitVec 32) : Fin 4 → Nat :=
  let c0_320 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v543 : Index := Scalar.indexCast v396
  let c0_321 : Index := 0#32
  let c768_322 : Index := 768#32
  ![0, v543.toNat, 0, 768]
def k0_off40 (i : grid0.Coords) (k0_t22 : Fin (k0_t22_loop i).trips) (c0_i32_229 : BitVec 32) : Fin 4 → Nat :=
  let c6 : Index := 6#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v548 : Index := Scalar.indexCast v446
  let c0_324 : Index := 0#32
  let c0_325 : Index := 0#32
  ![6, v548.toNat, 0, 0]
def k0_off41 (i : grid0.Coords) (k0_t22 : Fin (k0_t22_loop i).trips) (c0_i32_231 : BitVec 32) : Fin 4 → Nat :=
  let c0_329 : Index := 0#32
  let c6_i32_230 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v559 : Index := Scalar.indexCast v396
  let c0_330 : Index := 0#32
  let c896_331 : Index := 896#32
  ![0, v559.toNat, 0, 896]
def k0_off42 (i : grid0.Coords) (k0_t22 : Fin (k0_t22_loop i).trips) (c0_i32_229 : BitVec 32) : Fin 4 → Nat :=
  let c7 : Index := 7#32
  let c2_i32_264 : BitVec 32 := 2#32
  let c0_i32_263 : BitVec 32 := 0#32
  let c6_i32_228 : BitVec 32 := 6#32
  let c0_i32_119 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v189 : BitVec 32 := Scalar.subi v19 c0_i32_119
  let c1_i32_120 : BitVec 32 := 1#32
  let v191 : BitVec 32 := Scalar.divsi v189 c1_i32_120
  let v192 : BitVec 32 := Scalar.muli v191 c1_i32_120
  let v193 : BitVec 32 := Scalar.addi c0_i32_119 v192
  let c1_i32_122 : BitVec 32 := 1#32
  let arg35 : BitVec 32 := Scf.iv v193 c1_i32_122 k0_t22
  let v392 : BitVec 32 := Scalar.muli c6_i32_228 arg35
  let v393 : BitVec 32 := Scalar.addi v392 c0_i32_229
  let c2_i32_262 : BitVec 32 := 2#32
  let v443 : BitVec 32 := Scalar.subi arg1 c2_i32_262
  let v444 : BitVec 32 := Scalar.subi v393 v443
  let v445 : BitVec 32 := Scalar.maxsi c0_i32_263 v444
  let v446 : BitVec 32 := Scalar.minsi c2_i32_264 v445
  let v564 : Index := Scalar.indexCast v446
  let c0_333 : Index := 0#32
  let c0_334 : Index := 0#32
  ![7, v564.toNat, 0, 0]
@[reducible] def k0_t23_loop (i : grid0.Coords) : Scf.Loop 32 :=
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_141 : BitVec 32 := 1#32
  ⟨c0_i32_139, v224, c1_i32_141⟩
def k0_off43 (i : grid0.Coords) (k0_t23 : Fin (k0_t23_loop i).trips) (c0_i32_229 : BitVec 32) : Fin 3 → Nat :=
  let c6_i32_228 : BitVec 32 := 6#32
  let c0_i32_139 : BitVec 32 := 0#32
  let c1_i32_141 : BitVec 32 := 1#32
  let arg35 : BitVec 32 := Scf.iv c0_i32_139 c1_i32_141 k0_t23
  let v392 : BitVec 32 := Scalar.muli c6_i32_228 arg35
  let v393 : BitVec 32 := Scalar.addi v392 c0_i32_229
  let v422 : Index := Scalar.indexCast v393
  let c0_257 : Index := 0#32
  let c0_258 : Index := 0#32
  ![v422.toNat, 0, 0]
def k0_off44 (i : grid0.Coords) (k0_t23 : Fin (k0_t23_loop i).trips) (c0_i32_231 : BitVec 32) : Fin 4 → Nat :=
  let c0_275 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v483 : Index := Scalar.indexCast v396
  let c0_276 : Index := 0#32
  let c0_277 : Index := 0#32
  ![0, v483.toNat, 0, 0]
def k0_off45 (i : grid0.Coords) (k0_t23 : Fin (k0_t23_loop i).trips) (c0_i32_231 : BitVec 32) : Fin 4 → Nat :=
  let c0_316 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v569 : Index := Scalar.indexCast v396
  let c0_317 : Index := 0#32
  let c128_318 : Index := 128#32
  ![0, v569.toNat, 0, 128]
def k0_off46 (i : grid0.Coords) (k0_t23 : Fin (k0_t23_loop i).trips) (c0_i32_231 : BitVec 32) : Fin 4 → Nat :=
  let c0_357 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v655 : Index := Scalar.indexCast v396
  let c0_358 : Index := 0#32
  let c256_359 : Index := 256#32
  ![0, v655.toNat, 0, 256]
def k0_off47 (i : grid0.Coords) (k0_t23 : Fin (k0_t23_loop i).trips) (c0_i32_231 : BitVec 32) : Fin 4 → Nat :=
  let c0_398 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v741 : Index := Scalar.indexCast v396
  let c0_399 : Index := 0#32
  let c384_400 : Index := 384#32
  ![0, v741.toNat, 0, 384]
def k0_off48 (i : grid0.Coords) (k0_t23 : Fin (k0_t23_loop i).trips) (c0_i32_231 : BitVec 32) : Fin 4 → Nat :=
  let c0_439 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v827 : Index := Scalar.indexCast v396
  let c0_440 : Index := 0#32
  let c512_441 : Index := 512#32
  ![0, v827.toNat, 0, 512]
def k0_off49 (i : grid0.Coords) (k0_t23 : Fin (k0_t23_loop i).trips) (c0_i32_231 : BitVec 32) : Fin 4 → Nat :=
  let c0_480 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v913 : Index := Scalar.indexCast v396
  let c0_481 : Index := 0#32
  let c640_482 : Index := 640#32
  ![0, v913.toNat, 0, 640]
def k0_off50 (i : grid0.Coords) (k0_t23 : Fin (k0_t23_loop i).trips) (c0_i32_231 : BitVec 32) : Fin 4 → Nat :=
  let c0_521 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v999 : Index := Scalar.indexCast v396
  let c0_522 : Index := 0#32
  let c768_523 : Index := 768#32
  ![0, v999.toNat, 0, 768]
def k0_off51 (i : grid0.Coords) (k0_t23 : Fin (k0_t23_loop i).trips) (c0_i32_231 : BitVec 32) : Fin 4 → Nat :=
  let c0_562 : Index := 0#32
  let c6_i32_230 : BitVec 32 := 6#32
  let c0_i32_139 : BitVec 32 := 0#32
  let c1_i32_141 : BitVec 32 := 1#32
  let arg35 : BitVec 32 := Scf.iv c0_i32_139 c1_i32_141 k0_t23
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v1085 : Index := Scalar.indexCast v396
  let c0_563 : Index := 0#32
  let c896_564 : Index := 896#32
  ![0, v1085.toNat, 0, 896]
@[reducible] def k0_t24_loop (i : grid0.Coords) : Scf.Loop 32 :=
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let v221 : BitVec 32 := Scalar.addi c0_i32_139 v220
  let c1_i32_142 : BitVec 32 := 1#32
  ⟨v224, v221, c1_i32_142⟩
def k0_off52 (i : grid0.Coords) (k0_t24 : Fin (k0_t24_loop i).trips) (c0_i32_229 : BitVec 32) : Fin 3 → Nat :=
  let c6_i32_228 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v392 : BitVec 32 := Scalar.muli c6_i32_228 arg35
  let v393 : BitVec 32 := Scalar.addi v392 c0_i32_229
  let v422 : Index := Scalar.indexCast v393
  let c0_257 : Index := 0#32
  let c0_258 : Index := 0#32
  ![v422.toNat, 0, 0]
def k0_off53 (i : grid0.Coords) (k0_t24 : Fin (k0_t24_loop i).trips) (c0_i32_231 : BitVec 32) : Fin 4 → Nat :=
  let c0_275 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v483 : Index := Scalar.indexCast v396
  let c0_276 : Index := 0#32
  let c0_277 : Index := 0#32
  ![0, v483.toNat, 0, 0]
def k0_off54 (i : grid0.Coords) (k0_t24 : Fin (k0_t24_loop i).trips) (c0_i32_231 : BitVec 32) : Fin 4 → Nat :=
  let c0_316 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v569 : Index := Scalar.indexCast v396
  let c0_317 : Index := 0#32
  let c128_318 : Index := 128#32
  ![0, v569.toNat, 0, 128]
def k0_off55 (i : grid0.Coords) (k0_t24 : Fin (k0_t24_loop i).trips) (c0_i32_231 : BitVec 32) : Fin 4 → Nat :=
  let c0_357 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v655 : Index := Scalar.indexCast v396
  let c0_358 : Index := 0#32
  let c256_359 : Index := 256#32
  ![0, v655.toNat, 0, 256]
def k0_off56 (i : grid0.Coords) (k0_t24 : Fin (k0_t24_loop i).trips) (c0_i32_231 : BitVec 32) : Fin 4 → Nat :=
  let c0_398 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v741 : Index := Scalar.indexCast v396
  let c0_399 : Index := 0#32
  let c384_400 : Index := 384#32
  ![0, v741.toNat, 0, 384]
def k0_off57 (i : grid0.Coords) (k0_t24 : Fin (k0_t24_loop i).trips) (c0_i32_231 : BitVec 32) : Fin 4 → Nat :=
  let c0_439 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v827 : Index := Scalar.indexCast v396
  let c0_440 : Index := 0#32
  let c512_441 : Index := 512#32
  ![0, v827.toNat, 0, 512]
def k0_off58 (i : grid0.Coords) (k0_t24 : Fin (k0_t24_loop i).trips) (c0_i32_231 : BitVec 32) : Fin 4 → Nat :=
  let c0_480 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v913 : Index := Scalar.indexCast v396
  let c0_481 : Index := 0#32
  let c640_482 : Index := 640#32
  ![0, v913.toNat, 0, 640]
def k0_off59 (i : grid0.Coords) (k0_t24 : Fin (k0_t24_loop i).trips) (c0_i32_231 : BitVec 32) : Fin 4 → Nat :=
  let c0_521 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v999 : Index := Scalar.indexCast v396
  let c0_522 : Index := 0#32
  let c768_523 : Index := 768#32
  ![0, v999.toNat, 0, 768]
def k0_off60 (i : grid0.Coords) (k0_t24 : Fin (k0_t24_loop i).trips) (c0_i32_231 : BitVec 32) : Fin 4 → Nat :=
  let c0_562 : Index := 0#32
  let c6_i32_230 : BitVec 32 := 6#32
  let c0_i32_139 : BitVec 32 := 0#32
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.addi v0 c6_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c6_i32_1 : BitVec 32 := 6#32
  let c0_i32_3 : BitVec 32 := 0#32
  let v9 : BitVec 1 := Scalar.cmpi .sgt c6_i32_1 c0_i32_3
  let v10 : BitVec 32 := Scalar.extui v9
  let c0_i32_4 : BitVec 32 := 0#32
  let v11 : BitVec 1 := Scalar.cmpi .slt c6_i32_1 c0_i32_4
  let v12 : BitVec 32 := Scalar.extui v11
  let v13 : BitVec 32 := Scalar.subi v10 v12
  let v14 : BitVec 1 := Scalar.cmpi .ne v8 v13
  let v15 : BitVec 32 := Scalar.remsi v2 c6_i32_1
  let c0_i32_5 : BitVec 32 := 0#32
  let v16 : BitVec 1 := Scalar.cmpi .ne v15 c0_i32_5
  let v17 : BitVec 1 := Scalar.andi v14 v16
  let v3 : BitVec 32 := Scalar.divsi v2 c6_i32_1
  let c1_i32_6 : BitVec 32 := 1#32
  let v18 : BitVec 32 := Scalar.subi v3 c1_i32_6
  let v19 : BitVec 32 := Scalar.select v17 v18 v3
  let v220 : BitVec 32 := Scalar.subi v19 c0_i32_139
  let c1_i32_140 : BitVec 32 := 1#32
  let v222 : BitVec 32 := Scalar.divsi v220 c1_i32_140
  let v223 : BitVec 32 := Scalar.muli v222 c1_i32_140
  let v224 : BitVec 32 := Scalar.addi c0_i32_139 v223
  let c1_i32_142 : BitVec 32 := 1#32
  let arg35 : BitVec 32 := Scf.iv v224 c1_i32_142 k0_t24
  let v394 : BitVec 32 := Scalar.muli c6_i32_230 arg35
  let v395 : BitVec 32 := Scalar.addi v394 c0_i32_231
  let c16_i32_232 : BitVec 32 := 16#32
  let v396 : BitVec 32 := Scalar.minsi v395 c16_i32_232
  let v1085 : Index := Scalar.indexCast v396
  let c0_563 : Index := 0#32
  let c896_564 : Index := 896#32
  ![0, v1085.toNat, 0, 896]
def k0_cond21 (i : grid0.Coords) : BitVec 1 :=
  let arg1 : BitVec 32 := BitVec.ofNat 32 (i 1).val
  let c4_i32_220 : BitVec 32 := 4#32
  let c0_i32_221 : BitVec 32 := 0#32
  let v377 : BitVec 1 := Scalar.cmpi .eq c4_i32_220 c0_i32_221
  let c1_i32_222 : BitVec 32 := 1#32
  let v378 : BitVec 32 := Scalar.select v377 c1_i32_222 c4_i32_220
  let v379 : BitVec 32 := Scalar.remsi arg1 v378
  let c0_i32_224 : BitVec 32 := 0#32
  let v381 : BitVec 1 := Scalar.cmpi .slt v379 c0_i32_224
  let c0_i32_225 : BitVec 32 := 0#32
  let v382 : BitVec 1 := Scalar.cmpi .slt v378 c0_i32_225
  let v383 : BitVec 1 := Scalar.xori v381 v382
  let c0_i32_223 : BitVec 32 := 0#32
  let v380 : BitVec 1 := Scalar.cmpi .ne v379 c0_i32_223
  let v384 : BitVec 1 := Scalar.andi v383 v380
  let v385 : BitVec 32 := Scalar.addi v379 v378
  let v386 : BitVec 32 := Scalar.select v384 v385 v379
  let c3_i32_226 : BitVec 32 := 3#32
  let v387 : BitVec 1 := Scalar.cmpi .eq v386 c3_i32_226
  let c16_i32 : BitVec 32 := 16#32
  let v388 : BitVec 1 := Scalar.cmpi .eq arg1 c16_i32
  let v389 : BitVec 1 := Scalar.ori v387 v388
  let v390 : BitVec 32 := Scalar.extui v389
  let c0_i32_227 : BitVec 32 := 0#32
  let v391 : BitVec 1 := Scalar.cmpi .ne v390 c0_i32_227
  v391

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x17x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x17x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x17x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x3x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnKernel.lean ====
abbrev S16x2048x1024 : Shape := ⟨3, ![16, 2048, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S16x2048x1024 : Shape := ⟨3, ![16, 2048, 1024]⟩
abbrev S1024x2816 : Shape := ⟨2, ![1024, 2816]⟩
abbrev S2816x1024 : Shape := ⟨2, ![2816, 1024]⟩
abbrev S1024 : Shape := ⟨1, ![1024]⟩
abbrev S16x2048x2816 : Shape := ⟨3, ![16, 2048, 2816]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16x2048x2816, .f32⟩
  | .hbm, ⟨7, _⟩ => ⟨S16x2048x2816, .f32⟩
  | .hbm, ⟨8, _⟩ => ⟨S16x2048x2816, .f32⟩
  | .hbm, ⟨9, _⟩ => ⟨S_, .f32⟩
  | .hbm, ⟨10, _⟩ => ⟨S16x2048x2816, .f32⟩
  | .hbm, ⟨11, _⟩ => ⟨S16x2048x2816, .f32⟩
  | .hbm, ⟨12, _⟩ => ⟨S_, .f32⟩
  | .hbm, ⟨13, _⟩ => ⟨S16x2048x2816, .f32⟩
  | .hbm, ⟨14, _⟩ => ⟨S16x2048x2816, .f32⟩
  | .hbm, ⟨15, _⟩ => ⟨S16x2048x2816, .f32⟩
  | .hbm, ⟨16, _⟩ => ⟨S16x2048x2816, .f32⟩
  | .hbm, ⟨17, _⟩ => ⟨S16x2048x2816, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Ffn0Kernel.lean ====
abbrev S16x2176x1024 : Shape := ⟨3, ![16, 2176, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x544x1024 : Shape := ⟨3, ![1, 544, 1024]⟩
abbrev S544x1024 : Shape := ⟨2, ![544, 1024]⟩
abbrev S544x2816 : Shape := ⟨2, ![544, 2816]⟩
abbrev S544 : Shape := ⟨1, ![544]⟩
abbrev S544x1 : Shape := ⟨2, ![544, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16x2176x1024, .f32⟩
  | .local _ .vmem, ⟨0, _⟩ => ⟨S1x544x1024, .f32⟩
  | .local _ .vmem, ⟨1, _⟩ => ⟨S1x544x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x544x1024, .f32⟩
  | .local _ .vmem, ⟨8, _⟩ => ⟨S1x544x1024, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn0ReferenceIdeal.lean ====
abbrev S16x2176x1024 : Shape := ⟨3, ![16, 2176, 1024]⟩
abbrev S1024x2816 : Shape := ⟨2, ![1024, 2816]⟩
abbrev S2816x1024 : Shape := ⟨2, ![2816, 1024]⟩
abbrev S1024 : Shape := ⟨1, ![1024]⟩
abbrev S16x2176x2816 : Shape := ⟨3, ![16, 2176, 2816]⟩
abbrev S_ : Shape := ⟨0, ![]⟩
abbrev S16x2176 : Shape := ⟨2, ![16, 2176]⟩
abbrev S16x2176x1 : Shape := ⟨3, ![16, 2176, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16x2176x2816, .f32⟩
  | .hbm, ⟨7, _⟩ => ⟨S16x2176x2816, .f32⟩
  | .hbm, ⟨8, _⟩ => ⟨S16x2176x2816, .f32⟩
  | .hbm, ⟨9, _⟩ => ⟨S_, .f32⟩
  | .hbm, ⟨10, _⟩ => ⟨S16x2176x2816, .f32⟩
  | .hbm, ⟨11, _⟩ => ⟨S16x2176x2816, .f32⟩
  | .hbm, ⟨12, _⟩ => ⟨S_, .f32⟩
  | .hbm, ⟨13, _⟩ => ⟨S16x2176x2816, .f32⟩
  | .hbm, ⟨14, _⟩ => ⟨S16x2176x2816, .f32⟩
  | .hbm, ⟨15, _⟩ => ⟨S16x2176x2816, .f32⟩
  | .hbm, ⟨16, _⟩ => ⟨S16x2176x2816, .f32⟩
  | .hbm, ⟨17, _⟩ => ⟨S16x2176x2816, .f32⟩
  | .hbm, ⟨18, _⟩ => ⟨S16x2176x1024, .f32⟩
  | .hbm, ⟨19, _⟩ => ⟨S_, .f32⟩
  | .hbm, ⟨20, _⟩ => ⟨S16x2176x1024, .f32⟩
  | .hbm, ⟨21, _⟩ => ⟨S16x2176x1024, .f32⟩
  | .hbm, ⟨22, _⟩ => ⟨S16x2176x1024, .f32⟩
  | .hbm, ⟨23, _⟩ => ⟨S_, .f32⟩
  | .hbm, ⟨24, _⟩ => ⟨S16x2176, .f32⟩
  | .hbm, ⟨25, _⟩ => ⟨S16x2176x1, .f32⟩
  | .hbm, ⟨26, _⟩ => ⟨S_, .f32⟩
  | .hbm, ⟨27, _⟩ => ⟨S16x2176x1, .f32⟩
  | .hbm, ⟨28, _⟩ => ⟨S16x2176x1, .f32⟩
  | .hbm, ⟨29, _⟩ => ⟨S16x2176x1024, .f32⟩
  | .hbm, ⟨30, _⟩ => ⟨S16x2176x1024, .f32⟩
  | .hbm, ⟨31, _⟩ => ⟨S16x2176x1024, .f32⟩
  | .hbm, ⟨32, _⟩ => ⟨S_, .f32⟩
  | .hbm, ⟨33, _⟩ => ⟨S16x2176, .f32⟩
  | .hbm, ⟨34, _⟩ => ⟨S16x2176x1, .f32⟩
  | .hbm, ⟨35, _⟩ => ⟨S_, .f32⟩
  | .hbm, ⟨36, _⟩ => ⟨S16x2176x1, .f32⟩
  | .hbm, ⟨37, _⟩ => ⟨S16x2176x1, .f32⟩
  | .hbm, ⟨38, _⟩ => ⟨S16x2176x1024, .f32⟩
  | .hbm, ⟨39, _⟩ => ⟨S16x2176x1024, .f32⟩
  | .hbm, ⟨40, _⟩ => ⟨S_, .f32⟩
  | .hbm, ⟨41, _⟩ => ⟨S16x2176x1, .f32⟩
  | .hbm, ⟨42, _⟩ => ⟨S16x2176x1, .f32⟩
  | .hbm, ⟨43, _⟩ => ⟨S16x2176x1, .f32⟩
  | .hbm, ⟨44, _⟩ => ⟨S16x2176x1024, .f32⟩
  | .hbm, ⟨45, _⟩ => ⟨S16x2176x1024, .f32⟩
  | .hbm, ⟨46, _⟩ => ⟨S1x1x1024, .f32⟩
  | .hbm, ⟨47, _⟩ => ⟨S16x2176x1024, .f32⟩
  | .hbm, ⟨48, _⟩ => ⟨S16x2176x1024, .f32⟩
  | .hbm, ⟨49, _⟩ => ⟨S1x1x1024, .f32⟩
  | .hbm, ⟨50, _⟩ => ⟨S16x2176x1024, .f32⟩
  | .hbm, ⟨51, _⟩ => ⟨S16x2176x1024, .f32⟩
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== GluKernel.lean ====
abbrev S34816x1024 : Shape := ⟨2, ![34816, 1024]⟩
abbrev S1024x2048 : Shape := ⟨2, ![1024, 2048]⟩
abbrev S2048 : Shape := ⟨1, ![2048]⟩
abbrev S1x2048 : Shape := ⟨2, ![1, 2048]⟩
abbrev S1088x1024 : Shape := ⟨2, ![1088, 1024]⟩
abbrev S1088x2048 : Shape := ⟨2, ![1088, 2048]⟩

abbrev nBuf : Space → Nat
  | .hbm => 6
  | .vmem => 6
  | .smem => 0
  | _ => 0

abbrev bufTy : (tb : Table) → Fin (tcTables nBuf tb) → BufTy
  | .hbm, ⟨0, _⟩ => ⟨S34816x1024, .f32⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1x2048, .f32⟩
  | .hbm, ⟨5, _⟩ => ⟨S34816x1024, .f32⟩
  | .local _ .vmem, ⟨0, _⟩ => ⟨S1088x1024, .f32⟩
  | .local _ .vmem, ⟨1, _⟩ => ⟨S1088x1024, .f32⟩
  | .local _ .vmem, ⟨2, _⟩ => ⟨S1024x2048, .bf16⟩
  | .local _ .vmem, ⟨3, _⟩ => ⟨S1x2048, .f32⟩
  | .local _ .vmem, ⟨4, _⟩ => ⟨S1088x1024, .f32⟩
  | .local _ .vmem, ⟨5, _⟩ => ⟨S1088x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluReferenceIdeal.lean ====
abbrev S34816x1024 : Shape := ⟨2, ![34816, 1024]⟩
abbrev S1024x2048 : Shape := ⟨2, ![1024, 2048]⟩
abbrev S2048 : Shape := ⟨1, ![2048]⟩
abbrev S34816x2048 : Shape := ⟨2, ![34816, 2048]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S1024x2048, .f32⟩
  | .hbm, ⟨2, _⟩ => ⟨S2048, .f32⟩
  | .hbm, ⟨3, _⟩ => ⟨S34816x2048, .f32⟩
  | .hbm, ⟨4, _⟩ => ⟨S1x2048, .f32⟩
  | .hbm, ⟨5, _⟩ => ⟨S34816x2048, .f32⟩
  | .hbm, ⟨6, _⟩ => ⟨S34816x2048, .f32⟩
  | .hbm, ⟨7, _⟩ => ⟨S34816x1024, .f32⟩
  | .hbm, ⟨8, _⟩ => ⟨S34816x1024, .f32⟩
  | .hbm, ⟨9, _⟩ => ⟨S34816x1024, .f32⟩
  | .hbm, ⟨10, _⟩ => ⟨S34816x1024, .f32⟩
  | .hbm, ⟨11, _⟩ => ⟨S_, .f32⟩
  | .hbm, ⟨12, _⟩ => ⟨S34816x1024, .f32⟩
  | .hbm, ⟨13, _⟩ => ⟨S34816x1024, .f32⟩
  | .hbm, ⟨14, _⟩ => ⟨S_, .f32⟩
  | .hbm, ⟨15, _⟩ => ⟨S34816x1024, .f32⟩
  | .hbm, ⟨16, _⟩ => ⟨S34816x1024, .f32⟩
  | .hbm, ⟨17, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjKernel.lean ====
abbrev S16x2048x1024 : Shape := ⟨3, ![16, 2048, 1024]⟩
abbrev S16x1024 : Shape := ⟨2, ![16, 1024]⟩
abbrev S1024x3656 : Shape := ⟨2, ![1024, 3656]⟩
abbrev S1024x3648 : Shape := ⟨2, ![1024, 3648]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x3840 : Shape := ⟨2, ![1024, 3840]⟩
abbrev S16x128x16x1024 : Shape := ⟨4, ![16, 128, 16, 1024]⟩
abbrev S16x2176x1024 : Shape := ⟨3, ![16, 2176, 1024]⟩
abbrev S16x2176x512 : Shape := ⟨3, ![16, 2176, 512]⟩
abbrev S16x2176x128 : Shape := ⟨3, ![16, 2176, 128]⟩
abbrev S16x2176x8 : Shape := ⟨3, ![16, 2176, 8]⟩
abbrev S1x544x1024 : Shape := ⟨3, ![1, 544, 1024]⟩
abbrev S1x1x16x1024 : Shape := ⟨4, ![1, 1, 16, 1024]⟩
abbrev S1x544x512 : Shape := ⟨3, ![1, 544, 512]⟩
abbrev S1x544x128 : Shape := ⟨3, ![1, 544, 128]⟩
abbrev S1x544x8 : Shape := ⟨3, ![1, 544, 8]⟩
abbrev S1x528x1024 : Shape := ⟨3, ![1, 528, 1024]⟩
abbrev S528x1024 : Shape := ⟨2, ![528, 1024]⟩
abbrev S544x1024 : Shape := ⟨2, ![544, 1024]⟩
abbrev S544x1 : Shape := ⟨2, ![544, 1]⟩
abbrev S1024x1024 : Shape := ⟨2, ![1024, 1024]⟩
abbrev S1024x512 : Shape := ⟨2, ![1024, 512]⟩
abbrev S544x512 : Shape := ⟨2, ![544, 512]⟩
abbrev S1024x256 : Shape := ⟨2, ![1024, 256]⟩
abbrev S544x256 : Shape := ⟨2, ![544, 256]⟩
abbrev S544x128 : Shape := ⟨2, ![544, 128]⟩
abbrev S544x8 : Shape := ⟨2, ![544, 8]⟩

abbrev nBuf : Space → Nat
  | .hbm => 18
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x3656, .f32⟩
  | .hbm, ⟨3, _⟩ => ⟨S1024x3648, .f32⟩
  | .hbm, ⟨4, _⟩ => ⟨S1024x64, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3840, .f32⟩
  | .hbm, ⟨9, _⟩ => ⟨S1024x3840, .bf16⟩
  | .hbm, ⟨10, _⟩ => ⟨S16x128x16x1024, .f32⟩
  | .hbm, ⟨11, _⟩ => ⟨S16x2176x1024, .f32⟩
  | .hbm, ⟨12, _⟩ => ⟨S16x2176x1024, .bf16⟩
  | .hbm, ⟨13, _⟩ => ⟨S16x2176x1024, .bf16⟩
  | .hbm, ⟨14, _⟩ => ⟨S16x2176x1024, .bf16⟩
  | .hbm, ⟨15, _⟩ => ⟨S16x2176x512, .bf16⟩
  | .hbm, ⟨16, _⟩ => ⟨S16x2176x128, .bf16⟩
  | .hbm, ⟨17, _⟩ => ⟨S16x2176x8, .f32⟩
  | .local _ .vmem, ⟨0, _⟩ => ⟨S1x544x1024, .f32⟩
  | .local _ .vmem, ⟨1, _⟩ => ⟨S1x544x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S16x1024, .f32⟩
  | .local _ .vmem, ⟨5, _⟩ => ⟨S1024x3840, .bf16⟩
  | .local _ .vmem, ⟨6, _⟩ => ⟨S1x544x1024, .f32⟩
  | .local _ .vmem, ⟨7, _⟩ => ⟨S1x544x1024, .f32⟩
  | .local _ .vmem, ⟨8, _⟩ => ⟨S1x544x1024, .bf16⟩
  | .local _ .vmem, ⟨9, _⟩ => ⟨S1x544x1024, .bf16⟩
  | .local _ .vmem, ⟨10, _⟩ => ⟨S1x544x1024, .bf16⟩
  | .local _ .vmem, ⟨11, _⟩ => ⟨S1x544x1024, .bf16⟩
  | .local _ .vmem, ⟨12, _⟩ => ⟨S1x544x1024, .bf16⟩
  | .local _ .vmem, ⟨13, _⟩ => ⟨S1x544x1024, .bf16⟩
  | .local _ .vmem, ⟨14, _⟩ => ⟨S1x544x512, .bf16⟩
  | .local _ .vmem, ⟨15, _⟩ => ⟨S1x544x512, .bf16⟩
  | .local _ .vmem, ⟨16, _⟩ => ⟨S1x544x128, .bf16⟩
  | .local _ .vmem, ⟨17, _⟩ => ⟨S1x544x128, .bf16⟩
  | .local _ .vmem, ⟨18, _⟩ => ⟨S1x544x8, .f32⟩
  | .local _ .vmem, ⟨19, _⟩ => ⟨S1x544x8, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c34_i32 : BitVec 32 := 34#32
  let v0 : BitVec 32 := Scalar.muli arg1 c34_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x544x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x544x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjReferenceIdeal.lean ====
abbrev S16x2048x1024 : Shape := ⟨3, ![16, 2048, 1024]⟩
abbrev S16x1024 : Shape := ⟨2, ![16, 1024]⟩
abbrev S1024x3656 : Shape := ⟨2, ![1024, 3656]⟩
abbrev S1x16x1024 : Shape := ⟨3, ![1, 16, 1024]⟩
abbrev S16x16x1024 : Shape := ⟨3, ![16, 16, 1024]⟩
abbrev S16x2064x1024 : Shape := ⟨3, ![16, 2064, 1024]⟩
abbrev S16x2064x3656 : Shape := ⟨3, ![16, 2064, 3656]⟩
abbrev S16x2064x512 : Shape := ⟨3, ![16, 2064, 512]⟩
abbrev S16x2064x64 : Shape := ⟨3, ![16, 2064, 64]⟩
abbrev S16x2064x8 : Shape := ⟨3, ![16, 2064, 8]⟩
abbrev S_ : Shape := ⟨0, ![]⟩
abbrev S16x2064x128 : Shape := ⟨3, ![16, 2064, 128]⟩
abbrev S16x112x1024 : Shape := ⟨3, ![16, 112, 1024]⟩
abbrev S16x2176x1024 : Shape := ⟨3, ![16, 2176, 1024]⟩
abbrev S16x112x512 : Shape := ⟨3, ![16, 112, 512]⟩
abbrev S16x2176x512 : Shape := ⟨3, ![16, 2176, 512]⟩
abbrev S16x112x128 : Shape := ⟨3, ![16, 112, 128]⟩
abbrev S16x2176x128 : Shape := ⟨3, ![16, 2176, 128]⟩
abbrev S16x112x8 : Shape := ⟨3, ![16, 112, 8]⟩
abbrev S16x2176x8 : Shape := ⟨3, ![16, 2176, 8]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x3656, .f32⟩
  | .hbm, ⟨3, _⟩ => ⟨S1x16x1024, .f32⟩
  | .hbm, ⟨4, _⟩ => ⟨S16x16x1024, .f32⟩
  | .hbm, ⟨5, _⟩ => ⟨S16x2064x1024, .f32⟩
  | .hbm, ⟨6, _⟩ => ⟨S16x2064x3656, .f32⟩
  | .hbm, ⟨7, _⟩ => ⟨S16x2064x1024, .f32⟩
  | .hbm, ⟨8, _⟩ => ⟨S16x2064x1024, .f32⟩
  | .hbm, ⟨9, _⟩ => ⟨S16x2064x1024, .f32⟩
  | .hbm, ⟨10, _⟩ => ⟨S16x2064x512, .f32⟩
  | .hbm, ⟨11, _⟩ => ⟨S16x2064x64, .f32⟩
  | .hbm, ⟨12, _⟩ => ⟨S16x2064x8, .f32⟩
  | .hbm, ⟨13, _⟩ => ⟨S_, .f32⟩
  | .hbm, ⟨14, _⟩ => ⟨S16x2064x1024, .f32⟩
  | .hbm, ⟨15, _⟩ => ⟨S16x2064x1024, .f32⟩
  | .hbm, ⟨16, _⟩ => ⟨S_, .f32⟩
  | .hbm, ⟨17, _⟩ => ⟨S16x2064x8, .f32⟩
  | .hbm, ⟨18, _⟩ => ⟨S16x2064x8, .f32⟩
  | .hbm, ⟨19, _⟩ => ⟨S16x2064x128, .f32⟩
  | .hbm, ⟨20, _⟩ => ⟨S_, .f32⟩
  | .hbm, ⟨21, _⟩ => ⟨S16x112x1024, .f32⟩
  | .hbm, ⟨22, _⟩ => ⟨S16x2176x1024, .f32⟩
  | .hbm, ⟨23, _⟩ => ⟨S_, .f32⟩
  | .hbm, ⟨24, _⟩ => ⟨S16x112x1024, .f32⟩
  | .hbm, ⟨25, _⟩ => ⟨S16x2176x1024, .f32⟩
  | .hbm, ⟨26, _⟩ => ⟨S16x2176x1024, .bf16⟩
  | .hbm, ⟨27, _⟩ => ⟨S_, .f32⟩
  | .hbm, ⟨28, _⟩ => ⟨S16x112x1024, .f32⟩
  | .hbm, ⟨29, _⟩ => ⟨S16x2176x1024, .f32⟩
  | .hbm, ⟨30, _⟩ => ⟨S16x2176x1024, .bf16⟩
  | .hbm, ⟨31, _⟩ => ⟨S_, .f32⟩
  | .hbm, ⟨32, _⟩ => ⟨S16x112x1024, .f32⟩
  | .hbm, ⟨33, _⟩ => ⟨S16x2176x1024, .f32⟩
  | .hbm, ⟨34, _⟩ => ⟨S16x2176x1024, .bf16⟩
  | .hbm, ⟨35, _⟩ => ⟨S_, .f32⟩
  | .hbm, ⟨36, _⟩ => ⟨S16x112x512, .f32⟩
  | .hbm, ⟨37, _⟩ => ⟨S16x2176x512, .f32⟩
  | .hbm, ⟨38, _⟩ => ⟨S16x2176x512, .bf16⟩
  | .hbm, ⟨39, _⟩ => ⟨S_, .f32⟩
  | .hbm, ⟨40, _⟩ => ⟨S16x112x128, .f32⟩
  | .hbm, ⟨41, _⟩ => ⟨S16x2176x128, .f32⟩
  | .hbm, ⟨42, _⟩ => ⟨S16x2176x128, .bf16⟩
  | .hbm, ⟨43, _⟩ => ⟨S_, .f32⟩
  | .hbm, ⟨44, _⟩ => ⟨S16x112x8, .f32⟩
  | .hbm, ⟨45, _⟩ => ⟨S16x2176x8, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== ConvKernel.lean ====
abbrev S16x2176x1024 : Shape := ⟨3, ![16, 2176, 1024]⟩
abbrev S31x1024 : Shape := ⟨2, ![31, 1024]⟩
abbrev S1024 : Shape := ⟨1, ![1024]⟩
abbrev S1024x1024 : Shape := ⟨2, ![1024, 1024]⟩
abbrev S1x1024 : Shape := ⟨2, ![1, 1024]⟩
abbrev S16x136x16x1024 : Shape := ⟨4, ![16, 136, 16, 1024]⟩
abbrev S16x2048x1024 : Shape := ⟨3, ![16, 2048, 1024]⟩
abbrev S1x512x1024 : Shape := ⟨3, ![1, 512, 1024]⟩
abbrev S1x1x16x1024 : Shape := ⟨4, ![1, 1, 16, 1024]⟩
abbrev S544x1024 : Shape := ⟨2, ![544, 1024]⟩
abbrev S7x536x1024 : Shape := ⟨3, ![7, 536, 1024]⟩
abbrev S16x1024 : Shape := ⟨2, ![16, 1024]⟩
abbrev S512x1024 : Shape := ⟨2, ![512, 1024]⟩
abbrev S536x1024 : Shape := ⟨2, ![536, 1024]⟩
abbrev S1x536x1024 : Shape := ⟨3, ![1, 536, 1024]⟩
abbrev S512 : Shape := ⟨1, ![512]⟩
abbrev S512x1 : Shape := ⟨2, ![512, 1]⟩
abbrev S1x496x1024 : Shape := ⟨3, ![1, 496, 1024]⟩
abbrev S496x1024 : Shape := ⟨2, ![496, 1024]⟩

abbrev nBuf : Space → Nat
  | .hbm => 21
  | .vmem => 22
  | .smem => 0
  | _ => 0

abbrev bufTy : (tb : Table) → Fin (tcTables nBuf tb) → BufTy
  | .hbm, ⟨0, _⟩ => ⟨S16x2176x1024, .f32⟩
  | .hbm, ⟨1, _⟩ => ⟨S16x2176x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16x136x16x1024, .f32⟩
  | .hbm, ⟨18, _⟩ => ⟨S16x136x16x1024, .f32⟩
  | .hbm, ⟨19, _⟩ => ⟨S16x136x16x1024, .f32⟩
  | .hbm, ⟨20, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x1x16x1024, .f32⟩
  | .local _ .vmem, ⟨5, _⟩ => ⟨S1x1x16x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x16x1024, .f32⟩
  | .local _ .vmem, ⟨9, _⟩ => ⟨S1x1x16x1024, .f32⟩
  | .local _ .vmem, ⟨10, _⟩ => ⟨S31x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S544x1024, .f32⟩
  | .local _ .vmem, ⟨21, _⟩ => ⟨S7x536x1024, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![arg0.toNat, v2.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![arg0.toNat, v2.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ConvReferenceIdeal.lean ====
abbrev S16x2176x1024 : Shape := ⟨3, ![16, 2176, 1024]⟩
abbrev S31x1024 : Shape := ⟨2, ![31, 1024]⟩
abbrev S1024 : Shape := ⟨1, ![1024]⟩
abbrev S1024x1024 : Shape := ⟨2, ![1024, 1024]⟩
abbrev S16x2064x1024 : Shape := ⟨3, ![16, 2064, 1024]⟩
abbrev S_ : Shape := ⟨0, ![]⟩
abbrev S16x30x1024 : Shape := ⟨3, ![16, 30, 1024]⟩
abbrev S16x2094x1024 : Shape := ⟨3, ![16, 2094, 1024]⟩
abbrev S1x1024 : Shape := ⟨2, ![1, 1024]⟩
abbrev S1x1x1024 : Shape := ⟨3, ![1, 1, 1024]⟩
abbrev S16x2064 : Shape := ⟨2, ![16, 2064]⟩
abbrev S16x2064x1 : Shape := ⟨3, ![16, 2064, 1]⟩
abbrev S16x2048x1024 : Shape := ⟨3, ![16, 2048, 1024]⟩

abbrev nBuf : Space → Nat
  | .hbm => 310
  | .vmem => 0
  | .smem => 0
  | _ => 0

abbrev hbmTy0_0 (i : Nat) : BufTy := match i % 128 with
  | 0 => ⟨S16x2176x1024, .f32⟩
  | 1 => ⟨S16x2176x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S16x2064x1024, .f32⟩
  | 11 => ⟨S16x2064x1024, .f32⟩
  | 12 => ⟨S_, .f32⟩
  | 13 => ⟨S16x30x1024, .f32⟩
  | 14 => ⟨S16x2094x1024, .f32⟩
  | 15 => ⟨S1x1024, .f32⟩
  | 16 => ⟨S1024, .f32⟩
  | 17 => ⟨S16x2064x1024, .f32⟩
  | 18 => ⟨S1x1x1024, .f32⟩
  | 19 => ⟨S16x2064x1024, .f32⟩
  | 20 => ⟨S16x2064x1024, .f32⟩
  | 21 => ⟨S1x1x1024, .f32⟩
  | 22 => ⟨S16x2064x1024, .f32⟩
  | 23 => ⟨S16x2064x1024, .f32⟩
  | 24 => ⟨S1x1024, .f32⟩
  | 25 => ⟨S1024, .f32⟩
  | 26 => ⟨S16x2064x1024, .f32⟩
  | 27 => ⟨S1x1x1024, .f32⟩
  | 28 => ⟨S16x2064x1024, .f32⟩
  | 29 => ⟨S16x2064x1024, .f32⟩
  | 30 => ⟨S16x2064x1024, .f32⟩
  | 31 => ⟨S1x1024, .f32⟩
  | 32 => ⟨S1024, .f32⟩
  | 33 => ⟨S16x2064x1024, .f32⟩
  | 34 => ⟨S1x1x1024, .f32⟩
  | 35 => ⟨S16x2064x1024, .f32⟩
  | 36 => ⟨S16x2064x1024, .f32⟩
  | 37 => ⟨S16x2064x1024, .f32⟩
  | 38 => ⟨S1x1024, .f32⟩
  | 39 => ⟨S1024, .f32⟩
  | 40 => ⟨S16x2064x1024, .f32⟩
  | 41 => ⟨S1x1x1024, .f32⟩
  | 42 => ⟨S16x2064x1024, .f32⟩
  | 43 => ⟨S16x2064x1024, .f32⟩
  | 44 => ⟨S16x2064x1024, .f32⟩
  | 45 => ⟨S1x1024, .f32⟩
  | 46 => ⟨S1024, .f32⟩
  | 47 => ⟨S16x2064x1024, .f32⟩
  | 48 => ⟨S1x1x1024, .f32⟩
  | 49 => ⟨S16x2064x1024, .f32⟩
  | 50 => ⟨S16x2064x1024, .f32⟩
  | 51 => ⟨S16x2064x1024, .f32⟩
  | 52 => ⟨S1x1024, .f32⟩
  | 53 => ⟨S1024, .f32⟩
  | 54 => ⟨S16x2064x1024, .f32⟩
  | 55 => ⟨S1x1x1024, .f32⟩
  | 56 => ⟨S16x2064x1024, .f32⟩
  | 57 => ⟨S16x2064x1024, .f32⟩
  | 58 => ⟨S16x2064x1024, .f32⟩
  | 59 => ⟨S1x1024, .f32⟩
  | 60 => ⟨S1024, .f32⟩
  | 61 => ⟨S16x2064x1024, .f32⟩
  | 62 => ⟨S1x1x1024, .f32⟩
  | 63 => ⟨S16x2064x1024, .f32⟩
  | 64 => ⟨S16x2064x1024, .f32⟩
  | 65 => ⟨S16x2064x1024, .f32⟩
  | 66 => ⟨S1x1024, .f32⟩
  | 67 => ⟨S1024, .f32⟩
  | 68 => ⟨S16x2064x1024, .f32⟩
  | 69 => ⟨S1x1x1024, .f32⟩
  | 70 => ⟨S16x2064x1024, .f32⟩
  | 71 => ⟨S16x2064x1024, .f32⟩
  | 72 => ⟨S16x2064x1024, .f32⟩
  | 73 => ⟨S1x1024, .f32⟩
  | 74 => ⟨S1024, .f32⟩
  | 75 => ⟨S16x2064x1024, .f32⟩
  | 76 => ⟨S1x1x1024, .f32⟩
  | 77 => ⟨S16x2064x1024, .f32⟩
  | 78 => ⟨S16x2064x1024, .f32⟩
  | 79 => ⟨S16x2064x1024, .f32⟩
  | 80 => ⟨S1x1024, .f32⟩
  | 81 => ⟨S1024, .f32⟩
  | 82 => ⟨S16x2064x1024, .f32⟩
  | 83 => ⟨S1x1x1024, .f32⟩
  | 84 => ⟨S16x2064x1024, .f32⟩
  | 85 => ⟨S16x2064x1024, .f32⟩
  | 86 => ⟨S16x2064x1024, .f32⟩
  | 87 => ⟨S1x1024, .f32⟩
  | 88 => ⟨S1024, .f32⟩
  | 89 => ⟨S16x2064x1024, .f32⟩
  | 90 => ⟨S1x1x1024, .f32⟩
  | 91 => ⟨S16x2064x1024, .f32⟩
  | 92 => ⟨S16x2064x1024, .f32⟩
  | 93 => ⟨S16x2064x1024, .f32⟩
  | 94 => ⟨S1x1024, .f32⟩
  | 95 => ⟨S1024, .f32⟩
  | 96 => ⟨S16x2064x1024, .f32⟩
  | 97 => ⟨S1x1x1024, .f32⟩
  | 98 => ⟨S16x2064x1024, .f32⟩
  | 99 => ⟨S16x2064x1024, .f32⟩
  | 100 => ⟨S16x2064x1024, .f32⟩
  | 101 => ⟨S1x1024, .f32⟩
  | 102 => ⟨S1024, .f32⟩
  | 103 => ⟨S16x2064x1024, .f32⟩
  | 104 => ⟨S1x1x1024, .f32⟩
  | 105 => ⟨S16x2064x1024, .f32⟩
  | 106 => ⟨S16x2064x1024, .f32⟩
  | 107 => ⟨S16x2064x1024, .f32⟩
  | 108 => ⟨S1x1024, .f32⟩
  | 109 => ⟨S1024, .f32⟩
  | 110 => ⟨S16x2064x1024, .f32⟩
  | 111 => ⟨S1x1x1024, .f32⟩
  | 112 => ⟨S16x2064x1024, .f32⟩
  | 113 => ⟨S16x2064x1024, .f32⟩
  | 114 => ⟨S16x2064x1024, .f32⟩
  | 115 => ⟨S1x1024, .f32⟩
  | 116 => ⟨S1024, .f32⟩
  | 117 => ⟨S16x2064x1024, .f32⟩
  | 118 => ⟨S1x1x1024, .f32⟩
  | 119 => ⟨S16x2064x1024, .f32⟩
  | 120 => ⟨S16x2064x1024, .f32⟩
  | 121 => ⟨S16x2064x1024, .f32⟩
  | 122 => ⟨S1x1024, .f32⟩
  | 123 => ⟨S1024, .f32⟩
  | 124 => ⟨S16x2064x1024, .f32⟩
  | 125 => ⟨S1x1x1024, .f32⟩
  | 126 => ⟨S16x2064x1024, .f32⟩
  | 127 => ⟨S16x2064x1024, .f32⟩
  | _ => ⟨S16x2176x1024, .f32⟩

abbrev hbmTy0_1 (i : Nat) : BufTy := match i % 128 with
  | 0 => ⟨S16x2064x1024, .f32⟩
  | 1 => ⟨S1x1024, .f32⟩
  | 2 => ⟨S1024, .f32⟩
  | 3 => ⟨S16x2064x1024, .f32⟩
  | 4 => ⟨S1x1x1024, .f32⟩
  | 5 => ⟨S16x2064x1024, .f32⟩
  | 6 => ⟨S16x2064x1024, .f32⟩
  | 7 => ⟨S16x2064x1024, .f32⟩
  | 8 => ⟨S1x1024, .f32⟩
  | 9 => ⟨S1024, .f32⟩
  | 10 => ⟨S16x2064x1024, .f32⟩
  | 11 => ⟨S1x1x1024, .f32⟩
  | 12 => ⟨S16x2064x1024, .f32⟩
  | 13 => ⟨S16x2064x1024, .f32⟩
  | 14 => ⟨S16x2064x1024, .f32⟩
  | 15 => ⟨S1x1024, .f32⟩
  | 16 => ⟨S1024, .f32⟩
  | 17 => ⟨S16x2064x1024, .f32⟩
  | 18 => ⟨S1x1x1024, .f32⟩
  | 19 => ⟨S16x2064x1024, .f32⟩
  | 20 => ⟨S16x2064x1024, .f32⟩
  | 21 => ⟨S16x2064x1024, .f32⟩
  | 22 => ⟨S1x1024, .f32⟩
  | 23 => ⟨S1024, .f32⟩
  | 24 => ⟨S16x2064x1024, .f32⟩
  | 25 => ⟨S1x1x1024, .f32⟩
  | 26 => ⟨S16x2064x1024, .f32⟩
  | 27 => ⟨S16x2064x1024, .f32⟩
  | 28 => ⟨S16x2064x1024, .f32⟩
  | 29 => ⟨S1x1024, .f32⟩
  | 30 => ⟨S1024, .f32⟩
  | 31 => ⟨S16x2064x1024, .f32⟩
  | 32 => ⟨S1x1x1024, .f32⟩
  | 33 => ⟨S16x2064x1024, .f32⟩
  | 34 => ⟨S16x2064x1024, .f32⟩
  | 35 => ⟨S16x2064x1024, .f32⟩
  | 36 => ⟨S1x1024, .f32⟩
  | 37 => ⟨S1024, .f32⟩
  | 38 => ⟨S16x2064x1024, .f32⟩
  | 39 => ⟨S1x1x1024, .f32⟩
  | 40 => ⟨S16x2064x1024, .f32⟩
  | 41 => ⟨S16x2064x1024, .f32⟩
  | 42 => ⟨S16x2064x1024, .f32⟩
  | 43 => ⟨S1x1024, .f32⟩
  | 44 => ⟨S1024, .f32⟩
  | 45 => ⟨S16x2064x1024, .f32⟩
  | 46 => ⟨S1x1x1024, .f32⟩
  | 47 => ⟨S16x2064x1024, .f32⟩
  | 48 => ⟨S16x2064x1024, .f32⟩
  | 49 => ⟨S16x2064x1024, .f32⟩
  | 50 => ⟨S1x1024, .f32⟩
  | 51 => ⟨S1024, .f32⟩
  | 52 => ⟨S16x2064x1024, .f32⟩
  | 53 => ⟨S1x1x1024, .f32⟩
  | 54 => ⟨S16x2064x1024, .f32⟩
  | 55 => ⟨S16x2064x1024, .f32⟩
  | 56 => ⟨S16x2064x1024, .f32⟩
  | 57 => ⟨S1x1024, .f32⟩
  | 58 => ⟨S1024, .f32⟩
  | 59 => ⟨S16x2064x1024, .f32⟩
  | 60 => ⟨S1x1x1024, .f32⟩
  | 61 => ⟨S16x2064x1024, .f32⟩
  | 62 => ⟨S16x2064x1024, .f32⟩
  | 63 => ⟨S16x2064x1024, .f32⟩
  | 64 => ⟨S1x1024, .f32⟩
  | 65 => ⟨S1024, .f32⟩
  | 66 => ⟨S16x2064x1024, .f32⟩
  | 67 => ⟨S1x1x1024, .f32⟩
  | 68 => ⟨S16x2064x1024, .f32⟩
  | 69 => ⟨S16x2064x1024, .f32⟩
  | 70 => ⟨S16x2064x1024, .f32⟩
  | 71 => ⟨S1x1024, .f32⟩
  | 72 => ⟨S1024, .f32⟩
  | 73 => ⟨S16x2064x1024, .f32⟩
  | 74 => ⟨S1x1x1024, .f32⟩
  | 75 => ⟨S16x2064x1024, .f32⟩
  | 76 => ⟨S16x2064x1024, .f32⟩
  | 77 => ⟨S16x2064x1024, .f32⟩
  | 78 => ⟨S1x1024, .f32⟩
  | 79 => ⟨S1024, .f32⟩
  | 80 => ⟨S16x2064x1024, .f32⟩
  | 81 => ⟨S1x1x1024, .f32⟩
  | 82 => ⟨S16x2064x1024, .f32⟩
  | 83 => ⟨S16x2064x1024, .f32⟩
  | 84 => ⟨S16x2064x1024, .f32⟩
  | 85 => ⟨S1x1024, .f32⟩
  | 86 => ⟨S1024, .f32⟩
  | 87 => ⟨S16x2064x1024, .f32⟩
  | 88 => ⟨S1x1x1024, .f32⟩
  | 89 => ⟨S16x2064x1024, .f32⟩
  | 90 => ⟨S16x2064x1024, .f32⟩
  | 91 => ⟨S16x2064x1024, .f32⟩
  | 92 => ⟨S1x1024, .f32⟩
  | 93 => ⟨S1024, .f32⟩
  | 94 => ⟨S16x2064x1024, .f32⟩
  | 95 => ⟨S1x1x1024, .f32⟩
  | 96 => ⟨S16x2064x1024, .f32⟩
  | 97 => ⟨S16x2064x1024, .f32⟩
  | 98 => ⟨S16x2064x1024, .f32⟩
  | 99 => ⟨S1x1024, .f32⟩
  | 100 => ⟨S1024, .f32⟩
  | 101 => ⟨S16x2064x1024, .f32⟩
  | 102 => ⟨S1x1x1024, .f32⟩
  | 103 => ⟨S16x2064x1024, .f32⟩
  | 104 => ⟨S16x2064x1024, .f32⟩
  | 105 => ⟨S16x2064x1024, .f32⟩
  | 106 => ⟨S_, .f32⟩
  | 107 => ⟨S16x2064, .f32⟩
  | 108 => ⟨S16x2064x1, .f32⟩
  | 109 => ⟨S_, .f32⟩
  | 110 => ⟨S16x2064x1, .f32⟩
  | 111 => ⟨S16x2064x1, .f32⟩
  | 112 => ⟨S16x2064x1024, .f32⟩
  | 113 => ⟨S16x2064x1024, .f32⟩
  | 114 => ⟨S16x2064x1024, .f32⟩
  | 115 => ⟨S_, .f32⟩
  | 116 => ⟨S16x2064, .f32⟩
  | 117 => ⟨S16x2064x1, .f32⟩
  | 118 => ⟨S_, .f32⟩
  | 119 => ⟨S16x2064x1, .f32⟩
  | 120 => ⟨S16x2064x1, .f32⟩
  | 121 => ⟨S16x2064x1024, .f32⟩
  | 122 => ⟨S16x2064x1024, .f32⟩
  | 123 => ⟨S_, .f32⟩
  | 124 => ⟨S16x2064x1, .f32⟩
  | 125 => ⟨S16x2064x1, .f32⟩
  | 126 => ⟨S16x2064x1, .f32⟩
  | 127 => ⟨S16x2064x1024, .f32⟩
  | _ => ⟨S16x2176x1024, .f32⟩

abbrev hbmTy0_2 (i : Nat) : BufTy := match i % 128 with
  | 0 => ⟨S16x2064x1024, .f32⟩
  | 1 => ⟨S1x1x1024, .f32⟩
  | 2 => ⟨S16x2064x1024, .f32⟩
  | 3 => ⟨S16x2064x1024, .f32⟩
  | 4 => ⟨S1x1x1024, .f32⟩
  | 5 => ⟨S16x2064x1024, .f32⟩
  | 6 => ⟨S16x2064x1024, .f32⟩
  | 7 => ⟨S16x2064x1024, .f32⟩
  | 8 => ⟨S16x2064x1024, .f32⟩
  | 9 => ⟨S_, .f32⟩
  | 10 => ⟨S16x2064x1024, .f32⟩
  | 11 => ⟨S16x2064x1024, .f32⟩
  | 12 => ⟨S_, .f32⟩
  | 13 => ⟨S16x2064x1024, .f32⟩
  | 14 => ⟨S16x2064x1024, .f32⟩
  | 15 => ⟨S16x2064x1024, .f32⟩
  | 16 => ⟨S16x2064x1024, .f32⟩
  | 17 => ⟨S1x1x1024, .f32⟩
  | 18 => ⟨S16x2064x1024, .f32⟩
  | 19 => ⟨S16x2064x1024, .f32⟩
  | 20 => ⟨S_, .f32⟩
  | 21 => ⟨S16x2064x1024, .f32⟩
  | 22 => ⟨S16x2064x1024, .f32⟩
  | 23 => ⟨S16x2064x1024, .f32⟩
  | 24 => ⟨S_, .f32⟩
  | 25 => ⟨S16x2064, .f32⟩
  | 26 => ⟨S16x2064x1, .f32⟩
  | 27 => ⟨S_, .f32⟩
  | 28 => ⟨S16x2064x1, .f32⟩
  | 29 => ⟨S16x2064x1, .f32⟩
  | 30 => ⟨S16x2064x1024, .f32⟩
  | 31 => ⟨S16x2064x1024, .f32⟩
  | 32 => ⟨S16x2064x1024, .f32⟩
  | 33 => ⟨S_, .f32⟩
  | 34 => ⟨S16x2064, .f32⟩
  | 35 => ⟨S16x2064x1, .f32⟩
  | 36 => ⟨S_, .f32⟩
  | 37 => ⟨S16x2064x1, .f32⟩
  | 38 => ⟨S16x2064x1, .f32⟩
  | 39 => ⟨S16x2064x1024, .f32⟩
  | 40 => ⟨S16x2064x1024, .f32⟩
  | 41 => ⟨S_, .f32⟩
  | 42 => ⟨S16x2064x1, .f32⟩
  | 43 => ⟨S16x2064x1, .f32⟩
  | 44 => ⟨S16x2064x1, .f32⟩
  | 45 => ⟨S16x2064x1024, .f32⟩
  | 46 => ⟨S16x2064x1024, .f32⟩
  | 47 => ⟨S1x1x1024, .f32⟩
  | 48 => ⟨S16x2064x1024, .f32⟩
  | 49 => ⟨S16x2064x1024, .f32⟩
  | 50 => ⟨S1x1x1024, .f32⟩
  | 51 => ⟨S16x2064x1024, .f32⟩
  | 52 => ⟨S16x2064x1024, .f32⟩
  | 53 => ⟨S16x2048x1024, .f32⟩
  | _ => ⟨S16x2176x1024, .f32⟩

abbrev hbmTy (i : Nat) : BufTy := match i / 128 with
  | 0 => hbmTy0_0 i
  | 1 => hbmTy0_1 i
  | 2 => hbmTy0_2 i
  | _ => ⟨S16x2176x1024, .f32⟩

abbrev bufTy : (tb : Table) → Fin (tcTables nBuf tb) → BufTy
  | .hbm, ⟨i, _⟩ => hbmTy i
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_cst_0 : Ref sig .tc := ⟨.hbm, 234, rfl⟩
abbrev main_v223 : Ref sig .tc := ⟨.hbm, 235, rfl⟩
abbrev main_v224 : Ref sig .tc := ⟨.hbm, 236, rfl⟩
abbrev main_cst_1 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_cst_2 : Ref sig .tc := ⟨.hbm, 243, rfl⟩
abbrev main_v230 : Ref sig .tc := ⟨.hbm, 244, rfl⟩
abbrev main_v231 : Ref sig .tc := ⟨.hbm, 245, rfl⟩
abbrev main_cst_3 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_cst_4 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_call0_v0 : Ref sig .tc := ⟨.hbm, 263, rfl⟩
abbrev main_call0_v1 : Ref sig .tc := ⟨.hbm, 264, rfl⟩
abbrev main_call0_cst : Ref sig .tc := ⟨.hbm, 265, rfl⟩
abbrev main_call0_v2 : Ref sig .tc := ⟨.hbm, 266, rfl⟩
abbrev main_call0_v3 : Ref sig .tc := ⟨.hbm, 267, rfl⟩
abbrev main_call0_cst_0 : Ref sig .tc := ⟨.hbm, 268, rfl⟩
abbrev main_call0_v4 : Ref sig .tc := ⟨.hbm, 269, rfl⟩
abbrev main_call0_v5 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_cst_5 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_cst_6 : Ref sig .tc := ⟨.hbm, 280, rfl⟩
abbrev main_v255 : Ref sig .tc := ⟨.hbm, 281, rfl⟩
abbrev main_v256 : Ref sig .tc := ⟨.hbm, 282, rfl⟩
abbrev main_cst_7 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_cst_8 : Ref sig .tc := ⟨.hbm, 289, rfl⟩
abbrev main_v262 : Ref sig .tc := ⟨.hbm, 290, rfl⟩
abbrev main_v263 : Ref sig .tc := ⟨.hbm, 291, rfl⟩
abbrev main_cst_9 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_cst_10 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩

abbrev nD : Nat := 1
abbrev τ : Topo := Topo.v7x

variable {F : FTy → Type} [FloatOps F]
-- ==== Proof.Attn.Keeps.lean ====
/- Programs that leave what they hold held, at whatever contents.

   A kernel body that only loads and stores memrefs its thread owns needs no more for memory safety than that: every
   load and store finds its memref owned, and gives it back owned. `Keeps I p` says that program `p` runs from the
   assertion `I` and gives `I` back; `Lends I m` says that `I` has the memref `m` among what it owns, at some contents.
   Loads, stores, sequences, branches and counted loops keep what they are lent. -/
module

public import Idealize.ShloMosaic.Lib.Writes
public import Idealize.ShloMosaic.Lib.Scf
public import Idealize.ShloMosaic.Lib.Tactic
public import Idealize.ShloMosaic.Lib.Memref

@[expose] public section

namespace Cert.Proof.Attn

open Idealize.ShloMosaic Idealize.ShloMosaic.TcCoe
open Idealize.SL Idealize.SL.RA Idealize.SL.BI
open scoped Idealize.SL.BI
open Idealize.SL.BI.BIBase Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl]

local notation "𝕄" => MT nD τ sig Ix Val Name U Lvl

/-- `I` owns the memref `m` whole at some contents, and takes it back at any. -/
class Lends (c : Thread nD τ) (I : sProp 𝕄) {sp : Space} {s : Shape} {e : EltTy} (m : Memref sig c.2.kind sp s e) : Prop where
  lends : I ⊢ iprop(∃ f : Buf Val (m.view.loc c), (m.view.loc c ↦[m.view.set]{fullShare} f)
    ∗ ((∃ f : Buf Val (m.view.loc c), (m.view.loc c ↦[m.view.set]{fullShare} f)) -∗ I))

/-- `p` runs from `I` and gives `I` back. -/
def Keeps (defs : Defs nD τ sig Val Λ) (𝒱 : Variants) (c : Thread nD τ) (bd : Option 𝒱.V) (E : Set Name) (I : sProp 𝕄)
    {α : Type} (p : Prog (TpuEff nD τ sig Val Λ c.2) α) : Prop :=
  I ⊢ wp frame (wpE defs 𝒱 c bd) E p fun _ => I

variable {defs : Defs nD τ sig Val Λ} {𝒱 : Variants} {c : Thread nD τ} {bd : Option 𝒱.V} {E : Set Name}
variable {α β : Type}

theorem keeps_pure {I : sProp 𝕄} (a : α) : Keeps defs 𝒱 c bd E I (pure a) := by
  unfold Keeps
  rw [wp_pure]
  iintro H
  imodintro
  iexact H

theorem keeps_bind {I : sProp 𝕄} {p : Prog (TpuEff nD τ sig Val Λ c.2) α} {k : α → Prog (TpuEff nD τ sig Val Λ c.2) β}
    (hp : Keeps defs 𝒱 c bd E I p) (hk : ∀ a, Keeps defs 𝒱 c bd E I (k a)) : Keeps defs 𝒱 c bd E I (p >>= k) := by
  unfold Keeps
  rw [wp_bind]
  exact hp.trans (wp_mono _ _ _ fun a => hk a)

theorem keeps_load {I : sProp 𝕄} {cs : CoreSpace} {s : Shape} {e : EltTy} {m : Memref sig c.2.kind cs s e} [h : Lends c I m] {r : LoadRect s}
    {hl : m.view.LoadsAt r} : Keeps defs 𝒱 c bd E I (Prog.lift (.load m r hl)) := by
  unfold Keeps
  refine h.lends.trans ?_
  iintro ⟨%f, H, HI⟩
  iapply (wp_load 𝒱 c bd E (m := m) (r := r) (hl := hl) (f := f) (q := fullShare) (View.setOn_subset_set _ _)) $$ H
  iintro H
  rw [wp_ret]
  imodintro
  iapply HI
  iexists f
  iexact H

theorem keeps_store {I : sProp 𝕄} {cs : CoreSpace} {s : Shape} {e : EltTy} {m : Memref sig c.2.kind cs s e} [h : Lends c I m] {r : Rect s}
    {w : r.shape.Idx → Val e} {Mk : Finset r.shape.Idx} {hx : (m.access r).Stores Mk} {hm : Mk = Finset.univ ∨ ∀ a, r.stride a = 1} :
    Keeps defs 𝒱 c bd E I (Prog.lift (.store m r w Mk hx hm)) := by
  unfold Keeps
  refine h.lends.trans ?_
  iintro ⟨%f, H, HI⟩
  iapply (wp_store 𝒱 c bd E (m := m) (r := r) (w := w) (Mk := Mk) (hx := hx) (hm := hm) (f := f)
    ((View.setOn_subset_set _ _).trans (View.set_slice_subset _ _))) $$ H
  iintro H
  rw [wp_ret]
  imodintro
  iapply HI
  iexists _
  iexact H

theorem keeps_for {I : sProp 𝕄} {w : Nat} {l : Scf.Loop w} {hok : l.OK} {init : α} {body : Fin l.trips → α → Prog (TpuEff nD τ sig Val Λ c.2) α}
    (hb : ∀ k acc, Keeps defs 𝒱 c bd E I (body k acc)) : Keeps defs 𝒱 c bd E I (Scf.Loop.for l hok init body) := by
  unfold Keeps
  refine .trans ?_ (Scf.wp_for frame (wpE defs 𝒱 c bd) E l.lb l.ub l.st hok init body (fun _ _ => I) hb)
  iintro H
  isplitl
  · iexact H
  · iintro %acc H
    iexact H

theorem keeps_dite {I : sProp 𝕄} {P : Prop} [Decidable P] {p : P → Prog (TpuEff nD τ sig Val Λ c.2) α} {q : ¬ P → Prog (TpuEff nD τ sig Val Λ c.2) α}
    (hp : ∀ h, Keeps defs 𝒱 c bd E I (p h)) (hq : ∀ h, Keeps defs 𝒱 c bd E I (q h)) : Keeps defs 𝒱 c bd E I (dite P p q) := by
  by_cases h : P
  · rw [dif_pos h]; exact hp h
  · rw [dif_neg h]; exact hq h

theorem keeps_ite {I : sProp 𝕄} {P : Prop} [Decidable P] {p q : Prog (TpuEff nD τ sig Val Λ c.2) α}
    (hp : Keeps defs 𝒱 c bd E I p) (hq : Keeps defs 𝒱 c bd E I q) : Keeps defs 𝒱 c bd E I (ite P p q) := by
  by_cases h : P
  · rw [if_pos h]; exact hp
  · rw [if_neg h]; exact hq

end Cert.Proof.Attn

end
-- ==== Proof.Attn.Leaf1.lean ====
/- The attention kernel's straight-line stretches keep what they are lent (1 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part1 : ∀ c0_i32_42 c1_i32_44 k0_t1, 𝕂 (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c0_i32_42 c1_i32_44 k0_t1) := by
  intros; unfold k0_part1
  repeat' first | extract_lets | with_reducible exact keeps_pure _ | with_reducible exact keeps_load | with_reducible exact keeps_store | with_reducible refine keeps_bind ?_ fun _ => ?_

theorem part7 : ∀ v66 v656 v657 v658, 𝕂 (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v66 v656 v657 v658) := by
  intros; unfold k0_part7
  repeat' first | extract_lets | with_reducible exact keeps_pure _ | with_reducible exact keeps_load | with_reducible exact keeps_store | with_reducible refine keeps_bind ?_ fun _ => ?_

theorem part13 : ∀ v21 v24 v64 v66 c_m2147483648_i32 k0_t2 v393 v401 v425 v468 v469, 𝕂 (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t2 v393 v401 v425 v468 v469) := by
  intros; unfold k0_part13
  repeat' first | extract_lets | with_reducible exact keeps_pure _ | with_reducible exact keeps_load | with_reducible exact keeps_store | with_reducible refine keeps_bind ?_ fun _ => ?_

theorem part19 : ∀ v21 v24 v66 c_m2147483648_i32 k0_t2 v413 v733 v755 v756, 𝕂 (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v66 c_m2147483648_i32 k0_t2 v413 v733 v755 v756) := by
  intros; unfold k0_part19
  repeat' first | extract_lets | with_reducible exact keeps_pure _ | with_reducible exact keeps_load | with_reducible exact keeps_store | with_reducible refine keeps_bind ?_ fun _ => ?_

theorem part27 : ∀ v438 v441 v442 v452 v462 v466 c0_i32_278 v467, 𝕂 (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v441 v442 v452 v462 v466 c0_i32_278 v467) := by
  intros; unfold k0_part27
  repeat' first | extract_lets | with_reducible exact keeps_pure _ | with_reducible exact keeps_load | with_reducible exact keeps_store | with_reducible refine keeps_bind ?_ fun _ => ?_

theorem part33 : ∀ c_m2147483648_i32_50 v438 v660 v673 v686, 𝕂 (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v660 v673 v686) := by
  intros; unfold k0_part33
  repeat' first | extract_lets | with_reducible exact keeps_pure _ | with_reducible exact keeps_load | with_reducible exact keeps_store | with_reducible refine keeps_bind ?_ fun _ => ?_

theorem part39 : ∀ v830 v904 v914 v924, 𝕂 (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v830 v904 v914 v924) := by
  intros; unfold k0_part39
  repeat' first | extract_lets | with_reducible exact keeps_pure _ | with_reducible exact keeps_load | with_reducible exact keeps_store | with_reducible refine keeps_bind ?_ fun _ => ?_

theorem part46 : ∀ c_m2147483648_i32_50 v438 v611 v624 v637 v660, 𝕂 (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v611 v624 v637 v660) := by
  intros; unfold k0_part46
  repeat' first | extract_lets | with_reducible exact keeps_pure _ | with_reducible exact keeps_load | with_reducible exact keeps_store | with_reducible refine keeps_bind ?_ fun _ => ?_

theorem part53 : ∀ v804 v878 v888 v898, 𝕂 (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v804 v878 v888 v898) := by
  intros; unfold k0_part53
  repeat' first | extract_lets | with_reducible exact keeps_pure _ | with_reducible exact keeps_load | with_reducible exact keeps_store | with_reducible refine keeps_bind ?_ fun _ => ?_

theorem part60 : ∀ c_m2147483648_i32_50 v435 v611 v624 v637 v657 c1_i32_370 c0_i32_371, 𝕂 (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v435 v611 v624 v637 v657 c1_i32_370 c0_i32_371) := by
  intros; unfold k0_part60
  repeat' first | extract_lets | with_reducible exact keeps_pure _ | with_reducible exact keeps_load | with_reducible exact keeps_store | with_reducible refine keeps_bind ?_ fun _ => ?_

theorem part66 : ∀ v778 v852 v862 v872, 𝕂 (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v778 v852 v862 v872) := by
  intros; unfold k0_part66
  repeat' first | extract_lets | with_reducible exact keeps_pure _ | with_reducible exact keeps_load | with_reducible exact keeps_store | with_reducible refine keeps_bind ?_ fun _ => ?_

theorem part73 : ∀ c_m2147483648_i32_50 v432 v611 v624 v637 v654 v656, 𝕂 (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v432 v611 v624 v637 v654 v656) := by
  intros; unfold k0_part73
  repeat' first | extract_lets | with_reducible exact keeps_pure _ | with_reducible exact keeps_load | with_reducible exact keeps_store | with_reducible refine keeps_bind ?_ fun _ => ?_

theorem part80 : ∀ v429 v463 v473 v483 v493 v495 v496, 𝕂 (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v429 v463 v473 v483 v493 v495 v496) := by
  intros; unfold k0_part80
  repeat' first | extract_lets | with_reducible exact keeps_pure _ | with_reducible exact keeps_load | with_reducible exact keeps_store | with_reducible refine keeps_bind ?_ fun _ => ?_

theorem part86 : ∀ c_m2147483648_i32_50 c0_i32_249 c1_i32_250 k0_t8 arg36, 𝕂 (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_249 c1_i32_250 k0_t8 arg36) := by
  intros; unfold k0_part86
  repeat' first | extract_lets | with_reducible exact keeps_pure _ | with_reducible exact keeps_load | with_reducible exact keeps_store | with_reducible refine keeps_bind ?_ fun _ => ?_

theorem part93 : ∀ c_m2147483648_i32_50 v426 v556 v557 v558 v559 v570, 𝕂 (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v426 v556 v557 v558 v559 v570) := by
  intros; unfold k0_part93
  repeat' first | extract_lets | with_reducible exact keeps_pure _ | with_reducible exact keeps_load | with_reducible exact keeps_store | with_reducible refine keeps_bind ?_ fun _ => ?_

theorem part100 : ∀ v423 v426 v427 v437 v447 v451 c0_i32_268 v452, 𝕂 (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v423 v426 v427 v437 v447 v451 c0_i32_268 v452) := by
  intros; unfold k0_part100
  repeat' first | extract_lets | with_reducible exact keeps_pure _ | with_reducible exact keeps_load | with_reducible exact keeps_store | with_reducible refine keeps_bind ?_ fun _ => ?_

theorem part106 : ∀ c_m2147483648_i32_50 c0_i32_245 c1_i32_246 k0_t10 arg36, 𝕂 (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_245 c1_i32_246 k0_t10 arg36) := by
  intros; unfold k0_part106
  repeat' first | extract_lets | with_reducible exact keeps_pure _ | with_reducible exact keeps_load | with_reducible exact keeps_store | with_reducible refine keeps_bind ?_ fun _ => ?_

theorem part113 : ∀ c_m2147483648_i32_50 v420 v532 v533 v546 v566, 𝕂 (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v420 v532 v533 v546 v566) := by
  intros; unfold k0_part113
  repeat' first | extract_lets | with_reducible exact keeps_pure _ | with_reducible exact keeps_load | with_reducible exact keeps_store | with_reducible refine keeps_bind ?_ fun _ => ?_

theorem part120 : ∀ c_m2147483648_i32_50 v417 v517 v518 v519 v521, 𝕂 (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v417 v517 v518 v519 v521) := by
  intros; unfold k0_part120
  repeat' first | extract_lets | with_reducible exact keeps_pure _ | with_reducible exact keeps_load | with_reducible exact keeps_store | with_reducible refine keeps_bind ?_ fun _ => ?_

theorem part127 : ∀ c_m2147483648_i32_50 v414 v505 v506 v507, 𝕂 (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v414 v505 v506 v507) := by
  intros; unfold k0_part127
  repeat' first | extract_lets | with_reducible exact keeps_pure _ | with_reducible exact keeps_load | with_reducible exact keeps_store | with_reducible refine keeps_bind ?_ fun _ => ?_

theorem part134 : ∀ c_m2147483648_i32_50 v411 v492 v493 v494 v507 v518, 𝕂 (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v411 v492 v493 v494 v507 v518) := by
  intros; unfold k0_part134
  repeat' first | extract_lets | with_reducible exact keeps_pure _ | with_reducible exact keeps_load | with_reducible exact keeps_store | with_reducible refine keeps_bind ?_ fun _ => ?_

theorem part141 : ∀ c_m2147483648_i32_50 c0_i32_235 c1_i32_236 k0_t15 arg36, 𝕂 (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_235 c1_i32_236 k0_t15 arg36) := by
  intros; unfold k0_part141
  repeat' first | extract_lets | with_reducible exact keeps_pure _ | with_reducible exact keeps_load | with_reducible exact keeps_store | with_reducible refine keeps_bind ?_ fun _ => ?_

theorem part151 : ∀ c_m2147483648_i32_50 v399 v402 v403 v413 v423 v427 c0_i32_252 v428, 𝕂 (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v399 v402 v403 v413 v423 v427 c0_i32_252 v428) := by
  intros; unfold k0_part151
  repeat' first | extract_lets | with_reducible exact keeps_pure _ | with_reducible exact keeps_load | with_reducible exact keeps_store | with_reducible refine keeps_bind ?_ fun _ => ?_

theorem part157 : ∀ v21 v80_0 v398 k0_t20 v427 v432 v437 v474 v479 v484, 𝕂 (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v398 k0_t20 v427 v432 v437 v474 v479 v484) := by
  intros; unfold k0_part157
  repeat' first | extract_lets | with_reducible exact keeps_pure _ | with_reducible exact keeps_load | with_reducible exact keeps_store | with_reducible refine keeps_bind ?_ fun _ => ?_

theorem part163 : ∀ arg1 v21 v80_0 v100 v106 c_m2147483648_i32_118 k0_t21 arg43 v398 v401 v567, 𝕂 (k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t21 arg43 v398 v401 v567) := by
  intros; unfold k0_part163
  repeat' first | extract_lets | with_reducible exact keeps_pure _ | with_reducible exact keeps_load | with_reducible exact keeps_store | with_reducible refine keeps_bind ?_ fun _ => ?_

theorem part169 : ∀ v124 v130 k0_t21 v403 v406 v647 v663 v748 v752 v789 v791, 𝕂 (k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 k0_t21 v403 v406 v647 v663 v748 v752 v789 v791) := by
  intros; unfold k0_part169
  repeat' first | extract_lets | with_reducible exact keeps_pure _ | with_reducible exact keeps_load | with_reducible exact keeps_store | with_reducible refine keeps_bind ?_ fun _ => ?_

theorem part175 : ∀ v21 v80_0 v100 v148 c_m2147483648_i32_118 k0_t21 v408 v411 v413 v864 v880 v901 v905 v1010, 𝕂 (k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v100 v148 c_m2147483648_i32_118 k0_t21 v408 v411 v413 v864 v880 v901 v905 v1010) := by
  intros; unfold k0_part175
  repeat' first | extract_lets | with_reducible exact keeps_pure _ | with_reducible exact keeps_load | with_reducible exact keeps_store | with_reducible refine keeps_bind ?_ fun _ => ?_

theorem part181 : ∀ v118 v124 k0_t21 v418 v421 v1090 v1106 v1207 v1211 v1232 v1234, 𝕂 (k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 k0_t21 v418 v421 v1090 v1106 v1207 v1211 v1232 v1234) := by
  intros; unfold k0_part181
  repeat' first | extract_lets | with_reducible exact keeps_pure _ | with_reducible exact keeps_load | with_reducible exact keeps_store | with_reducible refine keeps_bind ?_ fun _ => ?_

theorem part188 : ∀ v142 v148 k0_t22 arg41 arg42 v393 v396 v442 v446 v531, 𝕂 (k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v142 v148 k0_t22 arg41 arg42 v393 v396 v442 v446 v531) := by
  intros; unfold k0_part188
  repeat' first | extract_lets | with_reducible exact keeps_pure _ | with_reducible exact keeps_load | with_reducible exact keeps_store | with_reducible refine keeps_bind ?_ fun _ => ?_

theorem part194 : ∀ v112 v118 k0_t22 v403 v406 v615 v631 v748 v752 v756, 𝕂 (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t22 v403 v406 v615 v631 v748 v752 v756) := by
  intros; unfold k0_part194
  repeat' first | extract_lets | with_reducible exact keeps_pure _ | with_reducible exact keeps_load | with_reducible exact keeps_store | with_reducible refine keeps_bind ?_ fun _ => ?_

theorem part200 : ∀ v136 v142 k0_t22 v408 v411 v832 v848 v901 v905 v974, 𝕂 (k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 k0_t22 v408 v411 v832 v848 v901 v905 v974) := by
  intros; unfold k0_part200
  repeat' first | extract_lets | with_reducible exact keeps_pure _ | with_reducible exact keeps_load | with_reducible exact keeps_store | with_reducible refine keeps_bind ?_ fun _ => ?_

theorem part206 : ∀ arg1 v21 v100 v106 v112 k0_t22 v418 v421 v1074 v1191 v1196 v1197, 𝕂 (k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v100 v106 v112 k0_t22 v418 v421 v1074 v1191 v1196 v1197) := by
  intros; unfold k0_part206
  repeat' first | extract_lets | with_reducible exact keeps_pure _ | with_reducible exact keeps_load | with_reducible exact keeps_store | with_reducible refine keeps_bind ?_ fun _ => ?_

theorem part213 : ∀ v199 k0_t23 v393 v398 v403 v408 v413 v418 v482 v501 v502, 𝕂 (k0_part213 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v199 k0_t23 v393 v398 v403 v408 v413 v418 v482 v501 v502) := by
  intros; unfold k0_part213
  repeat' first | extract_lets | with_reducible exact keeps_pure _ | with_reducible exact keeps_load | with_reducible exact keeps_store | with_reducible refine keeps_bind ?_ fun _ => ?_

theorem part219 : ∀ v205 k0_t23 v393 v398 v403 v408 v411 v416 v421 v740 v743 v746, 𝕂 (k0_part219 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v205 k0_t23 v393 v398 v403 v408 v411 v416 v421 v740 v743 v746) := by
  intros; unfold k0_part219
  repeat' first | extract_lets | with_reducible exact keeps_pure _ | with_reducible exact keeps_load | with_reducible exact keeps_store | with_reducible refine keeps_bind ?_ fun _ => ?_

theorem part225 : ∀ k0_t23 v393 v396 v401 v406 v411 v416 v421 v943 v949 v955 v961 v967 v973 v988 v990, 𝕂 (k0_part225 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t23 v393 v396 v401 v406 v411 v416 v421 v943 v949 v955 v961 v967 v973 v988 v990) := by
  intros; unfold k0_part225
  repeat' first | extract_lets | with_reducible exact keeps_pure _ | with_reducible exact keeps_load | with_reducible exact keeps_store | with_reducible refine keeps_bind ?_ fun _ => ?_

theorem part231 : ∀ v199 k0_t24 v393 v398 v403 v408 v413 v418 v482 v501 v502, 𝕂 (k0_part231 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v199 k0_t24 v393 v398 v403 v408 v413 v418 v482 v501 v502) := by
  intros; unfold k0_part231
  repeat' first | extract_lets | with_reducible exact keeps_pure _ | with_reducible exact keeps_load | with_reducible exact keeps_store | with_reducible refine keeps_bind ?_ fun _ => ?_

theorem part237 : ∀ v205 k0_t24 v393 v398 v403 v408 v411 v416 v421 v740 v743 v746, 𝕂 (k0_part237 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v205 k0_t24 v393 v398 v403 v408 v411 v416 v421 v740 v743 v746) := by
  intros; unfold k0_part237
  repeat' first | extract_lets | with_reducible exact keeps_pure _ | with_reducible exact keeps_load | with_reducible exact keeps_store | with_reducible refine keeps_bind ?_ fun _ => ?_

theorem part243 : ∀ k0_t24 v393 v396 v401 v406 v411 v416 v421 v943 v949 v955 v961 v967 v973 v988 v990, 𝕂 (k0_part243 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t24 v393 v396 v401 v406 v411 v416 v421 v943 v949 v955 v961 v967 v973 v988 v990) := by
  intros; unfold k0_part243
  repeat' first | extract_lets | with_reducible exact keeps_pure _ | with_reducible exact keeps_load | with_reducible exact keeps_store | with_reducible refine keeps_bind ?_ fun _ => ?_

theorem part250 : ∀ v27, 𝕂 (k0_part250 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v27) := by
  intros; unfold k0_part250
  repeat' first | extract_lets | with_reducible exact keeps_pure _ | with_reducible exact keeps_load | with_reducible exact keeps_store | with_reducible refine keeps_bind ?_ fun _ => ?_

end Cert.Proof.Attn

end
-- ==== Proof.Attn.Leaf2.lean ====
/- The attention kernel's straight-line stretches keep what they are lent (2 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part2 : ∀ v64 v66 k0_t1 v396 v420 c16_i32_256, 𝕂 (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v64 v66 k0_t1 v396 v420 c16_i32_256) := by
  intros; unfold k0_part2
  repeat' first | extract_lets | with_reducible exact keeps_pure _ | with_reducible exact keeps_load | with_reducible exact keeps_store | with_reducible refine keeps_bind ?_ fun _ => ?_

theorem part8 : ∀ v21 v24 v64 v66 c_m2147483648_i32 k0_t1 v408 v416 v706 v707 v710, 𝕂 (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t1 v408 v416 v706 v707 v710) := by
  intros; unfold k0_part8
  repeat' first | extract_lets | with_reducible exact keeps_pure _ | with_reducible exact keeps_load | with_reducible exact keeps_store | with_reducible refine keeps_bind ?_ fun _ => ?_

theorem part14 : ∀ v66 v502 v510 v511 v514, 𝕂 (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v66 v502 v510 v511 v514) := by
  intros; unfold k0_part14
  repeat' first | extract_lets | with_reducible exact keeps_pure _ | with_reducible exact keeps_load | with_reducible exact keeps_store | with_reducible refine keeps_bind ?_ fun _ => ?_

theorem part20 : ∀ v64 v66 k0_t2 v421 v806, 𝕂 (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v64 v66 k0_t2 v421 v806) := by
  intros; unfold k0_part20
  repeat' first | extract_lets | with_reducible exact keeps_pure _ | with_reducible exact keeps_load | with_reducible exact keeps_store | with_reducible refine keeps_bind ?_ fun _ => ?_

theorem part28 : ∀ v438 v472 v482 v492 v502 v504 v505, 𝕂 (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v472 v482 v492 v502 v504 v505) := by
  intros; unfold k0_part28
  repeat' first | extract_lets | with_reducible exact keeps_pure _ | with_reducible exact keeps_load | with_reducible exact keeps_store | with_reducible refine keeps_bind ?_ fun _ => ?_

theorem part34 : ∀ c_m2147483648_i32_50 v438 v699 v712 v725 v740, 𝕂 (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v699 v712 v725 v740) := by
  intros; unfold k0_part34
  repeat' first | extract_lets | with_reducible exact keeps_pure _ | with_reducible exact keeps_load | with_reducible exact keeps_store | with_reducible refine keeps_bind ?_ fun _ => ?_

theorem part41 : ∀ v438 v441 v442 v452 v462 v466 c0_i32_278 v467, 𝕂 (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v441 v442 v452 v462 v466 c0_i32_278 v467) := by
  intros; unfold k0_part41
  repeat' first | extract_lets | with_reducible exact keeps_pure _ | with_reducible exact keeps_load | with_reducible exact keeps_store | with_reducible refine keeps_bind ?_ fun _ => ?_

theorem part47 : ∀ c_m2147483648_i32_50 v438 v650 v663 v676 v689 v701, 𝕂 (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v650 v663 v676 v689 v701) := by
  intros; unfold k0_part47
  repeat' first | extract_lets | with_reducible exact keeps_pure _ | with_reducible exact keeps_load | with_reducible exact keeps_store | with_reducible refine keeps_bind ?_ fun _ => ?_

theorem part55 : ∀ v435 v438 v439 v449 v459 v463 c0_i32_276 v464, 𝕂 (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v435 v438 v439 v449 v459 v463 c0_i32_276 v464) := by
  intros; unfold k0_part55
  repeat' first | extract_lets | with_reducible exact keeps_pure _ | with_reducible exact keeps_load | with_reducible exact keeps_store | with_reducible refine keeps_bind ?_ fun _ => ?_

theorem part61 : ∀ c_m2147483648_i32_50 v435 v650 v663 v676 v699, 𝕂 (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v435 v650 v663 v676 v699) := by
  intros; unfold k0_part61
  repeat' first | extract_lets | with_reducible exact keeps_pure _ | with_reducible exact keeps_load | with_reducible exact keeps_store | with_reducible refine keeps_bind ?_ fun _ => ?_

theorem part68 : ∀ v432 v435 v436 v446 v456 v460 c0_i32_274 v461, 𝕂 (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v432 v435 v436 v446 v456 v460 c0_i32_274 v461) := by
  intros; unfold k0_part68
  repeat' first | extract_lets | with_reducible exact keeps_pure _ | with_reducible exact keeps_load | with_reducible exact keeps_store | with_reducible refine keeps_bind ?_ fun _ => ?_

theorem part74 : ∀ c_m2147483648_i32_50 v432 v650 v663 v676 v696 c1_i32_387 c0_i32_388, 𝕂 (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v432 v650 v663 v676 v696 c1_i32_387 c0_i32_388) := by
  intros; unfold k0_part74
  repeat' first | extract_lets | with_reducible exact keeps_pure _ | with_reducible exact keeps_load | with_reducible exact keeps_store | with_reducible refine keeps_bind ?_ fun _ => ?_

theorem part81 : ∀ v429 v503 v513 v523 v533, 𝕂 (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v429 v503 v513 v523 v533) := by
  intros; unfold k0_part81
  repeat' first | extract_lets | with_reducible exact keeps_pure _ | with_reducible exact keeps_load | with_reducible exact keeps_store | with_reducible refine keeps_bind ?_ fun _ => ?_

theorem part87 : ∀ v726 v729 v730 v740 v750 v754 v755 v756, 𝕂 (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v726 v729 v730 v740 v750 v754 v755 v756) := by
  intros; unfold k0_part87
  repeat' first | extract_lets | with_reducible exact keeps_pure _ | with_reducible exact keeps_load | with_reducible exact keeps_store | with_reducible refine keeps_bind ?_ fun _ => ?_

theorem part94 : ∀ c_m2147483648_i32_50 v426 v572 v585 v598, 𝕂 (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v426 v572 v585 v598) := by
  intros; unfold k0_part94
  repeat' first | extract_lets | with_reducible exact keeps_pure _ | with_reducible exact keeps_load | with_reducible exact keeps_store | with_reducible refine keeps_bind ?_ fun _ => ?_

theorem part101 : ∀ v423 v457 v467 v477 v487 v489 v490, 𝕂 (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v423 v457 v467 v477 v487 v489 v490) := by
  intros; unfold k0_part101
  repeat' first | extract_lets | with_reducible exact keeps_pure _ | with_reducible exact keeps_load | with_reducible exact keeps_store | with_reducible refine keeps_bind ?_ fun _ => ?_

theorem part107 : ∀ v674 v677 v678 v688 v698 v702 v703 v704, 𝕂 (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v674 v677 v678 v688 v698 v702 v703 v704) := by
  intros; unfold k0_part107
  repeat' first | extract_lets | with_reducible exact keeps_pure _ | with_reducible exact keeps_load | with_reducible exact keeps_store | with_reducible refine keeps_bind ?_ fun _ => ?_

theorem part114 : ∀ c_m2147483648_i32_50 v420 v559 v572 v585 v605 c0_i32_342 v606, 𝕂 (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v420 v559 v572 v585 v605 c0_i32_342 v606) := by
  intros; unfold k0_part114
  repeat' first | extract_lets | with_reducible exact keeps_pure _ | with_reducible exact keeps_load | with_reducible exact keeps_store | with_reducible refine keeps_bind ?_ fun _ => ?_

theorem part121 : ∀ c_m2147483648_i32_50 v417 v520 v533 v546 v561 v563, 𝕂 (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v417 v520 v533 v546 v561 v563) := by
  intros; unfold k0_part121
  repeat' first | extract_lets | with_reducible exact keeps_pure _ | with_reducible exact keeps_load | with_reducible exact keeps_store | with_reducible refine keeps_bind ?_ fun _ => ?_

theorem part128 : ∀ c_m2147483648_i32_50 v414 v520 v533 v546 v560, 𝕂 (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v414 v520 v533 v546 v560) := by
  intros; unfold k0_part128
  repeat' first | extract_lets | with_reducible exact keeps_pure _ | with_reducible exact keeps_load | with_reducible exact keeps_store | with_reducible refine keeps_bind ?_ fun _ => ?_

theorem part135 : ∀ c_m2147483648_i32_50 c0_i32_237 c1_i32_238 k0_t14 arg36, 𝕂 (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_237 c1_i32_238 k0_t14 arg36) := by
  intros; unfold k0_part135
  repeat' first | extract_lets | with_reducible exact keeps_pure _ | with_reducible exact keeps_load | with_reducible exact keeps_store | with_reducible refine keeps_bind ?_ fun _ => ?_

theorem part143 : ∀ c_m2147483648_i32_50 v405 v408 v409 v419 v429 v433 c0_i32_256 v434, 𝕂 (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v405 v408 v409 v419 v429 v433 c0_i32_256 v434) := by
  intros; unfold k0_part143
  repeat' first | extract_lets | with_reducible exact keeps_pure _ | with_reducible exact keeps_load | with_reducible exact keeps_store | with_reducible refine keeps_bind ?_ fun _ => ?_

theorem part152 : ∀ c0_i32_234 c1_i32_236 k0_t19, 𝕂 (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c0_i32_234 c1_i32_236 k0_t19) := by
  intros; unfold k0_part152
  repeat' first | extract_lets | with_reducible exact keeps_pure _ | with_reducible exact keeps_load | with_reducible exact keeps_store | with_reducible refine keeps_bind ?_ fun _ => ?_

theorem part158 : ∀ c0_i32_119 c1_i32_121 k0_t21, 𝕂 (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c0_i32_119 c1_i32_121 k0_t21) := by
  intros; unfold k0_part158
  repeat' first | extract_lets | with_reducible exact keeps_pure _ | with_reducible exact keeps_load | with_reducible exact keeps_store | with_reducible refine keeps_bind ?_ fun _ => ?_

theorem part164 : ∀ v112 v118 k0_t21 v398 v401 v462 v478 v595 v599 v608, 𝕂 (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t21 v398 v401 v462 v478 v595 v599 v608) := by
  intros; unfold k0_part164
  repeat' first | extract_lets | with_reducible exact keeps_pure _ | with_reducible exact keeps_load | with_reducible exact keeps_store | with_reducible refine keeps_bind ?_ fun _ => ?_

theorem part170 : ∀ v136 v142 k0_t21 v403 v406 v679 v695 v748 v752 v825 v827, 𝕂 (k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 k0_t21 v403 v406 v679 v695 v748 v752 v825 v827) := by
  intros; unfold k0_part170
  repeat' first | extract_lets | with_reducible exact keeps_pure _ | with_reducible exact keeps_load | with_reducible exact keeps_store | with_reducible refine keeps_bind ?_ fun _ => ?_

theorem part176 : ∀ arg1 v106 v112 k0_t21 v413 v416 v921 v1050 cst_606 v1051, 𝕂 (k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v106 v112 k0_t21 v413 v416 v921 v1050 cst_606 v1051) := by
  intros; unfold k0_part176
  repeat' first | extract_lets | with_reducible exact keeps_pure _ | with_reducible exact keeps_load | with_reducible exact keeps_store | with_reducible refine keeps_bind ?_ fun _ => ?_

theorem part182 : ∀ v130 v136 k0_t21 v418 v421 v1122 v1138 v1207 v1211 v1268 v1270, 𝕂 (k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v130 v136 k0_t21 v418 v421 v1122 v1138 v1207 v1211 v1268 v1270) := by
  intros; unfold k0_part182
  repeat' first | extract_lets | with_reducible exact keeps_pure _ | with_reducible exact keeps_load | with_reducible exact keeps_store | with_reducible refine keeps_bind ?_ fun _ => ?_

theorem part189 : ∀ arg1 v21 v80_0 v100 v106 c_m2147483648_i32_118 k0_t22 arg43 v398 v401 v567, 𝕂 (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t22 arg43 v398 v401 v567) := by
  intros; unfold k0_part189
  repeat' first | extract_lets | with_reducible exact keeps_pure _ | with_reducible exact keeps_load | with_reducible exact keeps_store | with_reducible refine keeps_bind ?_ fun _ => ?_

theorem part195 : ∀ v124 v130 k0_t22 v403 v406 v647 v663 v748 v752 v789 v791, 𝕂 (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 k0_t22 v403 v406 v647 v663 v748 v752 v789 v791) := by
  intros; unfold k0_part195
  repeat' first | extract_lets | with_reducible exact keeps_pure _ | with_reducible exact keeps_load | with_reducible exact keeps_store | with_reducible refine keeps_bind ?_ fun _ => ?_

theorem part201 : ∀ v21 v80_0 v100 v148 c_m2147483648_i32_118 k0_t22 v408 v411 v413 v864 v880 v901 v905 v1010, 𝕂 (k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v100 v148 c_m2147483648_i32_118 k0_t22 v408 v411 v413 v864 v880 v901 v905 v1010) := by
  intros; unfold k0_part201
  repeat' first | extract_lets | with_reducible exact keeps_pure _ | with_reducible exact keeps_load | with_reducible exact keeps_store | with_reducible refine keeps_bind ?_ fun _ => ?_

theorem part207 : ∀ v118 v124 k0_t22 v418 v421 v1090 v1106 v1207 v1211 v1232 v1234, 𝕂 (k0_part207 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 k0_t22 v418 v421 v1090 v1106 v1207 v1211 v1232 v1234) := by
  intros; unfold k0_part207
  repeat' first | extract_lets | with_reducible exact keeps_pure _ | with_reducible exact keeps_load | with_reducible exact keeps_store | with_reducible refine keeps_bind ?_ fun _ => ?_

theorem part214 : ∀ k0_t23 arg37 v396 v401 v406 v411 v416 v421 v513 v519 v525 v531 v537 v543 v545, 𝕂 (k0_part214 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t23 arg37 v396 v401 v406 v411 v416 v421 v513 v519 v525 v531 v537 v543 v545) := by
  intros; unfold k0_part214
  repeat' first | extract_lets | with_reducible exact keeps_pure _ | with_reducible exact keeps_load | with_reducible exact keeps_store | with_reducible refine keeps_bind ?_ fun _ => ?_

theorem part220 : ∀ v205 k0_t23 arg40 v396 v401 v413 v418 v771 v777 v783, 𝕂 (k0_part220 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v205 k0_t23 arg40 v396 v401 v413 v418 v771 v777 v783) := by
  intros; unfold k0_part220
  repeat' first | extract_lets | with_reducible exact keeps_pure _ | with_reducible exact keeps_load | with_reducible exact keeps_store | with_reducible refine keeps_bind ?_ fun _ => ?_

theorem part226 : ∀ v211 k0_t23 arg43 v398 v403 v408 v413 v418, 𝕂 (k0_part226 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v211 k0_t23 arg43 v398 v403 v408 v413 v418) := by
  intros; unfold k0_part226
  repeat' first | extract_lets | with_reducible exact keeps_pure _ | with_reducible exact keeps_load | with_reducible exact keeps_store | with_reducible refine keeps_bind ?_ fun _ => ?_

theorem part232 : ∀ k0_t24 arg37 v396 v401 v406 v411 v416 v421 v513 v519 v525 v531 v537 v543 v545, 𝕂 (k0_part232 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t24 arg37 v396 v401 v406 v411 v416 v421 v513 v519 v525 v531 v537 v543 v545) := by
  intros; unfold k0_part232
  repeat' first | extract_lets | with_reducible exact keeps_pure _ | with_reducible exact keeps_load | with_reducible exact keeps_store | with_reducible refine keeps_bind ?_ fun _ => ?_

theorem part238 : ∀ v205 k0_t24 arg40 v396 v401 v413 v418 v771 v777 v783, 𝕂 (k0_part238 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v205 k0_t24 arg40 v396 v401 v413 v418 v771 v777 v783) := by
  intros; unfold k0_part238
  repeat' first | extract_lets | with_reducible exact keeps_pure _ | with_reducible exact keeps_load | with_reducible exact keeps_store | with_reducible refine keeps_bind ?_ fun _ => ?_

theorem part244 : ∀ v211 k0_t24 arg43 v398 v403 v408 v413 v418, 𝕂 (k0_part244 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v211 k0_t24 arg43 v398 v403 v408 v413 v418) := by
  intros; unfold k0_part244
  repeat' first | extract_lets | with_reducible exact keeps_pure _ | with_reducible exact keeps_load | with_reducible exact keeps_store | with_reducible refine keeps_bind ?_ fun _ => ?_

theorem part251 : ∀ v27, 𝕂 (k0_part251 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v27) := by
  intros; unfold k0_part251
  repeat' first | extract_lets | with_reducible exact keeps_pure _ | with_reducible exact keeps_load | with_reducible exact keeps_store | with_reducible refine keeps_bind ?_ fun _ => ?_

end Cert.Proof.Attn

end
-- ==== Proof.Attn.Leaf3.lean ====
/- The attention kernel's straight-line stretches keep what they are lent (3 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part3 : ∀ v21 v24 v64 v66 c_m2147483648_i32 k0_t1 v393 v401 v425 v468 v469, 𝕂 (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t1 v393 v401 v425 v468 v469) := by
  intros; unfold k0_part3
  repeat' first | extract_lets | with_reducible exact keeps_pure _ | with_reducible exact keeps_load | with_reducible exact keeps_store | with_reducible refine keeps_bind ?_ fun _ => ?_

theorem part9 : ∀ v21 v24 v66 c_m2147483648_i32 k0_t1 v413 v733 v755 v756, 𝕂 (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v66 c_m2147483648_i32 k0_t1 v413 v733 v755 v756) := by
  intros; unfold k0_part9
  repeat' first | extract_lets | with_reducible exact keeps_pure _ | with_reducible exact keeps_load | with_reducible exact keeps_store | with_reducible refine keeps_bind ?_ fun _ => ?_

theorem part15 : ∀ v21 v24 v64 v66 c_m2147483648_i32 k0_t2 v398 v406 v565 c128_i32_289, 𝕂 (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t2 v398 v406 v565 c128_i32_289) := by
  intros; unfold k0_part15
  repeat' first | extract_lets | with_reducible exact keeps_pure _ | with_reducible exact keeps_load | with_reducible exact keeps_store | with_reducible refine keeps_bind ?_ fun _ => ?_

theorem part21 : ∀ c_m2147483648_i32_50 c0_i32_257 c1_i32_258 k0_t3 arg36, 𝕂 (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_257 c1_i32_258 k0_t3 arg36) := by
  intros; unfold k0_part21
  repeat' first | extract_lets | with_reducible exact keeps_pure _ | with_reducible exact keeps_load | with_reducible exact keeps_store | with_reducible refine keeps_bind ?_ fun _ => ?_

theorem part29 : ∀ v438 v512 v522 v532, 𝕂 (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v512 v522 v532) := by
  intros; unfold k0_part29
  repeat' first | extract_lets | with_reducible exact keeps_pure _ | with_reducible exact keeps_load | with_reducible exact keeps_store | with_reducible refine keeps_bind ?_ fun _ => ?_

theorem part35 : ∀ c_m2147483648_i32_50 v438 v738 v751 v764 v779 v781 v782, 𝕂 (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v738 v751 v764 v779 v781 v782) := by
  intros; unfold k0_part35
  repeat' first | extract_lets | with_reducible exact keeps_pure _ | with_reducible exact keeps_load | with_reducible exact keeps_store | with_reducible refine keeps_bind ?_ fun _ => ?_

theorem part42 : ∀ v438 v472 v482 v492 v502 v504 v505, 𝕂 (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v472 v482 v492 v502 v504 v505) := by
  intros; unfold k0_part42
  repeat' first | extract_lets | with_reducible exact keeps_pure _ | with_reducible exact keeps_load | with_reducible exact keeps_store | with_reducible refine keeps_bind ?_ fun _ => ?_

theorem part48 : ∀ c_m2147483648_i32_50 v438 v702 v715 v728, 𝕂 (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v702 v715 v728) := by
  intros; unfold k0_part48
  repeat' first | extract_lets | with_reducible exact keeps_pure _ | with_reducible exact keeps_load | with_reducible exact keeps_store | with_reducible refine keeps_bind ?_ fun _ => ?_

theorem part56 : ∀ v435 v469 v479 v489 v499 v501 v502, 𝕂 (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v435 v469 v479 v489 v499 v501 v502) := by
  intros; unfold k0_part56
  repeat' first | extract_lets | with_reducible exact keeps_pure _ | with_reducible exact keeps_load | with_reducible exact keeps_store | with_reducible refine keeps_bind ?_ fun _ => ?_

theorem part62 : ∀ c_m2147483648_i32_50 v435 v689 v702 v715 v728 v740, 𝕂 (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v435 v689 v702 v715 v728 v740) := by
  intros; unfold k0_part62
  repeat' first | extract_lets | with_reducible exact keeps_pure _ | with_reducible exact keeps_load | with_reducible exact keeps_store | with_reducible refine keeps_bind ?_ fun _ => ?_

theorem part69 : ∀ v432 v466 v476 v486 v496 v498 v499, 𝕂 (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v432 v466 v476 v486 v496 v498 v499) := by
  intros; unfold k0_part69
  repeat' first | extract_lets | with_reducible exact keeps_pure _ | with_reducible exact keeps_load | with_reducible exact keeps_store | with_reducible refine keeps_bind ?_ fun _ => ?_

theorem part75 : ∀ c_m2147483648_i32_50 c0_i32_251 c1_i32_252 k0_t7 arg36, 𝕂 (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_251 c1_i32_252 k0_t7 arg36) := by
  intros; unfold k0_part75
  repeat' first | extract_lets | with_reducible exact keeps_pure _ | with_reducible exact keeps_load | with_reducible exact keeps_store | with_reducible refine keeps_bind ?_ fun _ => ?_

theorem part82 : ∀ c_m2147483648_i32_50 v429 v569 v570 v571, 𝕂 (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v429 v569 v570 v571) := by
  intros; unfold k0_part82
  repeat' first | extract_lets | with_reducible exact keeps_pure _ | with_reducible exact keeps_load | with_reducible exact keeps_store | with_reducible refine keeps_bind ?_ fun _ => ?_

theorem part88 : ∀ v726 v760 v770 v780 v790 v794, 𝕂 (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v726 v760 v770 v780 v790 v794) := by
  intros; unfold k0_part88
  repeat' first | extract_lets | with_reducible exact keeps_pure _ | with_reducible exact keeps_load | with_reducible exact keeps_store | with_reducible refine keeps_bind ?_ fun _ => ?_

theorem part95 : ∀ c_m2147483648_i32_50 v426 v611 v624 v637, 𝕂 (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v426 v611 v624 v637) := by
  intros; unfold k0_part95
  repeat' first | extract_lets | with_reducible exact keeps_pure _ | with_reducible exact keeps_load | with_reducible exact keeps_store | with_reducible refine keeps_bind ?_ fun _ => ?_

theorem part102 : ∀ c_m2147483648_i32_50 v423 v497 v507 v517 v527, 𝕂 (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v423 v497 v507 v517 v527) := by
  intros; unfold k0_part102
  repeat' first | extract_lets | with_reducible exact keeps_pure _ | with_reducible exact keeps_load | with_reducible exact keeps_store | with_reducible refine keeps_bind ?_ fun _ => ?_

theorem part108 : ∀ v674 v708 v718 v728 v738 v742, 𝕂 (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v674 v708 v718 v728 v738 v742) := by
  intros; unfold k0_part108
  repeat' first | extract_lets | with_reducible exact keeps_pure _ | with_reducible exact keeps_load | with_reducible exact keeps_store | with_reducible refine keeps_bind ?_ fun _ => ?_

theorem part115 : ∀ c_m2147483648_i32_50 c0_i32_243 c1_i32_244 k0_t11 arg36, 𝕂 (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_243 c1_i32_244 k0_t11 arg36) := by
  intros; unfold k0_part115
  repeat' first | extract_lets | with_reducible exact keeps_pure _ | with_reducible exact keeps_load | with_reducible exact keeps_store | with_reducible refine keeps_bind ?_ fun _ => ?_

theorem part122 : ∀ c_m2147483648_i32_50 c0_i32_241 c1_i32_242 k0_t12 arg36, 𝕂 (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_241 c1_i32_242 k0_t12 arg36) := by
  intros; unfold k0_part122
  repeat' first | extract_lets | with_reducible exact keeps_pure _ | with_reducible exact keeps_load | with_reducible exact keeps_store | with_reducible refine keeps_bind ?_ fun _ => ?_

theorem part129 : ∀ c_m2147483648_i32_50 c0_i32_239 c1_i32_240 k0_t13 arg36, 𝕂 (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_239 c1_i32_240 k0_t13 arg36) := by
  intros; unfold k0_part129
  repeat' first | extract_lets | with_reducible exact keeps_pure _ | with_reducible exact keeps_load | with_reducible exact keeps_store | with_reducible refine keeps_bind ?_ fun _ => ?_

theorem part136 : ∀ v570 v573 v574 v584 v594 v598 v599 v600, 𝕂 (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v570 v573 v574 v584 v594 v598 v599 v600) := by
  intros; unfold k0_part136
  repeat' first | extract_lets | with_reducible exact keeps_pure _ | with_reducible exact keeps_load | with_reducible exact keeps_store | with_reducible refine keeps_bind ?_ fun _ => ?_

theorem part144 : ∀ c_m2147483648_i32_50 v405 v465 v466 v467 v470 v472 v473, 𝕂 (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v405 v465 v466 v467 v470 v472 v473) := by
  intros; unfold k0_part144
  repeat' first | extract_lets | with_reducible exact keeps_pure _ | with_reducible exact keeps_load | with_reducible exact keeps_store | with_reducible refine keeps_bind ?_ fun _ => ?_

theorem part153 : ∀ v21 v80_0 v398 k0_t19 arg38 v412 v417 v422 v439 c16_i32_267, 𝕂 (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v398 k0_t19 arg38 v412 v417 v422 v439 c16_i32_267) := by
  intros; unfold k0_part153
  repeat' first | extract_lets | with_reducible exact keeps_pure _ | with_reducible exact keeps_load | with_reducible exact keeps_store | with_reducible refine keeps_bind ?_ fun _ => ?_

theorem part159 : ∀ arg1 v21 v80_0 v100 v106 c_m2147483648_i32_118 k0_t21 v393 v396 v420 c16_i32_256, 𝕂 (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t21 v393 v396 v420 c16_i32_256) := by
  intros; unfold k0_part159
  repeat' first | extract_lets | with_reducible exact keeps_pure _ | with_reducible exact keeps_load | with_reducible exact keeps_store | with_reducible refine keeps_bind ?_ fun _ => ?_

theorem part165 : ∀ v124 v130 k0_t21 v398 v401 v494 v510 v526 v595 v599 v640, 𝕂 (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 k0_t21 v398 v401 v494 v510 v526 v595 v599 v640) := by
  intros; unfold k0_part165
  repeat' first | extract_lets | with_reducible exact keeps_pure _ | with_reducible exact keeps_load | with_reducible exact keeps_store | with_reducible refine keeps_bind ?_ fun _ => ?_

theorem part171 : ∀ arg1 v21 v80_0 v100 v148 c_m2147483648_i32_118 k0_t21 v403 v406 v408 v711 v727 v748 v752 v863, 𝕂 (k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v148 c_m2147483648_i32_118 k0_t21 v403 v406 v408 v711 v727 v748 v752 v863) := by
  intros; unfold k0_part171
  repeat' first | extract_lets | with_reducible exact keeps_pure _ | with_reducible exact keeps_load | with_reducible exact keeps_store | with_reducible refine keeps_bind ?_ fun _ => ?_

theorem part177 : ∀ v118 v124 k0_t21 v413 v416 v937 v953 v969 v1054 v1058 v1083, 𝕂 (k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 k0_t21 v413 v416 v937 v953 v969 v1054 v1058 v1083) := by
  intros; unfold k0_part177
  repeat' first | extract_lets | with_reducible exact keeps_pure _ | with_reducible exact keeps_load | with_reducible exact keeps_store | with_reducible refine keeps_bind ?_ fun _ => ?_

theorem part184 : ∀ v193 c1_i32_122 k0_t22, 𝕂 (k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v193 c1_i32_122 k0_t22) := by
  intros; unfold k0_part184
  repeat' first | extract_lets | with_reducible exact keeps_pure _ | with_reducible exact keeps_load | with_reducible exact keeps_store | with_reducible refine keeps_bind ?_ fun _ => ?_

theorem part190 : ∀ v112 v118 k0_t22 v398 v401 v462 v478 v595 v599 v608, 𝕂 (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t22 v398 v401 v462 v478 v595 v599 v608) := by
  intros; unfold k0_part190
  repeat' first | extract_lets | with_reducible exact keeps_pure _ | with_reducible exact keeps_load | with_reducible exact keeps_store | with_reducible refine keeps_bind ?_ fun _ => ?_

theorem part196 : ∀ v136 v142 k0_t22 v403 v406 v679 v695 v748 v752 v825 v827, 𝕂 (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 k0_t22 v403 v406 v679 v695 v748 v752 v825 v827) := by
  intros; unfold k0_part196
  repeat' first | extract_lets | with_reducible exact keeps_pure _ | with_reducible exact keeps_load | with_reducible exact keeps_store | with_reducible refine keeps_bind ?_ fun _ => ?_

theorem part202 : ∀ arg1 v106 v112 k0_t22 v413 v416 v921 v1050 cst_606 v1051, 𝕂 (k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v106 v112 k0_t22 v413 v416 v921 v1050 cst_606 v1051) := by
  intros; unfold k0_part202
  repeat' first | extract_lets | with_reducible exact keeps_pure _ | with_reducible exact keeps_load | with_reducible exact keeps_store | with_reducible refine keeps_bind ?_ fun _ => ?_

theorem part208 : ∀ v130 v136 k0_t22 v418 v421 v1122 v1138 v1207 v1211 v1268 v1270, 𝕂 (k0_part208 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v130 v136 k0_t22 v418 v421 v1122 v1138 v1207 v1211 v1268 v1270) := by
  intros; unfold k0_part208
  repeat' first | extract_lets | with_reducible exact keeps_pure _ | with_reducible exact keeps_load | with_reducible exact keeps_store | with_reducible refine keeps_bind ?_ fun _ => ?_

theorem part215 : ∀ v201 k0_t23 v393 v398 v403 v408 v413 v418 v568 v571 v574 v577 v580 v583, 𝕂 (k0_part215 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v201 k0_t23 v393 v398 v403 v408 v413 v418 v568 v571 v574 v577 v580 v583) := by
  intros; unfold k0_part215
  repeat' first | extract_lets | with_reducible exact keeps_pure _ | with_reducible exact keeps_load | with_reducible exact keeps_store | with_reducible refine keeps_bind ?_ fun _ => ?_

theorem part221 : ∀ v207 k0_t23 v393 v398 v403 v406 v411 v416 v421 v826 v829, 𝕂 (k0_part221 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v207 k0_t23 v393 v398 v403 v406 v411 v416 v421 v826 v829) := by
  intros; unfold k0_part221
  repeat' first | extract_lets | with_reducible exact keeps_pure _ | with_reducible exact keeps_load | with_reducible exact keeps_store | with_reducible refine keeps_bind ?_ fun _ => ?_

theorem part227 : ∀ k0_t23 v396 v401 v406 v411 v416 v421 v1029 v1035 v1041 v1047 v1053 v1059 v1068 v1070, 𝕂 (k0_part227 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t23 v396 v401 v406 v411 v416 v421 v1029 v1035 v1041 v1047 v1053 v1059 v1068 v1070) := by
  intros; unfold k0_part227
  repeat' first | extract_lets | with_reducible exact keeps_pure _ | with_reducible exact keeps_load | with_reducible exact keeps_store | with_reducible refine keeps_bind ?_ fun _ => ?_

theorem part233 : ∀ v201 k0_t24 v393 v398 v403 v408 v413 v418 v568 v571 v574 v577 v580 v583, 𝕂 (k0_part233 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v201 k0_t24 v393 v398 v403 v408 v413 v418 v568 v571 v574 v577 v580 v583) := by
  intros; unfold k0_part233
  repeat' first | extract_lets | with_reducible exact keeps_pure _ | with_reducible exact keeps_load | with_reducible exact keeps_store | with_reducible refine keeps_bind ?_ fun _ => ?_

theorem part239 : ∀ v207 k0_t24 v393 v398 v403 v406 v411 v416 v421 v826 v829, 𝕂 (k0_part239 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v207 k0_t24 v393 v398 v403 v406 v411 v416 v421 v826 v829) := by
  intros; unfold k0_part239
  repeat' first | extract_lets | with_reducible exact keeps_pure _ | with_reducible exact keeps_load | with_reducible exact keeps_store | with_reducible refine keeps_bind ?_ fun _ => ?_

theorem part245 : ∀ k0_t24 v396 v401 v406 v411 v416 v421 v1029 v1035 v1041 v1047 v1053 v1059 v1068 v1070, 𝕂 (k0_part245 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t24 v396 v401 v406 v411 v416 v421 v1029 v1035 v1041 v1047 v1053 v1059 v1068 v1070) := by
  intros; unfold k0_part245
  repeat' first | extract_lets | with_reducible exact keeps_pure _ | with_reducible exact keeps_load | with_reducible exact keeps_store | with_reducible refine keeps_bind ?_ fun _ => ?_

theorem part254 : ∀ v226_1 v226_2 v226_3 v226_4, 𝕂 (k0_part254 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v226_1 v226_2 v226_3 v226_4) := by
  intros; unfold k0_part254
  repeat' first | extract_lets | with_reducible exact keeps_pure _ | with_reducible exact keeps_load | with_reducible exact keeps_store | with_reducible refine keeps_bind ?_ fun _ => ?_

end Cert.Proof.Attn

end
-- ==== Proof.Attn.Leaf4.lean ====
/- The attention kernel's straight-line stretches keep what they are lent (4 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part4 : ∀ v66 v502 v510 v511 v514, 𝕂 (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v66 v502 v510 v511 v514) := by
  intros; unfold k0_part4
  repeat' first | extract_lets | with_reducible exact keeps_pure _ | with_reducible exact keeps_load | with_reducible exact keeps_store | with_reducible refine keeps_bind ?_ fun _ => ?_

theorem part10 : ∀ v64 v66 k0_t1 v421 v806, 𝕂 (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v64 v66 k0_t1 v421 v806) := by
  intros; unfold k0_part10
  repeat' first | extract_lets | with_reducible exact keeps_pure _ | with_reducible exact keeps_load | with_reducible exact keeps_store | with_reducible refine keeps_bind ?_ fun _ => ?_

theorem part16 : ∀ v21 v24 v64 v66 c_m2147483648_i32 k0_t2 v403 v411 v579 v608 v609 v612, 𝕂 (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t2 v403 v411 v579 v608 v609 v612) := by
  intros; unfold k0_part16
  repeat' first | extract_lets | with_reducible exact keeps_pure _ | with_reducible exact keeps_load | with_reducible exact keeps_store | with_reducible refine keeps_bind ?_ fun _ => ?_

theorem part22 : ∀ v853 v856 v857 v867 v877 v881 v882 v883, 𝕂 (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v853 v856 v857 v867 v877 v881 v882 v883) := by
  intros; unfold k0_part22
  repeat' first | extract_lets | with_reducible exact keeps_pure _ | with_reducible exact keeps_load | with_reducible exact keeps_store | with_reducible refine keeps_bind ?_ fun _ => ?_

theorem part30 : ∀ v438 v542 v552 v562 v572 v580, 𝕂 (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v542 v552 v562 v572 v580) := by
  intros; unfold k0_part30
  repeat' first | extract_lets | with_reducible exact keeps_pure _ | with_reducible exact keeps_load | with_reducible exact keeps_store | with_reducible refine keeps_bind ?_ fun _ => ?_

theorem part36 : ∀ c_m2147483648_i32_50 c0_i32_257 c1_i32_258 k0_t4 arg36, 𝕂 (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_257 c1_i32_258 k0_t4 arg36) := by
  intros; unfold k0_part36
  repeat' first | extract_lets | with_reducible exact keeps_pure _ | with_reducible exact keeps_load | with_reducible exact keeps_store | with_reducible refine keeps_bind ?_ fun _ => ?_

theorem part43 : ∀ v438 v512 v522 v532, 𝕂 (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v438 v512 v522 v532) := by
  intros; unfold k0_part43
  repeat' first | extract_lets | with_reducible exact keeps_pure _ | with_reducible exact keeps_load | with_reducible exact keeps_store | with_reducible refine keeps_bind ?_ fun _ => ?_

theorem part50 : ∀ c_m2147483648_i32_50 c0_i32_255 c1_i32_256 k0_t5 arg36, 𝕂 (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_255 c1_i32_256 k0_t5 arg36) := by
  intros; unfold k0_part50
  repeat' first | extract_lets | with_reducible exact keeps_pure _ | with_reducible exact keeps_load | with_reducible exact keeps_store | with_reducible refine keeps_bind ?_ fun _ => ?_

theorem part57 : ∀ v435 v509 v519 v529, 𝕂 (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v435 v509 v519 v529) := by
  intros; unfold k0_part57
  repeat' first | extract_lets | with_reducible exact keeps_pure _ | with_reducible exact keeps_load | with_reducible exact keeps_store | with_reducible refine keeps_bind ?_ fun _ => ?_

theorem part63 : ∀ c_m2147483648_i32_50 c0_i32_253 c1_i32_254 k0_t6 arg36, 𝕂 (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_253 c1_i32_254 k0_t6 arg36) := by
  intros; unfold k0_part63
  repeat' first | extract_lets | with_reducible exact keeps_pure _ | with_reducible exact keeps_load | with_reducible exact keeps_store | with_reducible refine keeps_bind ?_ fun _ => ?_

theorem part70 : ∀ v432 v506 v516 v526, 𝕂 (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v432 v506 v516 v526) := by
  intros; unfold k0_part70
  repeat' first | extract_lets | with_reducible exact keeps_pure _ | with_reducible exact keeps_load | with_reducible exact keeps_store | with_reducible refine keeps_bind ?_ fun _ => ?_

theorem part76 : ∀ v752 v755 v756 v766 v776 v780 v781 v782, 𝕂 (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v752 v755 v756 v766 v776 v780 v781 v782) := by
  intros; unfold k0_part76
  repeat' first | extract_lets | with_reducible exact keeps_pure _ | with_reducible exact keeps_load | with_reducible exact keeps_store | with_reducible refine keeps_bind ?_ fun _ => ?_

theorem part83 : ∀ c_m2147483648_i32_50 v429 v572 v585 v598, 𝕂 (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v429 v572 v585 v598) := by
  intros; unfold k0_part83
  repeat' first | extract_lets | with_reducible exact keeps_pure _ | with_reducible exact keeps_load | with_reducible exact keeps_store | with_reducible refine keeps_bind ?_ fun _ => ?_

theorem part90 : ∀ v426 v429 v430 v440 v450 v454 c0_i32_270 v455, 𝕂 (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v426 v429 v430 v440 v450 v454 c0_i32_270 v455) := by
  intros; unfold k0_part90
  repeat' first | extract_lets | with_reducible exact keeps_pure _ | with_reducible exact keeps_load | with_reducible exact keeps_store | with_reducible refine keeps_bind ?_ fun _ => ?_

theorem part96 : ∀ c_m2147483648_i32_50 c0_i32_247 c1_i32_248 k0_t9 arg36, 𝕂 (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_247 c1_i32_248 k0_t9 arg36) := by
  intros; unfold k0_part96
  repeat' first | extract_lets | with_reducible exact keeps_pure _ | with_reducible exact keeps_load | with_reducible exact keeps_store | with_reducible refine keeps_bind ?_ fun _ => ?_

theorem part103 : ∀ c_m2147483648_i32_50 v423 v544 v545 v546 v566 c0_i32_325 v567, 𝕂 (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v423 v544 v545 v546 v566 c0_i32_325 v567) := by
  intros; unfold k0_part103
  repeat' first | extract_lets | with_reducible exact keeps_pure _ | with_reducible exact keeps_load | with_reducible exact keeps_store | with_reducible refine keeps_bind ?_ fun _ => ?_

theorem part110 : ∀ v420 v423 v424 v434 v444 v448 c0_i32_266 v449, 𝕂 (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v420 v423 v424 v434 v444 v448 c0_i32_266 v449) := by
  intros; unfold k0_part110
  repeat' first | extract_lets | with_reducible exact keeps_pure _ | with_reducible exact keeps_load | with_reducible exact keeps_store | with_reducible refine keeps_bind ?_ fun _ => ?_

theorem part116 : ∀ v648 v651 v652 v662 v672 v676 v677 v678, 𝕂 (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v648 v651 v652 v662 v672 v676 v677 v678) := by
  intros; unfold k0_part116
  repeat' first | extract_lets | with_reducible exact keeps_pure _ | with_reducible exact keeps_load | with_reducible exact keeps_store | with_reducible refine keeps_bind ?_ fun _ => ?_

theorem part123 : ∀ v622 v625 v626 v636 v646 v650 v651 v652, 𝕂 (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v622 v625 v626 v636 v646 v650 v651 v652) := by
  intros; unfold k0_part123
  repeat' first | extract_lets | with_reducible exact keeps_pure _ | with_reducible exact keeps_load | with_reducible exact keeps_store | with_reducible refine keeps_bind ?_ fun _ => ?_

theorem part130 : ∀ v596 v599 v600 v610 v620 v624 v625 v626, 𝕂 (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v596 v599 v600 v610 v620 v624 v625 v626) := by
  intros; unfold k0_part130
  repeat' first | extract_lets | with_reducible exact keeps_pure _ | with_reducible exact keeps_load | with_reducible exact keeps_store | with_reducible refine keeps_bind ?_ fun _ => ?_

theorem part138 : ∀ v408 v411 v412 v422 v432 v436 c0_i32_258 v437, 𝕂 (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v408 v411 v412 v422 v432 v436 c0_i32_258 v437) := by
  intros; unfold k0_part138
  repeat' first | extract_lets | with_reducible exact keeps_pure _ | with_reducible exact keeps_load | with_reducible exact keeps_store | with_reducible refine keeps_bind ?_ fun _ => ?_

theorem part145 : ∀ c_m2147483648_i32_50 c0_i32_233 c1_i32_234 k0_t16 arg36, 𝕂 (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_233 c1_i32_234 k0_t16 arg36) := by
  intros; unfold k0_part145
  repeat' first | extract_lets | with_reducible exact keeps_pure _ | with_reducible exact keeps_load | with_reducible exact keeps_store | with_reducible refine keeps_bind ?_ fun _ => ?_

theorem part154 : ∀ v21 v80_0 v398 k0_t19 v427 v432 v437 v474 v479 v484, 𝕂 (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v398 k0_t19 v427 v432 v437 v474 v479 v484) := by
  intros; unfold k0_part154
  repeat' first | extract_lets | with_reducible exact keeps_pure _ | with_reducible exact keeps_load | with_reducible exact keeps_store | with_reducible refine keeps_bind ?_ fun _ => ?_

theorem part160 : ∀ v112 v118 k0_t21 arg36 arg37 arg38 v393 v396 v442 v446 v461, 𝕂 (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t21 arg36 arg37 arg38 v393 v396 v442 v446 v461) := by
  intros; unfold k0_part160
  repeat' first | extract_lets | with_reducible exact keeps_pure _ | with_reducible exact keeps_load | with_reducible exact keeps_store | with_reducible refine keeps_bind ?_ fun _ => ?_

theorem part166 : ∀ v136 v142 v148 k0_t21 v398 v401 v542 v558 v595 v599, 𝕂 (k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 v148 k0_t21 v398 v401 v542 v558 v595 v599) := by
  intros; unfold k0_part166
  repeat' first | extract_lets | with_reducible exact keeps_pure _ | with_reducible exact keeps_load | with_reducible exact keeps_store | with_reducible refine keeps_bind ?_ fun _ => ?_

theorem part172 : ∀ v106 v112 k0_t21 v408 v411 v768 v784 v901 c2_i32_521 v904, 𝕂 (k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v106 v112 k0_t21 v408 v411 v768 v784 v901 c2_i32_521 v904) := by
  intros; unfold k0_part172
  repeat' first | extract_lets | with_reducible exact keeps_pure _ | with_reducible exact keeps_load | with_reducible exact keeps_store | with_reducible refine keeps_bind ?_ fun _ => ?_

theorem part178 : ∀ v130 v136 v142 k0_t21 v413 v416 v985 v1001 v1054 v1058, 𝕂 (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v130 v136 v142 k0_t21 v413 v416 v985 v1001 v1054 v1058) := by
  intros; unfold k0_part178
  repeat' first | extract_lets | with_reducible exact keeps_pure _ | with_reducible exact keeps_load | with_reducible exact keeps_store | with_reducible refine keeps_bind ?_ fun _ => ?_

theorem part185 : ∀ arg1 v21 v80_0 v100 v106 c_m2147483648_i32_118 k0_t22 v393 v396 v420 c16_i32_256, 𝕂 (k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t22 v393 v396 v420 c16_i32_256) := by
  intros; unfold k0_part185
  repeat' first | extract_lets | with_reducible exact keeps_pure _ | with_reducible exact keeps_load | with_reducible exact keeps_store | with_reducible refine keeps_bind ?_ fun _ => ?_

theorem part191 : ∀ v124 v130 k0_t22 v398 v401 v494 v510 v526 v595 v599 v640, 𝕂 (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 k0_t22 v398 v401 v494 v510 v526 v595 v599 v640) := by
  intros; unfold k0_part191
  repeat' first | extract_lets | with_reducible exact keeps_pure _ | with_reducible exact keeps_load | with_reducible exact keeps_store | with_reducible refine keeps_bind ?_ fun _ => ?_

theorem part197 : ∀ arg1 v21 v80_0 v100 v148 c_m2147483648_i32_118 k0_t22 v403 v406 v408 v711 v727 v748 v752 v863, 𝕂 (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v148 c_m2147483648_i32_118 k0_t22 v403 v406 v408 v711 v727 v748 v752 v863) := by
  intros; unfold k0_part197
  repeat' first | extract_lets | with_reducible exact keeps_pure _ | with_reducible exact keeps_load | with_reducible exact keeps_store | with_reducible refine keeps_bind ?_ fun _ => ?_

theorem part203 : ∀ v118 v124 k0_t22 v413 v416 v937 v953 v969 v1054 v1058 v1083, 𝕂 (k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 k0_t22 v413 v416 v937 v953 v969 v1054 v1058 v1083) := by
  intros; unfold k0_part203
  repeat' first | extract_lets | with_reducible exact keeps_pure _ | with_reducible exact keeps_load | with_reducible exact keeps_store | with_reducible refine keeps_bind ?_ fun _ => ?_

theorem part210 : ∀ c0_i32_139 c1_i32_141 k0_t23, 𝕂 (k0_part210 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c0_i32_139 c1_i32_141 k0_t23) := by
  intros; unfold k0_part210
  repeat' first | extract_lets | with_reducible exact keeps_pure _ | with_reducible exact keeps_load | with_reducible exact keeps_store | with_reducible refine keeps_bind ?_ fun _ => ?_

theorem part216 : ∀ v201 k0_t23 arg38 v396 v401 v406 v411 v599 v605 v611 v617 v623, 𝕂 (k0_part216 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v201 k0_t23 arg38 v396 v401 v406 v411 v599 v605 v611 v617 v623) := by
  intros; unfold k0_part216
  repeat' first | extract_lets | with_reducible exact keeps_pure _ | with_reducible exact keeps_load | with_reducible exact keeps_store | with_reducible refine keeps_bind ?_ fun _ => ?_

theorem part222 : ∀ v207 k0_t23 arg41 v408 v413 v418 v857 v863, 𝕂 (k0_part222 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v207 k0_t23 arg41 v408 v413 v418 v857 v863) := by
  intros; unfold k0_part222
  repeat' first | extract_lets | with_reducible exact keeps_pure _ | with_reducible exact keeps_load | with_reducible exact keeps_store | with_reducible refine keeps_bind ?_ fun _ => ?_

theorem part228 : ∀ v224 c1_i32_142 k0_t24, 𝕂 (k0_part228 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v224 c1_i32_142 k0_t24) := by
  intros; unfold k0_part228
  repeat' first | extract_lets | with_reducible exact keeps_pure _ | with_reducible exact keeps_load | with_reducible exact keeps_store | with_reducible refine keeps_bind ?_ fun _ => ?_

theorem part234 : ∀ v201 k0_t24 arg38 v396 v401 v406 v411 v599 v605 v611 v617 v623, 𝕂 (k0_part234 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v201 k0_t24 arg38 v396 v401 v406 v411 v599 v605 v611 v617 v623) := by
  intros; unfold k0_part234
  repeat' first | extract_lets | with_reducible exact keeps_pure _ | with_reducible exact keeps_load | with_reducible exact keeps_store | with_reducible refine keeps_bind ?_ fun _ => ?_

theorem part240 : ∀ v207 k0_t24 arg41 v408 v413 v418 v857 v863, 𝕂 (k0_part240 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v207 k0_t24 arg41 v408 v413 v418 v857 v863) := by
  intros; unfold k0_part240
  repeat' first | extract_lets | with_reducible exact keeps_pure _ | with_reducible exact keeps_load | with_reducible exact keeps_store | with_reducible refine keeps_bind ?_ fun _ => ?_

theorem part246 : 𝕂 (k0_part246 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) := by
  intros; unfold k0_part246
  repeat' first | extract_lets | with_reducible exact keeps_pure _ | with_reducible exact keeps_load | with_reducible exact keeps_store | with_reducible refine keeps_bind ?_ fun _ => ?_

theorem part255 : ∀ v226_5 v226_6 v226_7 v278, 𝕂 (k0_part255 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v226_5 v226_6 v226_7 v278) := by
  intros; unfold k0_part255
  repeat' first | extract_lets | with_reducible exact keeps_pure _ | with_reducible exact keeps_load | with_reducible exact keeps_store | with_reducible refine keeps_bind ?_ fun _ => ?_

end Cert.Proof.Attn

end
-- ==== Proof.Attn.Leaf5.lean ====
/- The attention kernel's straight-line stretches keep what they are lent (5 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part5 : ∀ v21 v24 v64 v66 c_m2147483648_i32 k0_t1 v398 v406 v565 c128_i32_289, 𝕂 (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t1 v398 v406 v565 c128_i32_289) := by
  intros; unfold k0_part5
  repeat' first | extract_lets | with_reducible exact keeps_pure _ | with_reducible exact keeps_load | with_reducible exact keeps_store | with_reducible refine keeps_bind ?_ fun _ => ?_

theorem part11 : ∀ v71 c1_i32_45 k0_t2, 𝕂 (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v71 c1_i32_45 k0_t2) := by
  intros; unfold k0_part11
  repeat' first | extract_lets | with_reducible exact keeps_pure _ | with_reducible exact keeps_load | with_reducible exact keeps_store | with_reducible refine keeps_bind ?_ fun _ => ?_

theorem part17 : ∀ v66 v656 v657 v658, 𝕂 (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v66 v656 v657 v658) := by
  intros; unfold k0_part17
  repeat' first | extract_lets | with_reducible exact keeps_pure _ | with_reducible exact keeps_load | with_reducible exact keeps_store | with_reducible refine keeps_bind ?_ fun _ => ?_

theorem part23 : ∀ v853 v887 v897 v907 v917 v921, 𝕂 (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v853 v887 v897 v907 v917 v921) := by
  intros; unfold k0_part23
  repeat' first | extract_lets | with_reducible exact keeps_pure _ | with_reducible exact keeps_load | with_reducible exact keeps_store | with_reducible refine keeps_bind ?_ fun _ => ?_

theorem part31 : ∀ c_m2147483648_i32_50 v438 v618 v619, 𝕂 (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v618 v619) := by
  intros; unfold k0_part31
  repeat' first | extract_lets | with_reducible exact keeps_pure _ | with_reducible exact keeps_load | with_reducible exact keeps_store | with_reducible refine keeps_bind ?_ fun _ => ?_

theorem part37 : ∀ v830 v833 v834 v844 v854 v858 v859 v860, 𝕂 (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v830 v833 v834 v844 v854 v858 v859 v860) := by
  intros; unfold k0_part37
  repeat' first | extract_lets | with_reducible exact keeps_pure _ | with_reducible exact keeps_load | with_reducible exact keeps_store | with_reducible refine keeps_bind ?_ fun _ => ?_

theorem part44 : ∀ c_m2147483648_i32_50 v438 v542 v552 v562 v572 v580, 𝕂 (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v542 v552 v562 v572 v580) := by
  intros; unfold k0_part44
  repeat' first | extract_lets | with_reducible exact keeps_pure _ | with_reducible exact keeps_load | with_reducible exact keeps_store | with_reducible refine keeps_bind ?_ fun _ => ?_

theorem part51 : ∀ v804 v807 v808 v818 v828 v832 v833 v834, 𝕂 (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v804 v807 v808 v818 v828 v832 v833 v834) := by
  intros; unfold k0_part51
  repeat' first | extract_lets | with_reducible exact keeps_pure _ | with_reducible exact keeps_load | with_reducible exact keeps_store | with_reducible refine keeps_bind ?_ fun _ => ?_

theorem part58 : ∀ c_m2147483648_i32_50 v435 v539 v549 v559 v569 v577, 𝕂 (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v435 v539 v549 v559 v569 v577) := by
  intros; unfold k0_part58
  repeat' first | extract_lets | with_reducible exact keeps_pure _ | with_reducible exact keeps_load | with_reducible exact keeps_store | with_reducible refine keeps_bind ?_ fun _ => ?_

theorem part64 : ∀ v778 v781 v782 v792 v802 v806 v807 v808, 𝕂 (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v778 v781 v782 v792 v802 v806 v807 v808) := by
  intros; unfold k0_part64
  repeat' first | extract_lets | with_reducible exact keeps_pure _ | with_reducible exact keeps_load | with_reducible exact keeps_store | with_reducible refine keeps_bind ?_ fun _ => ?_

theorem part71 : ∀ c_m2147483648_i32_50 v432 v536 v546 v556 v566 v574, 𝕂 (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v432 v536 v546 v556 v566 v574) := by
  intros; unfold k0_part71
  repeat' first | extract_lets | with_reducible exact keeps_pure _ | with_reducible exact keeps_load | with_reducible exact keeps_store | with_reducible refine keeps_bind ?_ fun _ => ?_

theorem part77 : ∀ v752 v786 v796 v806 v816 v820, 𝕂 (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v752 v786 v796 v806 v816 v820) := by
  intros; unfold k0_part77
  repeat' first | extract_lets | with_reducible exact keeps_pure _ | with_reducible exact keeps_load | with_reducible exact keeps_store | with_reducible refine keeps_bind ?_ fun _ => ?_

theorem part84 : ∀ c_m2147483648_i32_50 v429 v611 v624 v637 v652 v653, 𝕂 (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v429 v611 v624 v637 v652 v653) := by
  intros; unfold k0_part84
  repeat' first | extract_lets | with_reducible exact keeps_pure _ | with_reducible exact keeps_load | with_reducible exact keeps_store | with_reducible refine keeps_bind ?_ fun _ => ?_

theorem part91 : ∀ v426 v460 v470 v480 v490 v492 v493, 𝕂 (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v426 v460 v470 v480 v490 v492 v493) := by
  intros; unfold k0_part91
  repeat' first | extract_lets | with_reducible exact keeps_pure _ | with_reducible exact keeps_load | with_reducible exact keeps_store | with_reducible refine keeps_bind ?_ fun _ => ?_

theorem part97 : ∀ v700 v703 v704 v714 v724 v728 v729 v730, 𝕂 (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v700 v703 v704 v714 v724 v728 v729 v730) := by
  intros; unfold k0_part97
  repeat' first | extract_lets | with_reducible exact keeps_pure _ | with_reducible exact keeps_load | with_reducible exact keeps_store | with_reducible refine keeps_bind ?_ fun _ => ?_

theorem part104 : ∀ c_m2147483648_i32_50 v423 v559 v572 v585 v598 v609, 𝕂 (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v423 v559 v572 v585 v598 v609) := by
  intros; unfold k0_part104
  repeat' first | extract_lets | with_reducible exact keeps_pure _ | with_reducible exact keeps_load | with_reducible exact keeps_store | with_reducible refine keeps_bind ?_ fun _ => ?_

theorem part111 : ∀ v420 v454 v464 v474 v484 v486 v487, 𝕂 (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v420 v454 v464 v474 v484 v486 v487) := by
  intros; unfold k0_part111
  repeat' first | extract_lets | with_reducible exact keeps_pure _ | with_reducible exact keeps_load | with_reducible exact keeps_store | with_reducible refine keeps_bind ?_ fun _ => ?_

theorem part118 : ∀ v417 v420 v421 v431 v441 v445 c0_i32_264 v446, 𝕂 (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v417 v420 v421 v431 v441 v445 c0_i32_264 v446) := by
  intros; unfold k0_part118
  repeat' first | extract_lets | with_reducible exact keeps_pure _ | with_reducible exact keeps_load | with_reducible exact keeps_store | with_reducible refine keeps_bind ?_ fun _ => ?_

theorem part125 : ∀ v414 v417 v418 v428 v438 v442 c0_i32_262 v443, 𝕂 (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v414 v417 v418 v428 v438 v442 c0_i32_262 v443) := by
  intros; unfold k0_part125
  repeat' first | extract_lets | with_reducible exact keeps_pure _ | with_reducible exact keeps_load | with_reducible exact keeps_store | with_reducible refine keeps_bind ?_ fun _ => ?_

theorem part132 : ∀ v411 v414 v415 v425 v435 v439 c0_i32_260 v440, 𝕂 (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v411 v414 v415 v425 v435 v439 c0_i32_260 v440) := by
  intros; unfold k0_part132
  repeat' first | extract_lets | with_reducible exact keeps_pure _ | with_reducible exact keeps_load | with_reducible exact keeps_store | with_reducible refine keeps_bind ?_ fun _ => ?_

theorem part139 : ∀ c_m2147483648_i32_50 v408, 𝕂 (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v408) := by
  intros; unfold k0_part139
  repeat' first | extract_lets | with_reducible exact keeps_pure _ | with_reducible exact keeps_load | with_reducible exact keeps_store | with_reducible refine keeps_bind ?_ fun _ => ?_

theorem part147 : ∀ c_m2147483648_i32_50 v402 v405 v406 v416 v426 v430 c0_i32_254 v431, 𝕂 (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v402 v405 v406 v416 v426 v430 c0_i32_254 v431) := by
  intros; unfold k0_part147
  repeat' first | extract_lets | with_reducible exact keeps_pure _ | with_reducible exact keeps_load | with_reducible exact keeps_store | with_reducible refine keeps_bind ?_ fun _ => ?_

theorem part155 : ∀ v404 c1_i32_237 k0_t20, 𝕂 (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v404 c1_i32_237 k0_t20) := by
  intros; unfold k0_part155
  repeat' first | extract_lets | with_reducible exact keeps_pure _ | with_reducible exact keeps_load | with_reducible exact keeps_store | with_reducible refine keeps_bind ?_ fun _ => ?_

theorem part161 : ∀ v124 v130 v136 k0_t21 arg39 arg40 v393 v396 v442 v446 v496, 𝕂 (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 v136 k0_t21 arg39 arg40 v393 v396 v442 v446 v496) := by
  intros; unfold k0_part161
  repeat' first | extract_lets | with_reducible exact keeps_pure _ | with_reducible exact keeps_load | with_reducible exact keeps_store | with_reducible refine keeps_bind ?_ fun _ => ?_

theorem part167 : ∀ arg1 v21 v80_0 v100 v106 c_m2147483648_i32_118 k0_t21 v398 v403 v406 v574 v595 v599 v715, 𝕂 (k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t21 v398 v403 v406 v574 v595 v599 v715) := by
  intros; unfold k0_part167
  repeat' first | extract_lets | with_reducible exact keeps_pure _ | with_reducible exact keeps_load | with_reducible exact keeps_store | with_reducible refine keeps_bind ?_ fun _ => ?_

theorem part173 : ∀ v118 v124 v130 k0_t21 v408 v411 v800 v816 v901 v905 v939, 𝕂 (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 v130 k0_t21 v408 v411 v800 v816 v901 v905 v939) := by
  intros; unfold k0_part173
  repeat' first | extract_lets | with_reducible exact keeps_pure _ | with_reducible exact keeps_load | with_reducible exact keeps_store | with_reducible refine keeps_bind ?_ fun _ => ?_

theorem part179 : ∀ v80_0 v148 c_m2147483648_i32_118 k0_t21 v413 v416 v418 v1017 v1033 v1054 v1058 v1158, 𝕂 (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v80_0 v148 c_m2147483648_i32_118 k0_t21 v413 v416 v418 v1017 v1033 v1054 v1058 v1158) := by
  intros; unfold k0_part179
  repeat' first | extract_lets | with_reducible exact keeps_pure _ | with_reducible exact keeps_load | with_reducible exact keeps_store | with_reducible refine keeps_bind ?_ fun _ => ?_

theorem part186 : ∀ v112 v118 k0_t22 arg36 arg37 arg38 v393 v396 v442 v446 v461, 𝕂 (k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t22 arg36 arg37 arg38 v393 v396 v442 v446 v461) := by
  intros; unfold k0_part186
  repeat' first | extract_lets | with_reducible exact keeps_pure _ | with_reducible exact keeps_load | with_reducible exact keeps_store | with_reducible refine keeps_bind ?_ fun _ => ?_

theorem part192 : ∀ v136 v142 v148 k0_t22 v398 v401 v542 v558 v595 v599, 𝕂 (k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 v148 k0_t22 v398 v401 v542 v558 v595 v599) := by
  intros; unfold k0_part192
  repeat' first | extract_lets | with_reducible exact keeps_pure _ | with_reducible exact keeps_load | with_reducible exact keeps_store | with_reducible refine keeps_bind ?_ fun _ => ?_

theorem part198 : ∀ v106 v112 k0_t22 v408 v411 v768 v784 v901 c2_i32_521 v904, 𝕂 (k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v106 v112 k0_t22 v408 v411 v768 v784 v901 c2_i32_521 v904) := by
  intros; unfold k0_part198
  repeat' first | extract_lets | with_reducible exact keeps_pure _ | with_reducible exact keeps_load | with_reducible exact keeps_store | with_reducible refine keeps_bind ?_ fun _ => ?_

theorem part204 : ∀ v130 v136 v142 k0_t22 v413 v416 v985 v1001 v1054 v1058, 𝕂 (k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v130 v136 v142 k0_t22 v413 v416 v985 v1001 v1054 v1058) := by
  intros; unfold k0_part204
  repeat' first | extract_lets | with_reducible exact keeps_pure _ | with_reducible exact keeps_load | with_reducible exact keeps_store | with_reducible refine keeps_bind ?_ fun _ => ?_

theorem part211 : ∀ v197 k0_t23 arg36 v393 v398 v403 v408 v413 v418 v420 c16_i32_256, 𝕂 (k0_part211 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v197 k0_t23 arg36 v393 v398 v403 v408 v413 v418 v420 c16_i32_256) := by
  intros; unfold k0_part211
  repeat' first | extract_lets | with_reducible exact keeps_pure _ | with_reducible exact keeps_load | with_reducible exact keeps_store | with_reducible refine keeps_bind ?_ fun _ => ?_

theorem part217 : ∀ v203 k0_t23 v393 v398 v403 v408 v413 v416 v421 v654 v657 v660 v663 v666, 𝕂 (k0_part217 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v203 k0_t23 v393 v398 v403 v408 v413 v416 v421 v654 v657 v660 v663 v666) := by
  intros; unfold k0_part217
  repeat' first | extract_lets | with_reducible exact keeps_pure _ | with_reducible exact keeps_load | with_reducible exact keeps_store | with_reducible refine keeps_bind ?_ fun _ => ?_

theorem part223 : ∀ v209 k0_t23 v393 v396 v398 v401 v406 v411 v416 v421 v912, 𝕂 (k0_part223 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v209 k0_t23 v393 v396 v398 v401 v406 v411 v416 v421 v912) := by
  intros; unfold k0_part223
  repeat' first | extract_lets | with_reducible exact keeps_pure _ | with_reducible exact keeps_load | with_reducible exact keeps_store | with_reducible refine keeps_bind ?_ fun _ => ?_

theorem part229 : ∀ v197 k0_t24 arg36 v393 v398 v403 v408 v413 v418 v420 c16_i32_256, 𝕂 (k0_part229 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v197 k0_t24 arg36 v393 v398 v403 v408 v413 v418 v420 c16_i32_256) := by
  intros; unfold k0_part229
  repeat' first | extract_lets | with_reducible exact keeps_pure _ | with_reducible exact keeps_load | with_reducible exact keeps_store | with_reducible refine keeps_bind ?_ fun _ => ?_

theorem part235 : ∀ v203 k0_t24 v393 v398 v403 v408 v413 v416 v421 v654 v657 v660 v663 v666, 𝕂 (k0_part235 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v203 k0_t24 v393 v398 v403 v408 v413 v416 v421 v654 v657 v660 v663 v666) := by
  intros; unfold k0_part235
  repeat' first | extract_lets | with_reducible exact keeps_pure _ | with_reducible exact keeps_load | with_reducible exact keeps_store | with_reducible refine keeps_bind ?_ fun _ => ?_

theorem part241 : ∀ v209 k0_t24 v393 v396 v398 v401 v406 v411 v416 v421 v912, 𝕂 (k0_part241 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v209 k0_t24 v393 v396 v398 v401 v406 v411 v416 v421 v912) := by
  intros; unfold k0_part241
  repeat' first | extract_lets | with_reducible exact keeps_pure _ | with_reducible exact keeps_load | with_reducible exact keeps_store | with_reducible refine keeps_bind ?_ fun _ => ?_

theorem part247 : 𝕂 (k0_part247 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) := by
  intros; unfold k0_part247
  repeat' first | extract_lets | with_reducible exact keeps_pure _ | with_reducible exact keeps_load | with_reducible exact keeps_store | with_reducible refine keeps_bind ?_ fun _ => ?_

end Cert.Proof.Attn

end
-- ==== Proof.Attn.Leaf6.lean ====
/- The attention kernel's straight-line stretches keep what they are lent (6 of 6). -/
module

public import proofs.«01_k».proof.Proof.Attn.Keeps
public import proofs.«01_k».proof.Proof.Gen.Kernel.Frame

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part6 : ∀ v21 v24 v64 v66 c_m2147483648_i32 k0_t1 v403 v411 v579 v608 v609 v612, 𝕂 (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t1 v403 v411 v579 v608 v609 v612) := by
  intros; unfold k0_part6
  repeat' first | extract_lets | with_reducible exact keeps_pure _ | with_reducible exact keeps_load | with_reducible exact keeps_store | with_reducible refine keeps_bind ?_ fun _ => ?_

theorem part12 : ∀ v64 v66 k0_t2 v396 v420 c16_i32_256, 𝕂 (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v64 v66 k0_t2 v396 v420 c16_i32_256) := by
  intros; unfold k0_part12
  repeat' first | extract_lets | with_reducible exact keeps_pure _ | with_reducible exact keeps_load | with_reducible exact keeps_store | with_reducible refine keeps_bind ?_ fun _ => ?_

theorem part18 : ∀ v21 v24 v64 v66 c_m2147483648_i32 k0_t2 v408 v416 v706 v707 v710, 𝕂 (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v24 v64 v66 c_m2147483648_i32 k0_t2 v408 v416 v706 v707 v710) := by
  intros; unfold k0_part18
  repeat' first | extract_lets | with_reducible exact keeps_pure _ | with_reducible exact keeps_load | with_reducible exact keeps_store | with_reducible refine keeps_bind ?_ fun _ => ?_

theorem part24 : ∀ v853 v927 v937 v947, 𝕂 (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v853 v927 v937 v947) := by
  intros; unfold k0_part24
  repeat' first | extract_lets | with_reducible exact keeps_pure _ | with_reducible exact keeps_load | with_reducible exact keeps_store | with_reducible refine keeps_bind ?_ fun _ => ?_

theorem part32 : ∀ c_m2147483648_i32_50 v438 v620 v621 v634 v647 v659, 𝕂 (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v620 v621 v634 v647 v659) := by
  intros; unfold k0_part32
  repeat' first | extract_lets | with_reducible exact keeps_pure _ | with_reducible exact keeps_load | with_reducible exact keeps_store | with_reducible refine keeps_bind ?_ fun _ => ?_

theorem part38 : ∀ v830 v864 v874 v884 v894 v898, 𝕂 (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v830 v864 v874 v884 v894 v898) := by
  intros; unfold k0_part38
  repeat' first | extract_lets | with_reducible exact keeps_pure _ | with_reducible exact keeps_load | with_reducible exact keeps_store | with_reducible refine keeps_bind ?_ fun _ => ?_

theorem part45 : ∀ c_m2147483648_i32_50 v438 v608 v609 v610 v618 c1_i32_353 c0_i32_354, 𝕂 (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v438 v608 v609 v610 v618 c1_i32_353 c0_i32_354) := by
  intros; unfold k0_part45
  repeat' first | extract_lets | with_reducible exact keeps_pure _ | with_reducible exact keeps_load | with_reducible exact keeps_store | with_reducible refine keeps_bind ?_ fun _ => ?_

theorem part52 : ∀ v804 v838 v848 v858 v868 v872, 𝕂 (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v804 v838 v848 v858 v868 v872) := by
  intros; unfold k0_part52
  repeat' first | extract_lets | with_reducible exact keeps_pure _ | with_reducible exact keeps_load | with_reducible exact keeps_store | with_reducible refine keeps_bind ?_ fun _ => ?_

theorem part59 : ∀ c_m2147483648_i32_50 v435 v596 v597 v598 v615 v617, 𝕂 (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v435 v596 v597 v598 v615 v617) := by
  intros; unfold k0_part59
  repeat' first | extract_lets | with_reducible exact keeps_pure _ | with_reducible exact keeps_load | with_reducible exact keeps_store | with_reducible refine keeps_bind ?_ fun _ => ?_

theorem part65 : ∀ v778 v812 v822 v832 v842 v846, 𝕂 (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v778 v812 v822 v832 v842 v846) := by
  intros; unfold k0_part65
  repeat' first | extract_lets | with_reducible exact keeps_pure _ | with_reducible exact keeps_load | with_reducible exact keeps_store | with_reducible refine keeps_bind ?_ fun _ => ?_

theorem part72 : ∀ c_m2147483648_i32_50 v432 v584 v585 v598 v613 v614, 𝕂 (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v432 v584 v585 v598 v613 v614) := by
  intros; unfold k0_part72
  repeat' first | extract_lets | with_reducible exact keeps_pure _ | with_reducible exact keeps_load | with_reducible exact keeps_store | with_reducible refine keeps_bind ?_ fun _ => ?_

theorem part79 : ∀ v429 v432 v433 v443 v453 v457 c0_i32_272 v458, 𝕂 (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v429 v432 v433 v443 v453 v457 c0_i32_272 v458) := by
  intros; unfold k0_part79
  repeat' first | extract_lets | with_reducible exact keeps_pure _ | with_reducible exact keeps_load | with_reducible exact keeps_store | with_reducible refine keeps_bind ?_ fun _ => ?_

theorem part85 : ∀ c_m2147483648_i32_50 v429 v650 v663 v676 v693 v695, 𝕂 (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v429 v650 v663 v676 v693 v695) := by
  intros; unfold k0_part85
  repeat' first | extract_lets | with_reducible exact keeps_pure _ | with_reducible exact keeps_load | with_reducible exact keeps_store | with_reducible refine keeps_bind ?_ fun _ => ?_

theorem part92 : ∀ c_m2147483648_i32_50 v426 v500 v510 v520 v530, 𝕂 (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v426 v500 v510 v520 v530) := by
  intros; unfold k0_part92
  repeat' first | extract_lets | with_reducible exact keeps_pure _ | with_reducible exact keeps_load | with_reducible exact keeps_store | with_reducible refine keeps_bind ?_ fun _ => ?_

theorem part98 : ∀ v700 v734 v744 v754 v764 v768, 𝕂 (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v700 v734 v744 v754 v764 v768) := by
  intros; unfold k0_part98
  repeat' first | extract_lets | with_reducible exact keeps_pure _ | with_reducible exact keeps_load | with_reducible exact keeps_store | with_reducible refine keeps_bind ?_ fun _ => ?_

theorem part105 : ∀ c_m2147483648_i32_50 v423 v611 v624 v637 v650, 𝕂 (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v423 v611 v624 v637 v650) := by
  intros; unfold k0_part105
  repeat' first | extract_lets | with_reducible exact keeps_pure _ | with_reducible exact keeps_load | with_reducible exact keeps_store | with_reducible refine keeps_bind ?_ fun _ => ?_

theorem part112 : ∀ c_m2147483648_i32_50 v420 v504 v526, 𝕂 (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v420 v504 v526) := by
  intros; unfold k0_part112
  repeat' first | extract_lets | with_reducible exact keeps_pure _ | with_reducible exact keeps_load | with_reducible exact keeps_store | with_reducible refine keeps_bind ?_ fun _ => ?_

theorem part119 : ∀ v417 v451 v461 v471 v481 v483 v484, 𝕂 (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v417 v451 v461 v471 v481 v483 v484) := by
  intros; unfold k0_part119
  repeat' first | extract_lets | with_reducible exact keeps_pure _ | with_reducible exact keeps_load | with_reducible exact keeps_store | with_reducible refine keeps_bind ?_ fun _ => ?_

theorem part126 : ∀ c_m2147483648_i32_50 v414 v448 v458 v468 v478 v480 v481, 𝕂 (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v414 v448 v458 v468 v478 v480 v481) := by
  intros; unfold k0_part126
  repeat' first | extract_lets | with_reducible exact keeps_pure _ | with_reducible exact keeps_load | with_reducible exact keeps_store | with_reducible refine keeps_bind ?_ fun _ => ?_

theorem part133 : ∀ c_m2147483648_i32_50 v411 v445 v455 v465 v475 v477 v478, 𝕂 (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v411 v445 v455 v465 v475 v477 v478) := by
  intros; unfold k0_part133
  repeat' first | extract_lets | with_reducible exact keeps_pure _ | with_reducible exact keeps_load | with_reducible exact keeps_store | with_reducible refine keeps_bind ?_ fun _ => ?_

theorem part140 : ∀ c_m2147483648_i32_50 v408 v480 v481 v494 v514 v515 v516, 𝕂 (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 v408 v480 v481 v494 v514 v515 v516) := by
  intros; unfold k0_part140
  repeat' first | extract_lets | with_reducible exact keeps_pure _ | with_reducible exact keeps_load | with_reducible exact keeps_store | with_reducible refine keeps_bind ?_ fun _ => ?_

theorem part149 : ∀ c_m2147483648_i32_50 c0_i32_231 c1_i32_232 k0_t17 arg36, 𝕂 (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_231 c1_i32_232 k0_t17 arg36) := by
  intros; unfold k0_part149
  repeat' first | extract_lets | with_reducible exact keeps_pure _ | with_reducible exact keeps_load | with_reducible exact keeps_store | with_reducible refine keeps_bind ?_ fun _ => ?_

theorem part156 : ∀ v21 v80_0 v398 k0_t20 arg38 v412 v417 v422 v439 c16_i32_267, 𝕂 (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v21 v80_0 v398 k0_t20 arg38 v412 v417 v422 v439 c16_i32_267) := by
  intros; unfold k0_part156
  repeat' first | extract_lets | with_reducible exact keeps_pure _ | with_reducible exact keeps_load | with_reducible exact keeps_store | with_reducible refine keeps_bind ?_ fun _ => ?_

theorem part162 : ∀ v142 v148 k0_t21 arg41 arg42 v393 v396 v442 v446 v531, 𝕂 (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v142 v148 k0_t21 arg41 arg42 v393 v396 v442 v446 v531) := by
  intros; unfold k0_part162
  repeat' first | extract_lets | with_reducible exact keeps_pure _ | with_reducible exact keeps_load | with_reducible exact keeps_store | with_reducible refine keeps_bind ?_ fun _ => ?_

theorem part168 : ∀ v112 v118 k0_t21 v403 v406 v615 v631 v748 v752 v756, 𝕂 (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v112 v118 k0_t21 v403 v406 v615 v631 v748 v752 v756) := by
  intros; unfold k0_part168
  repeat' first | extract_lets | with_reducible exact keeps_pure _ | with_reducible exact keeps_load | with_reducible exact keeps_store | with_reducible refine keeps_bind ?_ fun _ => ?_

theorem part174 : ∀ v136 v142 k0_t21 v408 v411 v832 v848 v901 v905 v974, 𝕂 (k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v136 v142 k0_t21 v408 v411 v832 v848 v901 v905 v974) := by
  intros; unfold k0_part174
  repeat' first | extract_lets | with_reducible exact keeps_pure _ | with_reducible exact keeps_load | with_reducible exact keeps_store | with_reducible refine keeps_bind ?_ fun _ => ?_

theorem part180 : ∀ arg1 v21 v100 v106 v112 k0_t21 v418 v421 v1074 v1191 v1196 v1197, 𝕂 (k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v100 v106 v112 k0_t21 v418 v421 v1074 v1191 v1196 v1197) := by
  intros; unfold k0_part180
  repeat' first | extract_lets | with_reducible exact keeps_pure _ | with_reducible exact keeps_load | with_reducible exact keeps_store | with_reducible refine keeps_bind ?_ fun _ => ?_

theorem part187 : ∀ v124 v130 v136 k0_t22 arg39 arg40 v393 v396 v442 v446 v496, 𝕂 (k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v124 v130 v136 k0_t22 arg39 arg40 v393 v396 v442 v446 v496) := by
  intros; unfold k0_part187
  repeat' first | extract_lets | with_reducible exact keeps_pure _ | with_reducible exact keeps_load | with_reducible exact keeps_store | with_reducible refine keeps_bind ?_ fun _ => ?_

theorem part193 : ∀ arg1 v21 v80_0 v100 v106 c_m2147483648_i32_118 k0_t22 v398 v403 v406 v574 v595 v599 v715, 𝕂 (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 c_m2147483648_i32_118 k0_t22 v398 v403 v406 v574 v595 v599 v715) := by
  intros; unfold k0_part193
  repeat' first | extract_lets | with_reducible exact keeps_pure _ | with_reducible exact keeps_load | with_reducible exact keeps_store | with_reducible refine keeps_bind ?_ fun _ => ?_

theorem part199 : ∀ v118 v124 v130 k0_t22 v408 v411 v800 v816 v901 v905 v939, 𝕂 (k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v118 v124 v130 k0_t22 v408 v411 v800 v816 v901 v905 v939) := by
  intros; unfold k0_part199
  repeat' first | extract_lets | with_reducible exact keeps_pure _ | with_reducible exact keeps_load | with_reducible exact keeps_store | with_reducible refine keeps_bind ?_ fun _ => ?_

theorem part205 : ∀ v80_0 v148 c_m2147483648_i32_118 k0_t22 v413 v416 v418 v1017 v1033 v1054 v1058 v1158, 𝕂 (k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v80_0 v148 c_m2147483648_i32_118 k0_t22 v413 v416 v418 v1017 v1033 v1054 v1058 v1158) := by
  intros; unfold k0_part205
  repeat' first | extract_lets | with_reducible exact keeps_pure _ | with_reducible exact keeps_load | with_reducible exact keeps_store | with_reducible refine keeps_bind ?_ fun _ => ?_

theorem part212 : ∀ k0_t23 v396 v401 v406 v411 v416 v421 v427 v433 v439 v445 v451 v457 v463 v465, 𝕂 (k0_part212 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t23 v396 v401 v406 v411 v416 v421 v427 v433 v439 v445 v451 v457 v463 v465) := by
  intros; unfold k0_part212
  repeat' first | extract_lets | with_reducible exact keeps_pure _ | with_reducible exact keeps_load | with_reducible exact keeps_store | with_reducible refine keeps_bind ?_ fun _ => ?_

theorem part218 : ∀ v203 k0_t23 arg39 v396 v401 v406 v418 v685 v691 v697 v703, 𝕂 (k0_part218 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v203 k0_t23 arg39 v396 v401 v406 v418 v685 v691 v697 v703) := by
  intros; unfold k0_part218
  repeat' first | extract_lets | with_reducible exact keeps_pure _ | with_reducible exact keeps_load | with_reducible exact keeps_store | with_reducible refine keeps_bind ?_ fun _ => ?_

theorem part224 : ∀ v209 k0_t23 arg42 v403 v408 v413 v418 v943, 𝕂 (k0_part224 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v209 k0_t23 arg42 v403 v408 v413 v418 v943) := by
  intros; unfold k0_part224
  repeat' first | extract_lets | with_reducible exact keeps_pure _ | with_reducible exact keeps_load | with_reducible exact keeps_store | with_reducible refine keeps_bind ?_ fun _ => ?_

theorem part230 : ∀ k0_t24 v396 v401 v406 v411 v416 v421 v427 v433 v439 v445 v451 v457 v463 v465, 𝕂 (k0_part230 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_t24 v396 v401 v406 v411 v416 v421 v427 v433 v439 v445 v451 v457 v463 v465) := by
  intros; unfold k0_part230
  repeat' first | extract_lets | with_reducible exact keeps_pure _ | with_reducible exact keeps_load | with_reducible exact keeps_store | with_reducible refine keeps_bind ?_ fun _ => ?_

theorem part236 : ∀ v203 k0_t24 arg39 v396 v401 v406 v418 v685 v691 v697 v703, 𝕂 (k0_part236 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v203 k0_t24 arg39 v396 v401 v406 v418 v685 v691 v697 v703) := by
  intros; unfold k0_part236
  repeat' first | extract_lets | with_reducible exact keeps_pure _ | with_reducible exact keeps_load | with_reducible exact keeps_store | with_reducible refine keeps_bind ?_ fun _ => ?_

theorem part242 : ∀ v209 k0_t24 arg42 v403 v408 v413 v418 v943, 𝕂 (k0_part242 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v209 k0_t24 arg42 v403 v408 v413 v418 v943) := by
  intros; unfold k0_part242
  repeat' first | extract_lets | with_reducible exact keeps_pure _ | with_reducible exact keeps_load | with_reducible exact keeps_store | with_reducible refine keeps_bind ?_ fun _ => ?_

theorem part248 : ∀ v27 v31 v36, 𝕂 (k0_part248 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v27 v31 v36) := by
  intros; unfold k0_part248
  repeat' first | extract_lets | with_reducible exact keeps_pure _ | with_reducible exact keeps_load | with_reducible exact keeps_store | with_reducible refine keeps_bind ?_ fun _ => ?_

end Cert.Proof.Attn

end
-- ==== Proof.Attn.Branches.lean ====
/- The attention kernel's loops and branches keep what they are lent. -/
module

public import proofs.«01_k».proof.Proof.Attn.Leaf1
public import proofs.«01_k».proof.Proof.Attn.Leaf2
public import proofs.«01_k».proof.Proof.Attn.Leaf3
public import proofs.«01_k».proof.Proof.Attn.Leaf4
public import proofs.«01_k».proof.Proof.Attn.Leaf5
public import proofs.«01_k».proof.Proof.Attn.Leaf6

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem part25 : ∀ c_m2147483648_i32_50 c0_i32_257 c1_i32_258 k0_t3 arg36, 𝕂 (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 c0_i32_257 c1_i32_258 k0_t3 arg36) := by
  intros; unfold k0_part25
  repeat' first | extract_lets | with_reducible exact keeps_pure _ | with_reducible exact keeps_load | with_reducible exact keeps_store | with_reducible apply part21 | with_reducible apply part22 | with_reducible apply part23 | with_reducible apply part24 | with_reducible refine keeps_bind ?_ fun _ => ?_ | split

theorem part26 : ∀ c_m2147483648_i32_50 k0_h1 k0_h2 k0_h3 k0_h4 k0_h5 k0_h6 k0_h7 k0_h8 k0_h9 k0_h10 k0_h11 k0_h12 k0_h13 k0_h14 k0_h15, 𝕂 (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12 k0_h13 k0_h14 k0_h15) := by
  intros; unfold k0_part26
  repeat' first | extract_lets | with_reducible exact keeps_pure _ | with_reducible exact keeps_load | with_reducible exact keeps_store | with_reducible apply part25 | with_reducible refine keeps_bind ?_ fun _ => ?_ | with_reducible refine keeps_for fun _ _ => ?_ | split

theorem part40 : ∀ c_m2147483648_i32_50 k0_h1 k0_h2 k0_h3 k0_h4 k0_h5 k0_h6 k0_h7 k0_h8 k0_h9 k0_h10 k0_h11 k0_h12 k0_h13 k0_h14 k0_h15, 𝕂 (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12 k0_h13 k0_h14 k0_h15) := by
  intros; unfold k0_part40
  repeat' first | extract_lets | with_reducible exact keeps_pure _ | with_reducible exact keeps_load | with_reducible exact keeps_store | with_reducible apply part36 | with_reducible apply part37 | with_reducible apply part38 | with_reducible apply part39 | with_reducible refine keeps_bind ?_ fun _ => ?_ | with_reducible refine keeps_for fun _ _ => ?_ | split

theorem part49 : ∀ c_m2147483648_i32_50 k0_h1 k0_h2 k0_h3 k0_h4 k0_h5 k0_h6 k0_h7 k0_h8 k0_h9 k0_h10 k0_h11 k0_h12 k0_h13 k0_h14 k0_h15, 𝕂 (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12 k0_h13 k0_h14 k0_h15) := by
  intros; unfold k0_part49
  repeat' first | extract_lets | with_reducible exact keeps_pure _ | with_reducible exact keeps_load | with_reducible exact keeps_store | with_reducible apply part40 | with_reducible apply part41 | with_reducible apply part42 | with_reducible apply part43 | with_reducible apply part44 | with_reducible apply part45 | with_reducible apply part46 | with_reducible apply part47 | with_reducible apply part48 | with_reducible refine keeps_bind ?_ fun _ => ?_ | split

theorem part54 : ∀ c_m2147483648_i32_50 k0_h1 k0_h2 k0_h3 k0_h4 k0_h5 k0_h6 k0_h7 k0_h8 k0_h9 k0_h10 k0_h11 k0_h12 k0_h13 k0_h14, 𝕂 (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12 k0_h13 k0_h14) := by
  intros; unfold k0_part54
  repeat' first | extract_lets | with_reducible exact keeps_pure _ | with_reducible exact keeps_load | with_reducible exact keeps_store | with_reducible apply part50 | with_reducible apply part51 | with_reducible apply part52 | with_reducible apply part53 | with_reducible refine keeps_bind ?_ fun _ => ?_ | with_reducible refine keeps_for fun _ _ => ?_ | split

theorem part67 : ∀ c_m2147483648_i32_50 k0_h1 k0_h2 k0_h3 k0_h4 k0_h5 k0_h6 k0_h7 k0_h8 k0_h9 k0_h10 k0_h11 k0_h12 k0_h13, 𝕂 (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12 k0_h13) := by
  intros; unfold k0_part67
  repeat' first | extract_lets | with_reducible exact keeps_pure _ | with_reducible exact keeps_load | with_reducible exact keeps_store | with_reducible apply part63 | with_reducible apply part64 | with_reducible apply part65 | with_reducible apply part66 | with_reducible refine keeps_bind ?_ fun _ => ?_ | with_reducible refine keeps_for fun _ _ => ?_ | split

theorem part78 : ∀ c_m2147483648_i32_50 k0_h1 k0_h2 k0_h3 k0_h4 k0_h5 k0_h6 k0_h7 k0_h8 k0_h9 k0_h10 k0_h11 k0_h12, 𝕂 (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11 k0_h12) := by
  intros; unfold k0_part78
  repeat' first | extract_lets | with_reducible exact keeps_pure _ | with_reducible exact keeps_load | with_reducible exact keeps_store | with_reducible apply part75 | with_reducible apply part76 | with_reducible apply part77 | with_reducible refine keeps_bind ?_ fun _ => ?_ | with_reducible refine keeps_for fun _ _ => ?_ | split

theorem part89 : ∀ c_m2147483648_i32_50 k0_h1 k0_h2 k0_h3 k0_h4 k0_h5 k0_h6 k0_h7 k0_h8 k0_h9 k0_h10 k0_h11, 𝕂 (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10 k0_h11) := by
  intros; unfold k0_part89
  repeat' first | extract_lets | with_reducible exact keeps_pure _ | with_reducible exact keeps_load | with_reducible exact keeps_store | with_reducible apply part86 | with_reducible apply part87 | with_reducible apply part88 | with_reducible refine keeps_bind ?_ fun _ => ?_ | with_reducible refine keeps_for fun _ _ => ?_ | split

theorem part99 : ∀ c_m2147483648_i32_50 k0_h1 k0_h2 k0_h3 k0_h4 k0_h5 k0_h6 k0_h7 k0_h8 k0_h9 k0_h10, 𝕂 (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9 k0_h10) := by
  intros; unfold k0_part99
  repeat' first | extract_lets | with_reducible exact keeps_pure _ | with_reducible exact keeps_load | with_reducible exact keeps_store | with_reducible apply part96 | with_reducible apply part97 | with_reducible apply part98 | with_reducible refine keeps_bind ?_ fun _ => ?_ | with_reducible refine keeps_for fun _ _ => ?_ | split

theorem part109 : ∀ c_m2147483648_i32_50 k0_h1 k0_h2 k0_h3 k0_h4 k0_h5 k0_h6 k0_h7 k0_h8 k0_h9, 𝕂 (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8 k0_h9) := by
  intros; unfold k0_part109
  repeat' first | extract_lets | with_reducible exact keeps_pure _ | with_reducible exact keeps_load | with_reducible exact keeps_store | with_reducible apply part106 | with_reducible apply part107 | with_reducible apply part108 | with_reducible refine keeps_bind ?_ fun _ => ?_ | with_reducible refine keeps_for fun _ _ => ?_ | split

theorem part117 : ∀ c_m2147483648_i32_50 k0_h1 k0_h2 k0_h3 k0_h4 k0_h5 k0_h6 k0_h7 k0_h8, 𝕂 (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7 k0_h8) := by
  intros; unfold k0_part117
  repeat' first | extract_lets | with_reducible exact keeps_pure _ | with_reducible exact keeps_load | with_reducible exact keeps_store | with_reducible apply part115 | with_reducible apply part116 | with_reducible refine keeps_bind ?_ fun _ => ?_ | with_reducible refine keeps_for fun _ _ => ?_ | split

theorem part124 : ∀ c_m2147483648_i32_50 k0_h1 k0_h2 k0_h3 k0_h4 k0_h5 k0_h6 k0_h7, 𝕂 (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6 k0_h7) := by
  intros; unfold k0_part124
  repeat' first | extract_lets | with_reducible exact keeps_pure _ | with_reducible exact keeps_load | with_reducible exact keeps_store | with_reducible apply part122 | with_reducible apply part123 | with_reducible refine keeps_bind ?_ fun _ => ?_ | with_reducible refine keeps_for fun _ _ => ?_ | split

theorem part131 : ∀ c_m2147483648_i32_50 k0_h1 k0_h2 k0_h3 k0_h4 k0_h5 k0_h6, 𝕂 (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5 k0_h6) := by
  intros; unfold k0_part131
  repeat' first | extract_lets | with_reducible exact keeps_pure _ | with_reducible exact keeps_load | with_reducible exact keeps_store | with_reducible apply part129 | with_reducible apply part130 | with_reducible refine keeps_bind ?_ fun _ => ?_ | with_reducible refine keeps_for fun _ _ => ?_ | split

theorem part137 : ∀ c_m2147483648_i32_50 k0_h1 k0_h2 k0_h3 k0_h4 k0_h5, 𝕂 (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4 k0_h5) := by
  intros; unfold k0_part137
  repeat' first | extract_lets | with_reducible exact keeps_pure _ | with_reducible exact keeps_load | with_reducible exact keeps_store | with_reducible apply part135 | with_reducible apply part136 | with_reducible refine keeps_bind ?_ fun _ => ?_ | with_reducible refine keeps_for fun _ _ => ?_ | with_reducible refine keeps_dite (fun _ => ?_) fun _ => ?_ | with_reducible refine keeps_ite ?_ ?_ | split

theorem part142 : ∀ c_m2147483648_i32_50 k0_h1 k0_h2 k0_h3 k0_h4, 𝕂 (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3 k0_h4) := by
  intros; unfold k0_part142
  repeat' first | extract_lets | with_reducible exact keeps_pure _ | with_reducible exact keeps_load | with_reducible exact keeps_store | with_reducible apply part141 | with_reducible refine keeps_bind ?_ fun _ => ?_ | with_reducible refine keeps_for fun _ _ => ?_ | split

theorem part146 : ∀ c_m2147483648_i32_50 k0_h1 k0_h2 k0_h3, 𝕂 (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3) := by
  intros; unfold k0_part146
  repeat' first | extract_lets | with_reducible exact keeps_pure _ | with_reducible exact keeps_load | with_reducible exact keeps_store | with_reducible apply part145 | with_reducible refine keeps_bind ?_ fun _ => ?_ | with_reducible refine keeps_for fun _ _ => ?_ | split

theorem part148 : ∀ c_m2147483648_i32_50 k0_h1 k0_h2 k0_h3, 𝕂 (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2 k0_h3) := by
  intros; unfold k0_part148
  repeat' first | extract_lets | with_reducible exact keeps_pure _ | with_reducible exact keeps_load | with_reducible exact keeps_store | with_reducible apply part146 | with_reducible apply part147 | with_reducible refine keeps_bind ?_ fun _ => ?_ | split

theorem part150 : ∀ c_m2147483648_i32_50 k0_h1 k0_h2, 𝕂 (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 c_m2147483648_i32_50 k0_h1 k0_h2) := by
  intros; unfold k0_part150
  repeat' first | extract_lets | with_reducible exact keeps_pure _ | with_reducible exact keeps_load | with_reducible exact keeps_store | with_reducible apply part149 | with_reducible refine keeps_bind ?_ fun _ => ?_ | with_reducible refine keeps_for fun _ _ => ?_ | split

end Cert.Proof.Attn

end
-- ==== Proof.Attn.Select.lean ====
/- The attention kernel's loops and branches keep what they are lent. -/
module

public import proofs.«01_k».proof.Proof.Attn.Leaf1
public import proofs.«01_k».proof.Proof.Attn.Leaf2
public import proofs.«01_k».proof.Proof.Attn.Leaf3
public import proofs.«01_k».proof.Proof.Attn.Leaf4
public import proofs.«01_k».proof.Proof.Attn.Leaf5
public import proofs.«01_k».proof.Proof.Attn.Leaf6
public import proofs.«01_k».proof.Proof.Attn.Branches

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 0

theorem part249 : ∀ v0 v19 v20 v21 v24 v64 v66, 𝕂 (k0_part249 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v0 v19 v20 v21 v24 v64 v66) := by
  intros; unfold k0_part249
  repeat' first | extract_lets | with_reducible exact keeps_pure _ | with_reducible exact keeps_load | with_reducible exact keeps_store | with_reducible refine keeps_bind ?_ fun _ => ?_ | with_reducible refine keeps_for fun _ _ => ?_ | with_reducible refine keeps_dite (fun _ => ?_) fun _ => ?_ | with_reducible refine keeps_ite ?_ ?_ | split | with_reducible apply part1 | with_reducible apply part2 | with_reducible apply part3 | with_reducible apply part4 | with_reducible apply part5 | with_reducible apply part6 | with_reducible apply part7 | with_reducible apply part8 | with_reducible apply part9 | with_reducible apply part10 | with_reducible apply part11 | with_reducible apply part12 | with_reducible apply part13 | with_reducible apply part14 | with_reducible apply part15 | with_reducible apply part16 | with_reducible apply part17 | with_reducible apply part18 | with_reducible apply part19 | with_reducible apply part20 | with_reducible apply part26 | with_reducible apply part27 | with_reducible apply part28 | with_reducible apply part29 | with_reducible apply part30 | with_reducible apply part31 | with_reducible apply part32 | with_reducible apply part33 | with_reducible apply part34 | with_reducible apply part35 | with_reducible apply part49 | with_reducible apply part54 | with_reducible apply part55 | with_reducible apply part56 | with_reducible apply part57 | with_reducible apply part58 | with_reducible apply part59 | with_reducible apply part60 | with_reducible apply part61 | with_reducible apply part62 | with_reducible apply part67 | with_reducible apply part68 | with_reducible apply part69 | with_reducible apply part70 | with_reducible apply part71 | with_reducible apply part72 | with_reducible apply part73 | with_reducible apply part74 | with_reducible apply part78 | with_reducible apply part79 | with_reducible apply part80 | with_reducible apply part81 | with_reducible apply part82 | with_reducible apply part83 | with_reducible apply part84 | with_reducible apply part85 | with_reducible apply part89 | with_reducible apply part90 | with_reducible apply part91 | with_reducible apply part92 | with_reducible apply part93 | with_reducible apply part94 | with_reducible apply part95 | with_reducible apply part99 | with_reducible apply part100 | with_reducible apply part101 | with_reducible apply part102 | with_reducible apply part103 | with_reducible apply part104 | with_reducible apply part105 | with_reducible apply part109 | with_reducible apply part110 | with_reducible apply part111 | with_reducible apply part112 | with_reducible apply part113 | with_reducible apply part114 | with_reducible apply part117 | with_reducible apply part118 | with_reducible apply part119 | with_reducible apply part120 | with_reducible apply part121 | with_reducible apply part124 | with_reducible apply part125 | with_reducible apply part126 | with_reducible apply part127 | with_reducible apply part128 | with_reducible apply part131 | with_reducible apply part132 | with_reducible apply part133 | with_reducible apply part134 | with_reducible apply part137 | with_reducible apply part138 | with_reducible apply part139 | with_reducible apply part140 | with_reducible apply part142 | with_reducible apply part143 | with_reducible apply part144 | with_reducible apply part148 | with_reducible apply part150 | with_reducible apply part151 | with_reducible apply part152 | with_reducible apply part153 | with_reducible apply part154 | with_reducible apply part155 | with_reducible apply part156 | with_reducible apply part157

end Cert.Proof.Attn

end
-- ==== Proof.Attn.Passes.lean ====
/- The attention kernel's loops and branches keep what they are lent. -/
module

public import proofs.«01_k».proof.Proof.Attn.Leaf1
public import proofs.«01_k».proof.Proof.Attn.Leaf2
public import proofs.«01_k».proof.Proof.Attn.Leaf3
public import proofs.«01_k».proof.Proof.Attn.Leaf4
public import proofs.«01_k».proof.Proof.Attn.Leaf5
public import proofs.«01_k».proof.Proof.Attn.Leaf6

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 0

theorem part183 : ∀ arg1 v21 v80_0 v100 v106 v112 v118 v124 v130 v136 v142 v148 c_m2147483648_i32_118 c0_i32_119 c1_i32_121 k0_t21 arg36 arg37 arg38 arg39 arg40 arg41 arg42 arg43, 𝕂 (k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 v112 v118 v124 v130 v136 v142 v148 c_m2147483648_i32_118 c0_i32_119 c1_i32_121 k0_t21 arg36 arg37 arg38 arg39 arg40 arg41 arg42 arg43) := by
  intros; unfold k0_part183
  repeat' first | extract_lets | with_reducible exact keeps_pure _ | with_reducible exact keeps_load | with_reducible exact keeps_store | with_reducible apply part158 | with_reducible apply part159 | with_reducible apply part160 | with_reducible apply part161 | with_reducible apply part162 | with_reducible apply part163 | with_reducible apply part164 | with_reducible apply part165 | with_reducible apply part166 | with_reducible apply part167 | with_reducible apply part168 | with_reducible apply part169 | with_reducible apply part170 | with_reducible apply part171 | with_reducible apply part172 | with_reducible apply part173 | with_reducible apply part174 | with_reducible apply part175 | with_reducible apply part176 | with_reducible apply part177 | with_reducible apply part178 | with_reducible apply part179 | with_reducible apply part180 | with_reducible apply part181 | with_reducible apply part182 | with_reducible refine keeps_bind ?_ fun _ => ?_ | split

theorem part209 : ∀ arg1 v21 v80_0 v100 v106 v112 v118 v124 v130 v136 v142 v148 c_m2147483648_i32_118 v193 c1_i32_122 k0_t22 arg36 arg37 arg38 arg39 arg40 arg41 arg42 arg43, 𝕂 (k0_part209 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v21 v80_0 v100 v106 v112 v118 v124 v130 v136 v142 v148 c_m2147483648_i32_118 v193 c1_i32_122 k0_t22 arg36 arg37 arg38 arg39 arg40 arg41 arg42 arg43) := by
  intros; unfold k0_part209
  repeat' first | extract_lets | with_reducible exact keeps_pure _ | with_reducible exact keeps_load | with_reducible exact keeps_store | with_reducible apply part184 | with_reducible apply part185 | with_reducible apply part186 | with_reducible apply part187 | with_reducible apply part188 | with_reducible apply part189 | with_reducible apply part190 | with_reducible apply part191 | with_reducible apply part192 | with_reducible apply part193 | with_reducible apply part194 | with_reducible apply part195 | with_reducible apply part196 | with_reducible apply part197 | with_reducible apply part198 | with_reducible apply part199 | with_reducible apply part200 | with_reducible apply part201 | with_reducible apply part202 | with_reducible apply part203 | with_reducible apply part204 | with_reducible apply part205 | with_reducible apply part206 | with_reducible apply part207 | with_reducible apply part208 | with_reducible refine keeps_bind ?_ fun _ => ?_ | split

theorem part252 : ∀ arg1 v19 v21 v80_0 v100 v106 v112 v118 v124 v130 v136 v142 v148 v169, 𝕂 (k0_part252 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v19 v21 v80_0 v100 v106 v112 v118 v124 v130 v136 v142 v148 v169) := by
  intros; unfold k0_part252
  repeat' first | extract_lets | with_reducible exact keeps_pure _ | with_reducible exact keeps_load | with_reducible exact keeps_store | with_reducible apply part183 | with_reducible apply part209 | with_reducible refine keeps_bind ?_ fun _ => ?_ | with_reducible refine keeps_for fun _ _ => ?_ | split

theorem part253 : ∀ v19 v195_3 v195_4 v195_5 v195_6 v195_7 v197 v199 v201, 𝕂 (k0_part253 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v19 v195_3 v195_4 v195_5 v195_6 v195_7 v197 v199 v201) := by
  intros; unfold k0_part253
  repeat' first | extract_lets | with_reducible exact keeps_pure _ | with_reducible exact keeps_load | with_reducible exact keeps_store | with_reducible apply part210 | with_reducible apply part211 | with_reducible apply part212 | with_reducible apply part213 | with_reducible apply part214 | with_reducible apply part215 | with_reducible apply part216 | with_reducible apply part217 | with_reducible apply part218 | with_reducible apply part219 | with_reducible apply part220 | with_reducible apply part221 | with_reducible apply part222 | with_reducible apply part223 | with_reducible apply part224 | with_reducible apply part225 | with_reducible apply part226 | with_reducible apply part227 | with_reducible apply part228 | with_reducible apply part229 | with_reducible apply part230 | with_reducible apply part231 | with_reducible apply part232 | with_reducible apply part233 | with_reducible apply part234 | with_reducible apply part235 | with_reducible apply part236 | with_reducible apply part237 | with_reducible apply part238 | with_reducible apply part239 | with_reducible apply part240 | with_reducible apply part241 | with_reducible apply part242 | with_reducible apply part243 | with_reducible apply part244 | with_reducible apply part245 | with_reducible refine keeps_bind ?_ fun _ => ?_ | with_reducible refine keeps_for fun _ _ => ?_ | split

theorem part256 : ∀ arg1 v234 v238 v246 v250 v258 v262 v270 v274 v282 v286 v294 v298 v306 v310 v314 v318, 𝕂 (k0_part256 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v234 v238 v246 v250 v258 v262 v270 v274 v282 v286 v294 v298 v306 v310 v314 v318) := by
  intros; unfold k0_part256
  repeat' first | extract_lets | with_reducible exact keeps_pure _ | with_reducible exact keeps_load | with_reducible exact keeps_store | (dsimp (config := { zetaDelta := true, zeta := false }) only) | with_reducible refine keeps_bind ?_ fun _ => ?_ | with_reducible refine keeps_dite (fun _ => ?_) fun _ => ?_ | with_reducible refine keeps_ite ?_ ?_ | split

theorem part257 : ∀ arg1 v324 v352 v353 v354 c0_i32_209, 𝕂 (k0_part257 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v324 v352 v353 v354 c0_i32_209) := by
  intros; unfold k0_part257
  repeat' first | extract_lets | with_reducible exact keeps_pure _ | with_reducible exact keeps_load | with_reducible exact keeps_store | with_reducible apply part246 | (dsimp (config := { zetaDelta := true, zeta := false }) only) | with_reducible refine keeps_bind ?_ fun _ => ?_ | with_reducible refine keeps_dite (fun _ => ?_) fun _ => ?_ | with_reducible refine keeps_ite ?_ ?_ | split

end Cert.Proof.Attn

end
-- ==== Proof.Attn.Body.lean ====
/- The attention kernel's body keeps what it is lent. -/
module

public import proofs.«01_k».proof.Proof.Attn.Select
public import proofs.«01_k».proof.Proof.Attn.Passes

@[expose] public section

namespace Cert.Proof.Attn

open Idealize.ShloMosaic Idealize.ShloMosaic.TcCoe
open Idealize.SL Idealize.SL.RA Idealize.SL.BI
open Cert.Kernel Cert.Kernel.Gen
open Idealize.ShloMosaic.Rounds

variable {F : FTy → Type} [BitOps F] {c : Dev nD} {I : sProp (MT nD τ sig Unit (Elt F) ℕ (UR sig nD τ) ℕ)}
variable (i : grid0.Coords) (arg2 : Memref sig .tc .vmem S1x128x1024 .bf16) (harg2 : arg2.IsWhole) (arg3 : Memref sig .tc .vmem S1x17x128x1024 .bf16) (harg3 : arg3.IsWhole) (arg4 : Memref sig .tc .vmem S1x17x128x1024 .bf16) (harg4 : arg4.IsWhole) (arg5 : Memref sig .tc .vmem S1x128x512 .bf16) (harg5 : arg5.IsWhole) (arg6 : Memref sig .tc .vmem S1x17x128x128 .bf16) (harg6 : arg6.IsWhole) (arg7 : Memref sig .tc .vmem S1x8x128 .f32) (harg7 : arg7.IsWhole) (arg8 : Memref sig .tc .vmem S8x3x128x256 .f32) (harg8 : arg8.IsWhole) (arg9 : Memref sig .tc .vmem S1x512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S18x128x128 .i32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .bf16) (harg18 : arg18.IsWhole) (arg19 : Memref sig .tc .vmem S18x128x256 .f32) (harg19 : arg19.IsWhole) (arg20 : Memref sig .tc .vmem S18x128x256 .f32) (harg20 : arg20.IsWhole) (arg21 : Memref sig .tc .vmem S18x128x256 .f32) (harg21 : arg21.IsWhole) (arg22 : Memref sig .tc .vmem S18x128x256 .f32) (harg22 : arg22.IsWhole) (arg23 : Memref sig .tc .vmem S18x128x256 .f32) (harg23 : arg23.IsWhole) (arg24 : Memref sig .tc .vmem S18x128x256 .f32) (harg24 : arg24.IsWhole) (arg25 : Memref sig .tc .vmem S18x128x256 .f32) (harg25 : arg25.IsWhole) (arg26 : Memref sig .tc .vmem S18x128x256 .f32) (harg26 : arg26.IsWhole) (arg27 : Memref sig .tc .vmem S128x256 .f32) (harg27 : arg27.IsWhole) (arg28 : Memref sig .tc .vmem S128x256 .f32) (harg28 : arg28.IsWhole) (arg29 : Memref sig .tc .vmem S128x256 .f32) (harg29 : arg29.IsWhole) (arg30 : Memref sig .tc .vmem S128x256 .f32) (harg30 : arg30.IsWhole) (arg31 : Memref sig .tc .vmem S128x256 .f32) (harg31 : arg31.IsWhole) (arg32 : Memref sig .tc .vmem S128x256 .f32) (harg32 : arg32.IsWhole) (arg33 : Memref sig .tc .vmem S128x256 .f32) (harg33 : arg33.IsWhole) (arg34 : Memref sig .tc .vmem S128x256 .f32) (harg34 : arg34.IsWhole)
variable [Lends (c : Thread nD τ) I arg2] [Lends (c : Thread nD τ) I arg3] [Lends (c : Thread nD τ) I arg4] [Lends (c : Thread nD τ) I arg5] [Lends (c : Thread nD τ) I arg6] [Lends (c : Thread nD τ) I arg7] [Lends (c : Thread nD τ) I arg8] [Lends (c : Thread nD τ) I arg9] [Lends (c : Thread nD τ) I arg10] [Lends (c : Thread nD τ) I arg11] [Lends (c : Thread nD τ) I arg12] [Lends (c : Thread nD τ) I arg13] [Lends (c : Thread nD τ) I arg14] [Lends (c : Thread nD τ) I arg15] [Lends (c : Thread nD τ) I arg16] [Lends (c : Thread nD τ) I arg17] [Lends (c : Thread nD τ) I arg18] [Lends (c : Thread nD τ) I arg19] [Lends (c : Thread nD τ) I arg20] [Lends (c : Thread nD τ) I arg21] [Lends (c : Thread nD τ) I arg22] [Lends (c : Thread nD τ) I arg23] [Lends (c : Thread nD τ) I arg24] [Lends (c : Thread nD τ) I arg25] [Lends (c : Thread nD τ) I arg26] [Lends (c : Thread nD τ) I arg27] [Lends (c : Thread nD τ) I arg28] [Lends (c : Thread nD τ) I arg29] [Lends (c : Thread nD τ) I arg30] [Lends (c : Thread nD τ) I arg31] [Lends (c : Thread nD τ) I arg32] [Lends (c : Thread nD τ) I arg33] [Lends (c : Thread nD τ) I arg34]

local notation "𝕂" => Keeps (defs₀ (F := F)) Variants.none (c : Thread nD τ) none Set.univ I

set_option maxHeartbeats 2000000

theorem body : 𝕂 (cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) := by
  intros; unfold cc0_dsa_attention
  repeat' first | extract_lets | with_reducible exact keeps_pure _ | with_reducible exact keeps_load | with_reducible exact keeps_store | with_reducible apply part247 | with_reducible apply part248 | with_reducible apply part249 | with_reducible apply part250 | with_reducible apply part251 | with_reducible apply part252 | with_reducible apply part253 | with_reducible apply part254 | with_reducible apply part255 | with_reducible apply part256 | with_reducible apply part257 | with_reducible refine keeps_bind ?_ fun _ => ?_ | split

end Cert.Proof.Attn

end
-- ==== Proof.Attn.Frame.lean ====
/- The attention kernel's run: it terminates, nothing faults, its argument arrays end as launched and every semaphore
   counter ends at zero.

   At each grid point the body holds the twelve windows' staging buffers and the scratch buffers, each whole at some
   contents, and leaves them so (`body`). Nothing is claimed of what it leaves, so every window is forgotten. -/
module

public import proofs.«01_k».proof.Defs
public import proofs.«01_k».proof.Proof.Attn.Body
public import proofs.«01_k».proof.Proof.Gen.Kernel.Frame
public import Idealize.ShloMosaic.Adequacy
public import Idealize.ShloMosaic.Init

@[expose] public section

noncomputable section

namespace Cert.Proof.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body holds at point `t`: the scoped rest and the generator's register, anything else `O`, and every
    window's current staging buffer at some contents. -/
def held (c : Dev nD) (O : sProp 𝕄) (t : Fin cfg0.N) : sProp 𝕄 :=
  iprop(Pipeline.ΦA (U := UR sig nD τ) (Val := Elt F) spec0 c ∗ O
    ∗ bigSep Finset.univ fun w : Fin cfg0.W => iprop(∃ X, owns (c : Thread nD τ) ((cfg0.win w).stage (cfg0.slots t w)) fullShare X))

/-- One member of a separated family, in front of the others. -/
theorem take {ι : Type} [DecidableEq ι] {s : Finset ι} {i : ι} (hi : i ∈ s) (Φ : ι → sProp 𝕄) :
    bigSep s Φ = iprop(Φ i ∗ bigSep (s.erase i) Φ) := BI.bigSep_erase hi

theorem lends_window (c : Dev nD) (O : sProp 𝕄) (t : Fin cfg0.N) (w : Fin cfg0.W) :
    Lends (c : Thread nD τ) (held (F := F) c O t) ((cfg0.win w).stage (cfg0.slots t w)) where
  lends := by
    unfold held
    rw [take (Finset.mem_univ w)]
    unfold owns
    iintro ⟨HΦ, HO, ⟨%X, %f, %hf, H⟩, HR⟩
    iexists f
    isplitl [H]
    · iexact H
    · iintro ⟨%g, H⟩
      isplitl [HΦ]
      · iexact HΦ
      isplitl [HO]
      · iexact HO
      isplitl [H]
      · iexists _, g
        isplitr
        · ipureintro; rfl
        · iexact H
      · iexact HR

theorem lends_scratch (c : Dev nD) (O : sProp 𝕄) (t : Fin cfg0.N) (b : Ref sig .tc)
    (hb : b ∈ ((Finset.univ.filter fun b : Ref sig .tc => b.isScoped) \ Finset.univ.image (Pipeline.stageRef spec0))) :
    Lends (c : Thread nD τ) (held (F := F) c O t) (Memref.whole b) where
  lends := by
    unfold held Pipeline.ΦA Pipeline.scopedRest
    rw [take hb]
    iintro ⟨⟨⟨⟨%f, H⟩, HR⟩, HP⟩, HO, HW⟩
    iexists f
    rw [show (Memref.whole b : Memref sig .tc _ _ _).view.set = Finset.univ from View.set_whole b]
    isplitl [H]
    · iexact H
    · iintro ⟨%g, H⟩
      isplitl [H HR HP]
      · isplitr [HP]
        · isplitl [H]
          · iexists g; iexact H
          · iexact HR
        · iexact HP
      isplitl [HO]
      · iexact HO
      · iexact HW

/-- The body at point `t` keeps what it holds. -/
theorem body_keeps (c : Dev nD) (O : sProp 𝕄) (t : Fin cfg0.N) :
    Keeps (defs₀ (F := F)) Variants.none (c : Thread nD τ) none Set.univ (held (F := F) c O t) (bodyAt0 (F := F) t) := by
  haveI : Lends (c : Thread nD τ) (held (F := F) c O t) (win0_0.stage (cfg0.slots t 0)) := lends_window c O t 0
  haveI : Lends (c : Thread nD τ) (held (F := F) c O t) (win0_1.stage (cfg0.slots t 1)) := lends_window c O t 1
  haveI : Lends (c : Thread nD τ) (held (F := F) c O t) (win0_2.stage (cfg0.slots t 2)) := lends_window c O t 2
  haveI : Lends (c : Thread nD τ) (held (F := F) c O t) (win0_3.stage (cfg0.slots t 3)) := lends_window c O t 3
  haveI : Lends (c : Thread nD τ) (held (F := F) c O t) (win0_4.stage (cfg0.slots t 4)) := lends_window c O t 4
  haveI : Lends (c : Thread nD τ) (held (F := F) c O t) (win0_5.stage (cfg0.slots t 5)) := lends_window c O t 5
  haveI : Lends (c : Thread nD τ) (held (F := F) c O t) (win0_6.stage (cfg0.slots t 6)) := lends_window c O t 6
  haveI : Lends (c : Thread nD τ) (held (F := F) c O t) (win0_7.stage (cfg0.slots t 7)) := lends_window c O t 7
  haveI : Lends (c : Thread nD τ) (held (F := F) c O t) (win0_8.stage (cfg0.slots t 8)) := lends_window c O t 8
  haveI : Lends (c : Thread nD τ) (held (F := F) c O t) (win0_9.stage (cfg0.slots t 9)) := lends_window c O t 9
  haveI : Lends (c : Thread nD τ) (held (F := F) c O t) (win0_10.stage (cfg0.slots t 10)) := lends_window c O t 10
  haveI : Lends (c : Thread nD τ) (held (F := F) c O t) (win0_11.stage (cfg0.slots t 11)) := lends_window c O t 11
  haveI : Lends (c : Thread nD τ) (held (F := F) c O t) (Memref.whole cc0_scratch0) := lends_scratch c O t _ (by decide)
  haveI : Lends (c : Thread nD τ) (held (F := F) c O t) (Memref.whole cc0_scratch1) := lends_scratch c O t _ (by decide)
  haveI : Lends (c : Thread nD τ) (held (F := F) c O t) (Memref.whole cc0_scratch2) := lends_scratch c O t _ (by decide)
  haveI : Lends (c : Thread nD τ) (held (F := F) c O t) (Memref.whole cc0_scratch3) := lends_scratch c O t _ (by decide)
  haveI : Lends (c : Thread nD τ) (held (F := F) c O t) (Memref.whole cc0_scratch4) := lends_scratch c O t _ (by decide)
  haveI : Lends (c : Thread nD τ) (held (F := F) c O t) (Memref.whole cc0_scratch5) := lends_scratch c O t _ (by decide)
  haveI : Lends (c : Thread nD τ) (held (F := F) c O t) (Memref.whole cc0_scratch6) := lends_scratch c O t _ (by decide)
  haveI : Lends (c : Thread nD τ) (held (F := F) c O t) (Memref.whole cc0_scratch7) := lends_scratch c O t _ (by decide)
  haveI : Lends (c : Thread nD τ) (held (F := F) c O t) (Memref.whole cc0_scratch8) := lends_scratch c O t _ (by decide)
  haveI : Lends (c : Thread nD τ) (held (F := F) c O t) (Memref.whole cc0_scratch9) := lends_scratch c O t _ (by decide)
  haveI : Lends (c : Thread nD τ) (held (F := F) c O t) (Memref.whole cc0_scratch10) := lends_scratch c O t _ (by decide)
  haveI : Lends (c : Thread nD τ) (held (F := F) c O t) (Memref.whole cc0_scratch11) := lends_scratch c O t _ (by decide)
  haveI : Lends (c : Thread nD τ) (held (F := F) c O t) (Memref.whole cc0_scratch12) := lends_scratch c O t _ (by decide)
  haveI : Lends (c : Thread nD τ) (held (F := F) c O t) (Memref.whole cc0_scratch13) := lends_scratch c O t _ (by decide)
  haveI : Lends (c : Thread nD τ) (held (F := F) c O t) (Memref.whole cc0_scratch14) := lends_scratch c O t _ (by decide)
  haveI : Lends (c : Thread nD τ) (held (F := F) c O t) (Memref.whole cc0_scratch15) := lends_scratch c O t _ (by decide)
  haveI : Lends (c : Thread nD τ) (held (F := F) c O t) (Memref.whole cc0_scratch16) := lends_scratch c O t _ (by decide)
  haveI : Lends (c : Thread nD τ) (held (F := F) c O t) (Memref.whole cc0_scratch17) := lends_scratch c O t _ (by decide)
  haveI : Lends (c : Thread nD τ) (held (F := F) c O t) (Memref.whole cc0_scratch18) := lends_scratch c O t _ (by decide)
  haveI : Lends (c : Thread nD τ) (held (F := F) c O t) (Memref.whole cc0_scratch19) := lends_scratch c O t _ (by decide)
  haveI : Lends (c : Thread nD τ) (held (F := F) c O t) (Memref.whole cc0_scratch20) := lends_scratch c O t _ (by decide)
  exact body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The proof data: the arrays as the region finds them, no window's contents named. -/
def dats (p : Fin 1) (c : Dev nD) : Dat τ (Elt F) Unit ℕ (UR sig nD τ) ℕ (cfgs p) c where
  A w := V m c (Pipeline.arrRef spec0 w)
  after := Dat.unnamed
  Φ _ := Pipeline.ΦA spec0 c
  q _ := fullShare
  owed _ := 0

theorem obligation (c : Dev nD) :
    Pipeline.BodyObligationLoose (dats (F := F) m 0 c) defs₀ Variants.none () Set.univ (fun _ => true) := fun t => by
  have hrow : defs₀ (F := F) .tc cfg0.body (cfg0.bodyArgs t (cfg0.slots t)) = bodyAt0 t := by
    unfold defs₀; rw [Defs.onTc_tc]
  rw [hrow]
  exact body_keeps c _ t

theorem run_main : θ_run defs (onTc (τ := τ) (main (F := F))) (s₀ m ρ) (fun r =>
    Pipeline.RDat.FramePost cfg0 (fun c => (dats (F := F) m 0 c).toRForget fun _ => true) (V m) r ∧ r.2.sem = fun _ => 0) :=
  Pipeline.θ_run_frame_forget cfgs (dats m) 0 launch0 defs₀ Variants.none (fun _ => true) m ρ main
    (fun c => obligation m c) (fun c w => by unfold Dat.share; split <;> rfl) (fun _ _ => rfl) (V m) (hmain m _) (fun _ _ => rfl) (fun _ _ => rfl) _ (fun _ h => h)

/-- The attention kernel's frame: its arguments end as launched, and every counter at zero. -/
theorem frame (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ ⟨h, hs⟩ => ⟨fun c => ⟨(h.arr_in c 7 rfl).trans (V_main_arg0 m c),
      (h.arr_in c 0 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (h.arr_in c 3 rfl).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (h.arr_in c 6 rfl).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩, hs⟩) (run_main m g)

end Cert.Proof.Attn

end
-- ==== Proof.Ffn.Value.lean ====
/- The feed-forward part and its LayerNorm: what the kernel leaves in its result array is the reference's term, read at
   `Ideal`. -/
module

public import proofs.«01_k».proof.Proof.Gen.FfnKernelIdeal.Frame
public import proofs.«01_k».proof.Proof.Gen.FfnReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ffn

section reference

open Cert.FfnReferenceIdeal Cert.FfnReferenceIdeal.Gen

variable (X : FVec Ideal S16x2048x1024 .f32) (Wg Wu : FVec Ideal S1024x2816 .f32) (Wd : FVec Ideal S2816x1024 .f32)
  (G B : FVec Ideal S1024 .f32)

/-- The gated activation, `silu (h @ w_gate) * (h @ w_up)`. -/
abbrev act : FVec Ideal S16x2048x2816 .f32 :=
  mulf (mulf (Host.dotGeneral dot_S16x2048x1024_S1024x2816_S16x2048x2816_2_0_01_1_n_n none X Wg) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (Host.dotGeneral dot_S16x2048x1024_S1024x2816_S16x2048x2816_2_0_01_1_n_n none X Wg)))))) (Host.dotGeneral dot_S16x2048x1024_S1024x2816_S16x2048x2816_2_0_01_1_n_n none X Wu)

/-- What the LayerNorm is applied to. -/
abbrev res : FVec Ideal S16x2048x1024 .f32 :=
  addf (mulf (broadcastInDim S16x2048x1024 ![] bcast_S_S16x2048x1024 (constant S_ .f32 0x3FB504F3#32)) X) (Host.dotGeneral dot_S16x2048x2816_S2816x1024_S16x2048x1024_2_0_01_1_n_n none (act X Wg Wu) Wd)

/-- The mean over the features. -/
abbrev mean (Y : FVec Ideal S16x2048x1024 .f32) : FVec Ideal S16x2048x1 .f32 :=
  Host.divf (broadcastInDim S16x2048x1 ![0, 1] bcast_S16x2048_S16x2048x1_0_1 (Host.reduceAdd Y (constant S_ .f32 0x00000000#32) reducesTo_S16x2048x1024_S16x2048_d2 h_S_)) (broadcastInDim S16x2048x1 ![] bcast_S_S16x2048x1 (constant S_ .f32 0x44800000#32))

/-- The deviation from the mean. -/
abbrev dev : FVec Ideal S16x2048x1024 .f32 :=
  subf (res X Wg Wu Wd) (broadcastInDim S16x2048x1024 ![0, 1, 2] bcast_S16x2048x1_S16x2048x1024_0_1_2 (mean (res X Wg Wu Wd)))

/-- The reference's result over its arguments. -/
abbrev result : FVec Ideal S16x2048x1024 .f32 :=
  addf (mulf (mulf (dev X Wg Wu Wd) (broadcastInDim S16x2048x1024 ![0, 1, 2] bcast_S16x2048x1_S16x2048x1024_0_1_2 (Host.rsqrt (addf (mean (mulf (dev X Wg Wu Wd) (dev X Wg Wu Wd))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S1x1x1024_S16x2048x1024_0_1_2 (broadcastInDim S1x1x1024 ![2] bcast_S1024_S1x1x1024_2 B))

end reference

open Cert.FfnKernelIdeal Cert.FfnKernelIdeal.Gen

variable (m : (ℓ : Loc nD τ sig) → Buf (Elt Ideal) ℓ)

/-- Each window's block index at a grid point. -/
theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![t.val / 4, t.val % 4, 0] :=
  (by decide +kernel : ∀ t : Fin grid0.N, _)

set_option maxHeartbeats 2000000 in
/-- What the body stores at block index `y` of point `t` is the reference's result at the place `y` has in the array. -/
theorem point (c : Dev nD) (t : Fin cfg0.N) (y : S1x512x1024.Idx) :
    k0_pay1 (k0_pay2 (iblk m c 4 t)) (k0_pay3 (iblk m c 5 t)) (k0_pay4 (iblk m c 0 t) (iblk m c 1 t) (iblk m c 2 t) (iblk m c 3 t))
        (k0_pay5 (iblk m c 0 t) (iblk m c 1 t) (iblk m c 2 t) (iblk m c 3 t)) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, k0_pay2, k0_pay3, k0_pay4, k0_pay5, result, res, mean, dev, act, Ideal.logistic]
  blk_point [iblk, V, idx t]

/-- The result array after the run. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Proof.Ffn

end
-- ==== Proof.Ffn.Claim.lean ====
/- The feed-forward part's value claim, from the two runs. -/
module

public import proofs.«01_k».proof.Defs
public import proofs.«01_k».proof.Proof.Ffn.Value
public import proofs.«01_k».proof.Proof.Gen.FfnReferenceIdeal.Run
public import Idealize.ShloMosaic.Lib.Claim

@[expose] public section

set_option maxRecDepth 16384

noncomputable section

open Idealize.ShloMosaic Idealize.ShloMosaic.TcCoe Idealize.SL.Sem

namespace Cert.Proof.Ffn

theorem algebraic : Cert.algebraic_FfnKernelIdeal_FfnReferenceIdeal := by
  pair_intro
  · run_from Cert.FfnKernelIdeal.Gen.run_main m g
  · run_from Cert.FfnReferenceIdeal.Value.run m' g'
    obtain ⟨h0, h1, h2, h3, h4, h5⟩ := hagree c
    unfold Cert.FfnReferenceIdeal.Value.res_main_v31
    rw [h0, h1, h2, h3, h4, h5]
    exact (final m c).symm

end Cert.Proof.Ffn

end
-- ==== Proof.Ffn0.Value.lean ====
/- The feed-forward part of layer 0, on padded rows, and its LayerNorm: what the kernel leaves in its result array is the reference's term, read at
   `Ideal`. -/
module

public import proofs.«01_k».proof.Proof.Gen.Ffn0KernelIdeal.Frame
public import proofs.«01_k».proof.Proof.Gen.Ffn0ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ffn0

section reference

open Cert.Ffn0ReferenceIdeal Cert.Ffn0ReferenceIdeal.Gen

variable (X : FVec Ideal S16x2176x1024 .f32) (Wg Wu : FVec Ideal S1024x2816 .f32) (Wd : FVec Ideal S2816x1024 .f32)
  (G B : FVec Ideal S1024 .f32)

/-- The gated activation, `silu (h @ w_gate) * (h @ w_up)`. -/
abbrev act : FVec Ideal S16x2176x2816 .f32 :=
  mulf (mulf (Host.dotGeneral dot_S16x2176x1024_S1024x2816_S16x2176x2816_2_0_01_1_n_n none X Wg) (Host.divf (broadcastInDim S16x2176x2816 ![] bcast_S_S16x2176x2816 (constant S_ .f32 0x3F800000#32)) (addf (broadcastInDim S16x2176x2816 ![] bcast_S_S16x2176x2816 (constant S_ .f32 0x3F800000#32)) (Host.exp (Host.negf (Host.dotGeneral dot_S16x2176x1024_S1024x2816_S16x2176x2816_2_0_01_1_n_n none X Wg)))))) (Host.dotGeneral dot_S16x2176x1024_S1024x2816_S16x2176x2816_2_0_01_1_n_n none X Wu)

/-- What the LayerNorm is applied to. -/
abbrev res : FVec Ideal S16x2176x1024 .f32 :=
  addf (mulf (broadcastInDim S16x2176x1024 ![] bcast_S_S16x2176x1024 (constant S_ .f32 0x3FB504F3#32)) X) (Host.dotGeneral dot_S16x2176x2816_S2816x1024_S16x2176x1024_2_0_01_1_n_n none (act X Wg Wu) Wd)

/-- The mean over the features. -/
abbrev mean (Y : FVec Ideal S16x2176x1024 .f32) : FVec Ideal S16x2176x1 .f32 :=
  Host.divf (broadcastInDim S16x2176x1 ![0, 1] bcast_S16x2176_S16x2176x1_0_1 (Host.reduceAdd Y (constant S_ .f32 0x00000000#32) reducesTo_S16x2176x1024_S16x2176_d2 h_S_)) (broadcastInDim S16x2176x1 ![] bcast_S_S16x2176x1 (constant S_ .f32 0x44800000#32))

/-- The deviation from the mean. -/
abbrev dev : FVec Ideal S16x2176x1024 .f32 :=
  subf (res X Wg Wu Wd) (broadcastInDim S16x2176x1024 ![0, 1, 2] bcast_S16x2176x1_S16x2176x1024_0_1_2 (mean (res X Wg Wu Wd)))

/-- The reference's result over its arguments. -/
abbrev result : FVec Ideal S16x2176x1024 .f32 :=
  addf (mulf (mulf (dev X Wg Wu Wd) (broadcastInDim S16x2176x1024 ![0, 1, 2] bcast_S16x2176x1_S16x2176x1024_0_1_2 (Host.rsqrt (addf (mean (mulf (dev X Wg Wu Wd) (dev X Wg Wu Wd))) (broadcastInDim S16x2176x1 ![] bcast_S_S16x2176x1 (constant S_ .f32 0x3727C5AC#32)))))) (broadcastInDim S16x2176x1024 ![0, 1, 2] bcast_S1x1x1024_S16x2176x1024_0_1_2 (broadcastInDim S1x1x1024 ![2] bcast_S1024_S1x1x1024_2 G))) (broadcastInDim S16x2176x1024 ![0, 1, 2] bcast_S1x1x1024_S16x2176x1024_0_1_2 (broadcastInDim S1x1x1024 ![2] bcast_S1024_S1x1x1024_2 B))

end reference

open Cert.Ffn0KernelIdeal Cert.Ffn0KernelIdeal.Gen

variable (m : (ℓ : Loc nD τ sig) → Buf (Elt Ideal) ℓ)

/-- Each window's block index at a grid point. -/
theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![t.val / 4, t.val % 4, 0] :=
  (by decide +kernel : ∀ t : Fin grid0.N, _)

set_option maxHeartbeats 2000000 in
/-- What the body stores at block index `y` of point `t` is the reference's result at the place `y` has in the array. -/
theorem point (c : Dev nD) (t : Fin cfg0.N) (y : S1x544x1024.Idx) :
    k0_pay1 (k0_pay2 (iblk m c 4 t)) (k0_pay3 (iblk m c 5 t)) (k0_pay4 (iblk m c 0 t) (iblk m c 1 t) (iblk m c 2 t) (iblk m c 3 t))
        (k0_pay5 (iblk m c 0 t) (iblk m c 1 t) (iblk m c 2 t) (iblk m c 3 t)) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, k0_pay2, k0_pay3, k0_pay4, k0_pay5, result, res, mean, dev, act, Ideal.logistic]
  blk_point [iblk, V, idx t]

/-- The result array after the run. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Proof.Ffn0

end
-- ==== Proof.Ffn0.Claim.lean ====
/- The feed-forward part's value claim, from the two runs. -/
module

public import proofs.«01_k».proof.Defs
public import proofs.«01_k».proof.Proof.Ffn0.Value
public import proofs.«01_k».proof.Proof.Gen.Ffn0ReferenceIdeal.Run
public import Idealize.ShloMosaic.Lib.Claim

@[expose] public section

set_option maxRecDepth 16384

noncomputable section

open Idealize.ShloMosaic Idealize.ShloMosaic.TcCoe Idealize.SL.Sem

namespace Cert.Proof.Ffn0

theorem algebraic : Cert.algebraic_Ffn0KernelIdeal_Ffn0ReferenceIdeal := by
  pair_intro
  · run_from Cert.Ffn0KernelIdeal.Gen.run_main m g
  · run_from Cert.Ffn0ReferenceIdeal.Value.run m' g'
    obtain ⟨h0, h1, h2, h3, h4, h5⟩ := hagree c
    unfold Cert.Ffn0ReferenceIdeal.Value.res_main_v31
    rw [h0, h1, h2, h3, h4, h5]
    exact (final m c).symm

end Cert.Proof.Ffn0

end
-- ==== Proof.Glu.Value.lean ====
/- The gated pointwise product: what the kernel leaves in its result array is the reference's term, read at `Ideal`. -/
module

public import proofs.«01_k».proof.Proof.Gen.GluKernelIdeal.Frame
public import proofs.«01_k».proof.Proof.Gen.GluReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Glu

section reference

open Cert.GluReferenceIdeal Cert.GluReferenceIdeal.Gen

/-- The product before the gate, `h @ w + b`. -/
abbrev lin (X : FVec Ideal S34816x1024 .f32) (W : FVec Ideal S1024x2048 .f32) (B : FVec Ideal S2048 .f32) :
    FVec Ideal S34816x2048 .f32 :=
  addf (Host.dotGeneral dot_S34816x1024_S1024x2048_S34816x2048_1_0_0_1_n_n none X W)
    (broadcastInDim S34816x2048 ![0, 1] bcast_S1x2048_S34816x2048_0_1 (broadcastInDim S1x2048 ![1] bcast_S2048_S1x2048_1 B))

/-- The reference's result over its arguments. -/
abbrev result (X : FVec Ideal S34816x1024 .f32) (W : FVec Ideal S1024x2048 .f32) (B : FVec Ideal S2048 .f32) :
    FVec Ideal S34816x1024 .f32 :=
  mulf (extractStridedSlice S34816x1024 ![0, 0] (lin X W B) slices_S34816x2048_S34816x1024_0_0)
    (Host.divf (broadcastInDim S34816x1024 ![] bcast_S_S34816x1024 (constant S_ .f32 0x3F800000#32))
      (addf (broadcastInDim S34816x1024 ![] bcast_S_S34816x1024 (constant S_ .f32 0x3F800000#32))
        (Host.exp (Host.negf (extractStridedSlice S34816x1024 ![0, 1024] (lin X W B) slices_S34816x2048_S34816x1024_0_1024)))))

end reference

open Cert.GluKernelIdeal Cert.GluKernelIdeal.Gen

variable (m : (ℓ : Loc nD τ sig) → Buf (Elt Ideal) ℓ)

/-- Each window's block index at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

set_option maxHeartbeats 2000000 in
/-- What the body stores at block index `y` of point `t` is the reference's result at the place `y` has in the array. -/
theorem point (c : Dev nD) (t : Fin cfg0.N) (y : S1088x1024.Idx) :
    k0_pay1 (iblk m c 0 t) (iblk m c 1 t) (iblk m c 2 t) y
      = result (m ((c : Thread nD τ).loc main_arg0)) (m ((c : Thread nD τ).loc main_arg1)) (m ((c : Thread nD τ).loc main_arg2))
          (((cfg0.win 3).blk t).view.emb y) := by
  pointwise [k0_pay1, result, Ideal.logistic]
  blk_point [iblk, V, idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.Glu

end
-- ==== Proof.Glu.Claim.lean ====
/- The gated pointwise product's value claim, from the two runs. -/
module

public import proofs.«01_k».proof.Defs
public import proofs.«01_k».proof.Proof.Glu.Value
public import proofs.«01_k».proof.Proof.Gen.GluReferenceIdeal.Run
public import Idealize.ShloMosaic.Lib.Claim

@[expose] public section

set_option maxRecDepth 16384

noncomputable section

open Idealize.ShloMosaic Idealize.ShloMosaic.TcCoe Idealize.SL.Sem

namespace Cert.Proof.Glu

theorem algebraic : Cert.algebraic_GluKernelIdeal_GluReferenceIdeal := by
  pair_intro
  · run_from Cert.GluKernelIdeal.Gen.run_main m g
  · run_from Cert.GluReferenceIdeal.Value.run m' g'
    exact (final m c).symm

end Cert.Proof.Glu

end
-- ==== Proof.Proj.Skel.lean ====
/- The input projection's body: what it computes from what it loads, and the body as loads and stores of that. -/
module

public import proofs.«01_k».proof.Proof.Gen.ProjKernelIdeal.Frame

@[expose] public section

set_option maxRecDepth 16384

noncomputable section

namespace Cert.Proof.Proj

open Idealize.ShloMosaic Idealize.ShloMosaic.TcCoe Idealize.SL.Sem
open Cert.ProjKernelIdeal Cert.ProjKernelIdeal.Gen

variable {F : FTy → Type} [FloatOps F]

/-- The rows of a block: the meta tokens or the rows before the block, then the block's own, zero past the last real row. -/
noncomputable def rows (i : grid0.Coords) (v1 : Vec F S16x1024 .f32) (v2 : Vec F S1x1x16x1024 .f32) (v5 : Vec F S1x528x1024 .f32) : FVec F S544x1024 .f32 :=
  let arg1 : BitVec 32 := BitVec.ofNat 32 (i 1).val
  let c0_i32 : BitVec 32 := 0#32
  let v0 : BitVec 1 := Scalar.cmpi .eq arg1 c0_i32
  have v3 : FVec F S16x1024 .f32 := shapeCast S16x1024 v2 shapeCasts_S1x1x16x1024_S16x1024
  have v4 : Vec F S16x1024 .f32 := Scalar.select v0 v1 v3
  have v6 : FVec F S528x1024 .f32 := shapeCast S528x1024 v5 shapeCasts_S1x528x1024_S528x1024
  have v7 : FVec F S544x1024 .f32 := concatenate S544x1024 0 [⟨S16x1024, v4⟩, ⟨S528x1024, v6⟩] concatenates_S16x1024_S528x1024_S544x1024_d0
  let c544_i32 : BitVec 32 := 544#32
  let v8 : BitVec 32 := Scalar.muli arg1 c544_i32
  have v9 : IVec S544x1 32 := iota .tc S544x1 32 [0] iota_S544x1_d0_w32
  have v10 : IVec S544x1 32 := broadcast S544x1 v8
  have v11 : IVec S544x1 32 := addi v10 v9
  let c2064_i32 : BitVec 32 := 2064#32
  have v12 : IVec S544x1 32 := broadcast S544x1 c2064_i32
  have v13 : IVec S544x1 1 := cmpi .slt v11 v12
  have cst : F .f32 := Scalar.ofBits .f32 0x00000000#32
  have v14 : IVec S544x1 1 := shapeCast S544x1 v13 shapeCasts_S544x1_S544x1
  have v15 : IVec S544x1024 1 := broadcastTo S544x1024 v14 broadcasts_S544x1_S544x1024
  have v16 : FVec F S544x1024 .f32 := broadcast S544x1024 cst
  have v17 : FVec F S544x1024 .f32 := select v15 v7 v16
  v17

/-- The rows as a block of the widened hidden states. -/
noncomputable def payH (v17 : FVec F S544x1024 .f32) : FVec F S1x544x1024 .f32 :=
  have v20 : FVec F S1x544x1024 .f32 := shapeCast S1x544x1024 v17 shapeCasts_S544x1024_S1x544x1024
  v20

/-- The rows narrowed. -/
noncomputable def low (v17 : FVec F S544x1024 .f32) : FVec F S544x1024 .bf16 :=
  have v21 : FVec F S544x1024 .bf16 := truncf .bf16 v17 bitsLt_bf16_f32
  v21

/-- The queries of the rows, scaled. -/
noncomputable def payQ (v21 : FVec F S544x1024 .bf16) (v22 : Vec F S1024x1024 .bf16) : FVec F S1x544x1024 .bf16 :=
  have v23 : FVec F S1024x1024 .bf16 := shapeCast S1024x1024 v22 shapeCasts_S1024x1024_S1024x1024
  have cst_13 : FVec F S544x1024 .f32 := constant S544x1024 .f32 0x00000000#32
  have v24 : FVec F S544x1024 .f32 := matmul dot_S544x1024_S1024x1024_S544x1024_1_0_0_1_n_n none v21 v23 cst_13
  have cst_14 : F .f32 := Scalar.ofBits .f32 0x3E38AA3B#32
  have v25 : FVec F S544x1024 .f32 := broadcast S544x1024 cst_14
  have v26 : FVec F S544x1024 .f32 := mulf v24 v25
  have v27 : FVec F S544x1024 .bf16 := truncf .bf16 v26 bitsLt_bf16_f32
  have v30 : FVec F S1x544x1024 .bf16 := shapeCast S1x544x1024 v27 shapeCasts_S544x1024_S1x544x1024
  v30

/-- The keys of the rows. -/
noncomputable def payK (v21 : FVec F S544x1024 .bf16) (v31 : Vec F S1024x1024 .bf16) : FVec F S1x544x1024 .bf16 :=
  have v32 : FVec F S1024x1024 .bf16 := shapeCast S1024x1024 v31 shapeCasts_S1024x1024_S1024x1024
  have cst_19 : FVec F S544x1024 .f32 := constant S544x1024 .f32 0x00000000#32
  have v33 : FVec F S544x1024 .f32 := matmul dot_S544x1024_S1024x1024_S544x1024_1_0_0_1_n_n none v21 v32 cst_19
  have v34 : FVec F S544x1024 .bf16 := truncf .bf16 v33 bitsLt_bf16_f32
  have v37 : FVec F S1x544x1024 .bf16 := shapeCast S1x544x1024 v34 shapeCasts_S544x1024_S1x544x1024
  v37

/-- The values of the rows. -/
noncomputable def payV (v21 : FVec F S544x1024 .bf16) (v38 : Vec F S1024x1024 .bf16) : FVec F S1x544x1024 .bf16 :=
  have v39 : FVec F S1024x1024 .bf16 := shapeCast S1024x1024 v38 shapeCasts_S1024x1024_S1024x1024
  have cst_24 : FVec F S544x1024 .f32 := constant S544x1024 .f32 0x00000000#32
  have v40 : FVec F S544x1024 .f32 := matmul dot_S544x1024_S1024x1024_S544x1024_1_0_0_1_n_n none v21 v39 cst_24
  have v41 : FVec F S544x1024 .bf16 := truncf .bf16 v40 bitsLt_bf16_f32
  have v44 : FVec F S1x544x1024 .bf16 := shapeCast S1x544x1024 v41 shapeCasts_S544x1024_S1x544x1024
  v44

/-- The indexer's queries of the rows. -/
noncomputable def payI (v21 : FVec F S544x1024 .bf16) (v45 : Vec F S1024x512 .bf16) : FVec F S1x544x512 .bf16 :=
  have v46 : FVec F S1024x512 .bf16 := shapeCast S1024x512 v45 shapeCasts_S1024x512_S1024x512
  have cst_29 : FVec F S544x512 .f32 := constant S544x512 .f32 0x00000000#32
  have v47 : FVec F S544x512 .f32 := matmul dot_S544x1024_S1024x512_S544x512_1_0_0_1_n_n none v21 v46 cst_29
  have v48 : FVec F S544x512 .bf16 := truncf .bf16 v47 bitsLt_bf16_f32
  have v51 : FVec F S1x544x512 .bf16 := shapeCast S1x544x512 v48 shapeCasts_S544x512_S1x544x512
  v51

/-- The last columns' product. -/
noncomputable def last (v21 : FVec F S544x1024 .bf16) (v52 : Vec F S1024x256 .bf16) : FVec F S544x256 .f32 :=
  have v53 : FVec F S1024x256 .bf16 := shapeCast S1024x256 v52 shapeCasts_S1024x256_S1024x256
  have cst_34 : FVec F S544x256 .f32 := constant S544x256 .f32 0x00000000#32
  have v54 : FVec F S544x256 .f32 := matmul dot_S544x1024_S1024x256_S544x256_1_0_0_1_n_n none v21 v53 cst_34
  v54

/-- The indexer's keys of the rows, twice. -/
noncomputable def payJ (v54 : FVec F S544x256 .f32) : FVec F S1x544x128 .bf16 :=
  have v55 : FVec F S544x128 .f32 := extractStridedSlice S544x128 ![0, 0] v54 slices_S544x256_o0_0_S544x128
  have v56 : FVec F S544x128 .bf16 := truncf .bf16 v55 bitsLt_bf16_f32
  have v59 : FVec F S1x544x128 .bf16 := shapeCast S1x544x128 v56 shapeCasts_S544x128_S1x544x128
  v59

/-- The indexer's weights of the rows, scaled, as the body carries them. -/
noncomputable def wts (v54 : FVec F S544x256 .f32) : FVec F S544x8 .f32 :=
  have v60 : FVec F S544x8 .f32 := extractStridedSlice S544x8 ![0, 128] v54 slices_S544x256_o0_128_S544x8
  have cst_38 : F .f32 := Scalar.ofBits .f32 0x3D3504F3#32
  have v61 : FVec F S544x8 .f32 := broadcast S544x8 cst_38
  have v62 : FVec F S544x8 .f32 := mulf v60 v61
  v62

/-- The indexer's weights of the rows, scaled. -/
noncomputable def payW (v62 : FVec F S544x8 .f32) : FVec F S1x544x8 .f32 :=
  have v65 : FVec F S1x544x8 .f32 := shapeCast S1x544x8 v62 shapeCasts_S544x8_S1x544x8
  v65

/-- The body's first part as its loads and stores. -/
noncomputable def k0_part1_skel (i : grid0.Coords) (arg2 : Memref sig .tc .vmem S1x544x1024 .f32) (harg2 : arg2.IsWhole) (arg3 : Memref sig .tc .vmem S1x1x16x1024 .f32) (harg3 : arg3.IsWhole) (arg4 : Memref sig .tc .vmem S16x1024 .f32) (harg4 : arg4.IsWhole) (arg5 : Memref sig .tc .vmem S1024x3840 .bf16) (harg5 : arg5.IsWhole) (arg6 : Memref sig .tc .vmem S1x544x1024 .f32) (harg6 : arg6.IsWhole) (arg7 : Memref sig .tc .vmem S1x544x1024 .bf16) (harg7 : arg7.IsWhole) (arg8 : Memref sig .tc .vmem S1x544x1024 .bf16) (harg8 : arg8.IsWhole) (arg9 : Memref sig .tc .vmem S1x544x1024 .bf16) (harg9 : arg9.IsWhole) (arg10 : Memref sig .tc .vmem S1x544x512 .bf16) (harg10 : arg10.IsWhole) (arg11 : Memref sig .tc .vmem S1x544x128 .bf16) (harg11 : arg11.IsWhole) (arg12 : Memref sig .tc .vmem S1x544x8 .f32) (harg12 : arg12.IsWhole) :
    Prog (TpuEff nD τ sig (Elt F) Λ₀ .tc) (FVec F S544x1024 .bf16) := do
  let v1 : Vec F S16x1024 .f32 ← Prog.lift (.load arg4 (Rect.unit (s := S16x1024) ![0, 0] S16x1024.size inb_S16x1024_S16x1024_0_0).toLoadRect (View.loadsAt_vmem h_S16x1024))
  let v2 : Vec F S1x1x16x1024 .f32 ← Prog.lift (.load arg3 (Rect.unit (s := S1x1x16x1024) ![0, 0, 0, 0] S1x1x16x1024.size inb_S1x1x16x1024_S1x1x16x1024_0_0_0_0).toLoadRect (View.loadsAt_vmem h_S1x1x16x1024))
  let v5 : Vec F S1x528x1024 .f32 ← Prog.lift (.load arg2 (Rect.unit (s := S1x544x1024) ![0, 0, 0] S1x528x1024.size inb_S1x544x1024_S1x528x1024_0_0_0).toLoadRect (View.loadsAt_vmem h_S1x528x1024))
  let v18 : Vec F S1x544x1024 .f32 ← Prog.lift (.load arg6 (Rect.unit (s := S1x544x1024) ![0, 0, 0] S1x544x1024.size inb_S1x544x1024_S1x544x1024_0_0_0).toLoadRect (View.loadsAt_vmem h_S1x544x1024))
  Prog.lift (.store arg6 (Rect.unit (s := S1x544x1024) ![0, 0, 0] S1x544x1024.size inb_S1x544x1024_S1x544x1024_0_0_0) (payH (rows i v1 v2 v5)) Finset.univ (View.stores_vmem_bits_univ h_S1x544x1024 rfl) (.inl rfl))
  let v22 : Vec F S1024x1024 .bf16 ← Prog.lift (.load arg5 (Rect.unit (s := S1024x3840) ![0, 0] S1024x1024.size inb_S1024x3840_S1024x1024_0_0).toLoadRect (View.loadsAt_vmem h_S1024x1024))
  let v28 : Vec F S1x544x1024 .bf16 ← Prog.lift (.load arg7 (Rect.unit (s := S1x544x1024) ![0, 0, 0] S1x544x1024.size inb_S1x544x1024_S1x544x1024_0_0_0).toLoadRect (View.loadsAt_vmem h_S1x544x1024))
  Prog.lift (.store arg7 (Rect.unit (s := S1x544x1024) ![0, 0, 0] S1x544x1024.size inb_S1x544x1024_S1x544x1024_0_0_0) (payQ (low (rows i v1 v2 v5)) v22) Finset.univ (View.stores_vmem h_S1x544x1024 (harg7.storeExact_slice rfl _ packedbf16_S1x544x1024_S1x544x1024_0_0_0) (fun _ => rfl)) (.inl rfl))
  pure (low (rows i v1 v2 v5))

set_option maxRecDepth 65536 in
theorem part1_eq : k0_part1 (F := F) = k0_part1_skel (F := F) := rfl

/-- The body's second part as its loads and stores. -/
noncomputable def k0_part2_skel (i : grid0.Coords) (arg2 : Memref sig .tc .vmem S1x544x1024 .f32) (harg2 : arg2.IsWhole) (arg3 : Memref sig .tc .vmem S1x1x16x1024 .f32) (harg3 : arg3.IsWhole) (arg4 : Memref sig .tc .vmem S16x1024 .f32) (harg4 : arg4.IsWhole) (arg5 : Memref sig .tc .vmem S1024x3840 .bf16) (harg5 : arg5.IsWhole) (arg6 : Memref sig .tc .vmem S1x544x1024 .f32) (harg6 : arg6.IsWhole) (arg7 : Memref sig .tc .vmem S1x544x1024 .bf16) (harg7 : arg7.IsWhole) (arg8 : Memref sig .tc .vmem S1x544x1024 .bf16) (harg8 : arg8.IsWhole) (arg9 : Memref sig .tc .vmem S1x544x1024 .bf16) (harg9 : arg9.IsWhole) (arg10 : Memref sig .tc .vmem S1x544x512 .bf16) (harg10 : arg10.IsWhole) (arg11 : Memref sig .tc .vmem S1x544x128 .bf16) (harg11 : arg11.IsWhole) (arg12 : Memref sig .tc .vmem S1x544x8 .f32) (harg12 : arg12.IsWhole) (v21 : FVec F S544x1024 .bf16) :
    Prog (TpuEff nD τ sig (Elt F) Λ₀ .tc) (FVec F S544x8 .f32) := do
  let v31 : Vec F S1024x1024 .bf16 ← Prog.lift (.load arg5 (Rect.unit (s := S1024x3840) ![0, 1024] S1024x1024.size inb_S1024x3840_S1024x1024_0_1024).toLoadRect (View.loadsAt_vmem h_S1024x1024))
  let v35 : Vec F S1x544x1024 .bf16 ← Prog.lift (.load arg8 (Rect.unit (s := S1x544x1024) ![0, 0, 0] S1x544x1024.size inb_S1x544x1024_S1x544x1024_0_0_0).toLoadRect (View.loadsAt_vmem h_S1x544x1024))
  Prog.lift (.store arg8 (Rect.unit (s := S1x544x1024) ![0, 0, 0] S1x544x1024.size inb_S1x544x1024_S1x544x1024_0_0_0) (payK v21 v31) Finset.univ (View.stores_vmem h_S1x544x1024 (harg8.storeExact_slice rfl _ packedbf16_S1x544x1024_S1x544x1024_0_0_0) (fun _ => rfl)) (.inl rfl))
  let v38 : Vec F S1024x1024 .bf16 ← Prog.lift (.load arg5 (Rect.unit (s := S1024x3840) ![0, 2048] S1024x1024.size inb_S1024x3840_S1024x1024_0_2048).toLoadRect (View.loadsAt_vmem h_S1024x1024))
  let v42 : Vec F S1x544x1024 .bf16 ← Prog.lift (.load arg9 (Rect.unit (s := S1x544x1024) ![0, 0, 0] S1x544x1024.size inb_S1x544x1024_S1x544x1024_0_0_0).toLoadRect (View.loadsAt_vmem h_S1x544x1024))
  Prog.lift (.store arg9 (Rect.unit (s := S1x544x1024) ![0, 0, 0] S1x544x1024.size inb_S1x544x1024_S1x544x1024_0_0_0) (payV v21 v38) Finset.univ (View.stores_vmem h_S1x544x1024 (harg9.storeExact_slice rfl _ packedbf16_S1x544x1024_S1x544x1024_0_0_0) (fun _ => rfl)) (.inl rfl))
  let v45 : Vec F S1024x512 .bf16 ← Prog.lift (.load arg5 (Rect.unit (s := S1024x3840) ![0, 3072] S1024x512.size inb_S1024x3840_S1024x512_0_3072).toLoadRect (View.loadsAt_vmem h_S1024x512))
  let v49 : Vec F S1x544x512 .bf16 ← Prog.lift (.load arg10 (Rect.unit (s := S1x544x512) ![0, 0, 0] S1x544x512.size inb_S1x544x512_S1x544x512_0_0_0).toLoadRect (View.loadsAt_vmem h_S1x544x512))
  Prog.lift (.store arg10 (Rect.unit (s := S1x544x512) ![0, 0, 0] S1x544x512.size inb_S1x544x512_S1x544x512_0_0_0) (payI v21 v45) Finset.univ (View.stores_vmem h_S1x544x512 (harg10.storeExact_slice rfl _ packedbf16_S1x544x512_S1x544x512_0_0_0) (fun _ => rfl)) (.inl rfl))
  let v52 : Vec F S1024x256 .bf16 ← Prog.lift (.load arg5 (Rect.unit (s := S1024x3840) ![0, 3584] S1024x256.size inb_S1024x3840_S1024x256_0_3584).toLoadRect (View.loadsAt_vmem h_S1024x256))
  let v57 : Vec F S1x544x128 .bf16 ← Prog.lift (.load arg11 (Rect.unit (s := S1x544x128) ![0, 0, 0] S1x544x128.size inb_S1x544x128_S1x544x128_0_0_0).toLoadRect (View.loadsAt_vmem h_S1x544x128))
  Prog.lift (.store arg11 (Rect.unit (s := S1x544x128) ![0, 0, 0] S1x544x128.size inb_S1x544x128_S1x544x128_0_0_0) (payJ (last v21 v52)) Finset.univ (View.stores_vmem h_S1x544x128 (harg11.storeExact_slice rfl _ packedbf16_S1x544x128_S1x544x128_0_0_0) (fun _ => rfl)) (.inl rfl))
  pure (wts (last v21 v52))

set_option maxRecDepth 65536 in
theorem part2_eq : k0_part2 (F := F) = k0_part2_skel (F := F) := rfl

/-- The body as its parts, loads and stores. -/
noncomputable def cc0_attn_in_proj_skel (i : grid0.Coords) (arg2 : Memref sig .tc .vmem S1x544x1024 .f32) (harg2 : arg2.IsWhole) (arg3 : Memref sig .tc .vmem S1x1x16x1024 .f32) (harg3 : arg3.IsWhole) (arg4 : Memref sig .tc .vmem S16x1024 .f32) (harg4 : arg4.IsWhole) (arg5 : Memref sig .tc .vmem S1024x3840 .bf16) (harg5 : arg5.IsWhole) (arg6 : Memref sig .tc .vmem S1x544x1024 .f32) (harg6 : arg6.IsWhole) (arg7 : Memref sig .tc .vmem S1x544x1024 .bf16) (harg7 : arg7.IsWhole) (arg8 : Memref sig .tc .vmem S1x544x1024 .bf16) (harg8 : arg8.IsWhole) (arg9 : Memref sig .tc .vmem S1x544x1024 .bf16) (harg9 : arg9.IsWhole) (arg10 : Memref sig .tc .vmem S1x544x512 .bf16) (harg10 : arg10.IsWhole) (arg11 : Memref sig .tc .vmem S1x544x128 .bf16) (harg11 : arg11.IsWhole) (arg12 : Memref sig .tc .vmem S1x544x8 .f32) (harg12 : arg12.IsWhole) :
    Prog (TpuEff nD τ sig (Elt F) Λ₀ .tc) PUnit := do
  let v21 : FVec F S544x1024 .bf16 ← k0_part1 i arg2 harg2 arg3 harg3 arg4 harg4 arg5 harg5 arg6 harg6 arg7 harg7 arg8 harg8 arg9 harg9 arg10 harg10 arg11 harg11 arg12 harg12
  let v62 : FVec F S544x8 .f32 ← k0_part2 i arg2 harg2 arg3 harg3 arg4 harg4 arg5 harg5 arg6 harg6 arg7 harg7 arg8 harg8 arg9 harg9 arg10 harg10 arg11 harg11 arg12 harg12 v21
  let v63 : Vec F S1x544x8 .f32 ← Prog.lift (.load arg12 (Rect.unit (s := S1x544x8) ![0, 0, 0] S1x544x8.size inb_S1x544x8_S1x544x8_0_0_0).toLoadRect (View.loadsAt_vmem h_S1x544x8))
  Prog.lift (.store arg12 (Rect.unit (s := S1x544x8) ![0, 0, 0] S1x544x8.size inb_S1x544x8_S1x544x8_0_0_0) (payW v62) Finset.univ (View.stores_vmem_bits_univ h_S1x544x8 rfl) (.inl rfl))
  pure ⟨⟩

set_option maxRecDepth 65536 in
theorem body_eq : cc0_attn_in_proj (F := F) = cc0_attn_in_proj_skel (F := F) := rfl

end Cert.Proof.Proj

end
-- ==== Proof.Proj.Mask.lean ====
/- The rows of a block past the array's end are zeroed, so what fills them does not matter. -/
module

public import proofs.«01_k».proof.Proof.Proj.Skel
public import Idealize.ShloMosaic.Lib.Pointwise

@[expose] public section

set_option maxRecDepth 16384

noncomputable section

namespace Cert.Proof.Proj

open Idealize.ShloMosaic Idealize.ShloMosaic.TcCoe Idealize.SL.Sem
open Cert.ProjKernelIdeal Cert.ProjKernelIdeal.Gen

variable {F : FTy → Type} [FloatOps F]

abbrev rX : Rect S1x544x1024 := Rect.unit (s := S1x544x1024) ![0, 0, 0] S1x528x1024.size inb_S1x544x1024_S1x528x1024_0_0_0

/-- A row the body keeps is one of the widened sequence. -/
theorem kept (n : Fin 4) (r : Fin 544)
    (h : Scalar.cmpi .slt (Scalar.addi (Scalar.muli (BitVec.ofNat 32 n.val) 544#32) (BitVec.ofNat 32 r.val)) 2064#32 = 1#1) :
    n.val * 544 + r.val < 2064 := by
  have hr := r.isLt
  fin_cases n
  · show 0 * 544 + r.val < 2064; omega
  · show 1 * 544 + r.val < 2064; omega
  · show 2 * 544 + r.val < 2064; omega
  · show 3 * 544 + r.val < 2064
    by_contra hc
    have hno : ∀ q : Fin 544, ¬ 3 * 544 + q.val < 2064 →
        Scalar.cmpi .slt (Scalar.addi (Scalar.muli (BitVec.ofNat 32 3) 544#32) (BitVec.ofNat 32 q.val)) 2064#32 ≠ 1#1 := by decide +kernel
    exact hno r hc h

theorem extent_of (ix k d : Nat) : (Pipeline.Clip.of ix k d).extent k = if (ix + 1) * k ≤ d then k else d - ix * k := by
  unfold Pipeline.Clip.of; split <;> rfl

/-- A row of a block inside the array is one that the block's copy moves. -/
theorem moved_of (i : grid0.Coords) (y : S1x544x1024.Idx) (hy : (i 1).val * 544 + (y 1).val < 2048) : win0_0.moved i y = true :=
  (win0_0.moved_iff i y).mpr fun a => by
    have h4 : (i 1).val < 4 := (i 1).isLt
    have h16 : (i 0).val < 16 := (i 0).isLt
    have e0 : (BitVec.ofNat 32 (i 0).val).toNat = (i 0).val := by rw [BitVec.toNat_ofNat]; omega
    have e1 : (BitVec.ofNat 32 (i 1).val).toNat = (i 1).val := by rw [BitVec.toNat_ofNat]; omega
    fin_cases a
    · show (y 0).val < (Pipeline.Clip.of (BitVec.ofNat 32 (i 0).val).toNat 1 16).extent 1
      have hya : (y 0).val < 1 := (y 0).isLt
      rw [extent_of, e0]; split <;> omega
    · show (y 1).val < (Pipeline.Clip.of (BitVec.ofNat 32 (i 1).val).toNat 544 2048).extent 544
      have hya : (y 1).val < 544 := (y 1).isLt
      rw [extent_of, e1]; split <;> omega
    · show (y 2).val < (Pipeline.Clip.of (0#32).toNat 1024 1024).extent 1024
      exact (y 2).isLt

/-- A kept row of a block lies inside the array, where the fill does not matter. -/
theorem fill_row (i : grid0.Coords) (g : (win0_0.xblock i).Idx → Elt F .f32) (d d' : Vec F S1x544x1024 .f32) (k : S528x1024.Idx)
    (hk : (i 1).val * 544 + (k 0).val < 2048) :
    shapeCast S528x1024 (View.ld (win0_0.fill i d g) rX) shapeCasts_S1x528x1024_S528x1024 k
      = shapeCast S528x1024 (View.ld (win0_0.fill i d' g) rX) shapeCasts_S1x528x1024_S528x1024 k := by
  pointwise [View.ld]
  unfold Pipeline.Window.fill
  rw [dif_pos (moved_of i _ ?_), dif_pos (moved_of i _ ?_)]
  all_goals exact hk

/-- What the body computes does not depend on what fills a block past the array's end. -/
theorem rows_fill (i : grid0.Coords) (vm : Vec F S16x1024 .f32) (vt : Vec F S1x1x16x1024 .f32) (g : (win0_0.xblock i).Idx → Elt F .f32)
    (d d' : Vec F S1x544x1024 .f32) :
    rows i vm vt (View.ld (win0_0.fill i d g) rX) = rows i vm vt (View.ld (win0_0.fill i d' g) rX) := by
  funext j
  unfold rows
  dsimp only [select]
  have hmask : broadcastTo S544x1024
        (shapeCast S544x1
          (cmpi CmpIPredicate.slt
            (addi (broadcast S544x1 (Scalar.muli (BitVec.ofNat 32 (i 1).val) 544#32))
              (iota Kind.tc S544x1 32 [0] iota_S544x1_d0_w32))
            (broadcast S544x1 2064#32))
          shapeCasts_S544x1_S544x1)
        broadcasts_S544x1_S544x1024 j
      = Scalar.cmpi .slt (Scalar.addi (Scalar.muli (BitVec.ofNat 32 (i 1).val) 544#32) (BitVec.ofNat 32 (j 0).val)) 2064#32 := by
    pointwise
    rfl
  rw [hmask]
  unfold Scalar.select
  split
  · rename_i hm
    have hk := kept (i 1) (j 0) hm
    rw [concatenate_pair_apply, concatenate_pair_apply]
    split
    · rfl
    · rename_i hlt
      refine fill_row i g d d' _ ?_
      have hge : ¬ (j 0).val < 16 := hlt
      show (i 1).val * 544 + ((j 0).val - 16) < 2048
      omega
  · rfl

end Cert.Proof.Proj

end
-- ==== Proof.Proj.Run.lean ====
/- The input projection's run: what its body leaves, the pipeline's proof data, the launch and the frame. -/
module

public import proofs.«01_k».proof.Proof.Proj.Mask
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rT : Rect S1x1x16x1024 := Rect.unit (s := S1x1x16x1024) ![0, 0, 0, 0] S1x1x16x1024.size inb_S1x1x16x1024_S1x1x16x1024_0_0_0_0
abbrev rM : Rect S16x1024 := Rect.unit (s := S16x1024) ![0, 0] S16x1024.size inb_S16x1024_S16x1024_0_0
abbrev rW0 : Rect S1024x3840 := Rect.unit (s := S1024x3840) ![0, 0] S1024x1024.size inb_S1024x3840_S1024x1024_0_0
abbrev rW1 : Rect S1024x3840 := Rect.unit (s := S1024x3840) ![0, 1024] S1024x1024.size inb_S1024x3840_S1024x1024_0_1024
abbrev rW2 : Rect S1024x3840 := Rect.unit (s := S1024x3840) ![0, 2048] S1024x1024.size inb_S1024x3840_S1024x1024_0_2048
abbrev rW3 : Rect S1024x3840 := Rect.unit (s := S1024x3840) ![0, 3072] S1024x512.size inb_S1024x3840_S1024x512_0_3072
abbrev rW4 : Rect S1024x3840 := Rect.unit (s := S1024x3840) ![0, 3584] S1024x256.size inb_S1024x3840_S1024x256_0_3584
abbrev rH : Rect S1x544x1024 := Rect.unit (s := S1x544x1024) ![0, 0, 0] S1x544x1024.size inb_S1x544x1024_S1x544x1024_0_0_0
abbrev rI : Rect S1x544x512 := Rect.unit (s := S1x544x512) ![0, 0, 0] S1x544x512.size inb_S1x544x512_S1x544x512_0_0_0
abbrev rJ : Rect S1x544x128 := Rect.unit (s := S1x544x128) ![0, 0, 0] S1x544x128.size inb_S1x544x128_S1x544x128_0_0_0
abbrev rO : Rect S1x544x8 := Rect.unit (s := S1x544x8) ![0, 0, 0] S1x544x8.size inb_S1x544x8_S1x544x8_0_0_0

/-! ## What the body leaves -/

/-- The widened hidden states of a block. -/
def outH (i : grid0.Coords) (x0 : Vec F S1x544x1024 .f32) (x1 : Vec F S1x1x16x1024 .f32) (x2 : Vec F S16x1024 .f32) : Vec F S1x544x1024 .f32 := View.canon [⟨rH, payH (rows i (View.ld x2 rM) (View.ld x1 rT) (View.ld x0 rX))⟩]
/-- The queries of a block. -/
def outQ (i : grid0.Coords) (x0 : Vec F S1x544x1024 .f32) (x1 : Vec F S1x1x16x1024 .f32) (x2 : Vec F S16x1024 .f32) (x3 : Vec F S1024x3840 .bf16) : Vec F S1x544x1024 .bf16 := View.canon [⟨rH, payQ (low (rows i (View.ld x2 rM) (View.ld x1 rT) (View.ld x0 rX))) (View.ld x3 rW0)⟩]
/-- The keys of a block. -/
def outK (i : grid0.Coords) (x0 : Vec F S1x544x1024 .f32) (x1 : Vec F S1x1x16x1024 .f32) (x2 : Vec F S16x1024 .f32) (x3 : Vec F S1024x3840 .bf16) : Vec F S1x544x1024 .bf16 := View.canon [⟨rH, payK (low (rows i (View.ld x2 rM) (View.ld x1 rT) (View.ld x0 rX))) (View.ld x3 rW1)⟩]
/-- The values of a block. -/
def outV (i : grid0.Coords) (x0 : Vec F S1x544x1024 .f32) (x1 : Vec F S1x1x16x1024 .f32) (x2 : Vec F S16x1024 .f32) (x3 : Vec F S1024x3840 .bf16) : Vec F S1x544x1024 .bf16 := View.canon [⟨rH, payV (low (rows i (View.ld x2 rM) (View.ld x1 rT) (View.ld x0 rX))) (View.ld x3 rW2)⟩]
/-- The indexer's queries of a block. -/
def outI (i : grid0.Coords) (x0 : Vec F S1x544x1024 .f32) (x1 : Vec F S1x1x16x1024 .f32) (x2 : Vec F S16x1024 .f32) (x3 : Vec F S1024x3840 .bf16) : Vec F S1x544x512 .bf16 := View.canon [⟨rI, payI (low (rows i (View.ld x2 rM) (View.ld x1 rT) (View.ld x0 rX))) (View.ld x3 rW3)⟩]
/-- The indexer's keys of a block. -/
def outJ (i : grid0.Coords) (x0 : Vec F S1x544x1024 .f32) (x1 : Vec F S1x1x16x1024 .f32) (x2 : Vec F S16x1024 .f32) (x3 : Vec F S1024x3840 .bf16) : Vec F S1x544x128 .bf16 := View.canon [⟨rJ, payJ (last (low (rows i (View.ld x2 rM) (View.ld x1 rT) (View.ld x0 rX))) (View.ld x3 rW4))⟩]
/-- The indexer's weights of a block. -/
def outW (i : grid0.Coords) (x0 : Vec F S1x544x1024 .f32) (x1 : Vec F S1x1x16x1024 .f32) (x2 : Vec F S16x1024 .f32) (x3 : Vec F S1024x3840 .bf16) : Vec F S1x544x8 .f32 := View.canon [⟨rO, payW (wts (last (low (rows i (View.ld x2 rM) (View.ld x1 rT) (View.ld x0 rX))) (View.ld x3 rW4)))⟩]

theorem coverH (p : Vec F S1x544x1024 .f32) (y : S1x544x1024.Idx) : ∃ pc ∈ ([⟨rH, p⟩] : List (View.Piece (Elt F) S1x544x1024 .f32)), y ∈ pc.1.set :=
  View.cover_of_tiled [⟨rH, p⟩] S1x544x1024.size (by rfl) y
theorem coverQ (p : Vec F S1x544x1024 .bf16) (y : S1x544x1024.Idx) : ∃ pc ∈ ([⟨rH, p⟩] : List (View.Piece (Elt F) S1x544x1024 .bf16)), y ∈ pc.1.set :=
  View.cover_of_tiled [⟨rH, p⟩] S1x544x1024.size (by rfl) y
theorem coverK (p : Vec F S1x544x1024 .bf16) (y : S1x544x1024.Idx) : ∃ pc ∈ ([⟨rH, p⟩] : List (View.Piece (Elt F) S1x544x1024 .bf16)), y ∈ pc.1.set :=
  View.cover_of_tiled [⟨rH, p⟩] S1x544x1024.size (by rfl) y
theorem coverV (p : Vec F S1x544x1024 .bf16) (y : S1x544x1024.Idx) : ∃ pc ∈ ([⟨rH, p⟩] : List (View.Piece (Elt F) S1x544x1024 .bf16)), y ∈ pc.1.set :=
  View.cover_of_tiled [⟨rH, p⟩] S1x544x1024.size (by rfl) y
theorem coverI (p : Vec F S1x544x512 .bf16) (y : S1x544x512.Idx) : ∃ pc ∈ ([⟨rI, p⟩] : List (View.Piece (Elt F) S1x544x512 .bf16)), y ∈ pc.1.set :=
  View.cover_of_tiled [⟨rI, p⟩] S1x544x512.size (by rfl) y
theorem coverJ (p : Vec F S1x544x128 .bf16) (y : S1x544x128.Idx) : ∃ pc ∈ ([⟨rJ, p⟩] : List (View.Piece (Elt F) S1x544x128 .bf16)), y ∈ pc.1.set :=
  View.cover_of_tiled [⟨rJ, p⟩] S1x544x128.size (by rfl) y
theorem coverW (p : Vec F S1x544x8 .f32) (y : S1x544x8.Idx) : ∃ pc ∈ ([⟨rO, p⟩] : List (View.Piece (Elt F) S1x544x8 .f32)), y ∈ pc.1.set :=
  View.cover_of_tiled [⟨rO, p⟩] S1x544x8.size (by rfl) y

set_option maxHeartbeats 2000000 in
/-- The body on whole memrefs leaves the inputs as they were and each output at what it computes from them. -/
theorem sound_kernel (c : Dev nD) (E : Set ℕ) (i : grid0.Coords) (arg2 : Memref sig .tc .vmem S1x544x1024 .f32) (harg2 : arg2.IsWhole) (arg3 : Memref sig .tc .vmem S1x1x16x1024 .f32) (harg3 : arg3.IsWhole) (arg4 : Memref sig .tc .vmem S16x1024 .f32) (harg4 : arg4.IsWhole) (arg5 : Memref sig .tc .vmem S1024x3840 .bf16) (harg5 : arg5.IsWhole) (arg6 : Memref sig .tc .vmem S1x544x1024 .f32) (harg6 : arg6.IsWhole) (arg7 : Memref sig .tc .vmem S1x544x1024 .bf16) (harg7 : arg7.IsWhole) (arg8 : Memref sig .tc .vmem S1x544x1024 .bf16) (harg8 : arg8.IsWhole) (arg9 : Memref sig .tc .vmem S1x544x1024 .bf16) (harg9 : arg9.IsWhole) (arg10 : Memref sig .tc .vmem S1x544x512 .bf16) (harg10 : arg10.IsWhole) (arg11 : Memref sig .tc .vmem S1x544x128 .bf16) (harg11 : arg11.IsWhole) (arg12 : Memref sig .tc .vmem S1x544x8 .f32) (harg12 : arg12.IsWhole)
    (x0 : Vec F S1x544x1024 .f32) (x1 : Vec F S1x1x16x1024 .f32) (x2 : Vec F S16x1024 .f32) (x3 : Vec F S1024x3840 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outH i x0 x1 x2) ∗ owns (c : Thread nD τ) arg7 fullShare (outQ i x0 x1 x2 x3) ∗ owns (c : Thread nD τ) arg8 fullShare (outK i x0 x1 x2 x3) ∗ owns (c : Thread nD τ) arg9 fullShare (outV i x0 x1 x2 x3) ∗ owns (c : Thread nD τ) arg10 fullShare (outI i x0 x1 x2 x3) ∗ owns (c : Thread nD τ) arg11 fullShare (outJ i x0 x1 x2 x3) ∗ owns (c : Thread nD τ) arg12 fullShare (outW i x0 x1 x2 x3)) -∗ K ⟨⟩))
      ⊢ wp frame (wpE (defs₀ (F := F)) Variants.none c none) E (cc0_attn_in_proj i arg2 harg2 arg3 harg3 arg4 harg4 arg5 harg5 arg6 harg6 arg7 harg7 arg8 harg8 arg9 harg9 arg10 harg10 arg11 harg11 arg12 harg12) K := by
  simp only [body_eq]; unfold cc0_attn_in_proj_skel
  simp only [part1_eq, part2_eq]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverQ _)
  isplitl [H6]
  · iexists _; isplitr
    swap; · iexact H6
    ipureintro
    exact View.read_writes_eq_canon _ _ _ (coverK _)
  isplitl [H7]
  · iexists _; isplitr
    swap; · iexact H7
    ipureintro
    exact View.read_writes_eq_canon _ _ _ (coverV _)
  isplitl [H8]
  · iexists _; isplitr
    swap; · iexact H8
    ipureintro
    exact View.read_writes_eq_canon _ _ _ (coverI _)
  isplitl [H9]
  · iexists _; isplitr
    swap; · iexact H9
    ipureintro
    exact View.read_writes_eq_canon _ _ _ (coverJ _)
  iexists _; isplitr
  swap; · iexact H10
  ipureintro
  exact View.read_writes_eq_canon _ _ _ (coverW _)

/-! ## The proof data -/

/-- The block of the sequence at point `t`, filled out past the array's end with zeros. -/
def xblk (c : Dev nD) (t : Fin cfg0.N) : Vec F S1x544x1024 .f32 :=
  win0_0.fill (grid0.coords t) (fun _ => Scalar.ofBits .f32 0#32) (iblk m c 0 t)

/-- The arrays as the region finds them; after the body each input's block in place and each output at what the
    body computes of them; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => outH (grid0.coords t) (xblk m c t) (iblk m c 1 t) (iblk m c 2 t)
    | ⟨5, _⟩ => outQ (grid0.coords t) (xblk m c t) (iblk m c 1 t) (iblk m c 2 t) (iblk m c 3 t)
    | ⟨6, _⟩ => outK (grid0.coords t) (xblk m c t) (iblk m c 1 t) (iblk m c 2 t) (iblk m c 3 t)
    | ⟨7, _⟩ => outV (grid0.coords t) (xblk m c t) (iblk m c 1 t) (iblk m c 2 t) (iblk m c 3 t)
    | ⟨8, _⟩ => outI (grid0.coords t) (xblk m c t) (iblk m c 1 t) (iblk m c 2 t) (iblk m c 3 t)
    | ⟨9, _⟩ => outJ (grid0.coords t) (xblk m c t) (iblk m c 1 t) (iblk m c 2 t) (iblk m c 3 t)
    | ⟨10, _⟩ => outW (grid0.coords t) (xblk m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outH (grid0.coords t) (xblk m c t) (iblk m c 1 t) (iblk m c 2 t) := by dsimp only [dats]
theorem after_5 (c : Dev nD) (t : Fin cfg0.N) : (dats m 0 c).after 5 t = outQ (grid0.coords t) (xblk m c t) (iblk m c 1 t) (iblk m c 2 t) (iblk m c 3 t) := by dsimp only [dats]
theorem after_6 (c : Dev nD) (t : Fin cfg0.N) : (dats m 0 c).after 6 t = outK (grid0.coords t) (xblk m c t) (iblk m c 1 t) (iblk m c 2 t) (iblk m c 3 t) := by dsimp only [dats]
theorem after_7 (c : Dev nD) (t : Fin cfg0.N) : (dats m 0 c).after 7 t = outV (grid0.coords t) (xblk m c t) (iblk m c 1 t) (iblk m c 2 t) (iblk m c 3 t) := by dsimp only [dats]
theorem after_8 (c : Dev nD) (t : Fin cfg0.N) : (dats m 0 c).after 8 t = outI (grid0.coords t) (xblk m c t) (iblk m c 1 t) (iblk m c 2 t) (iblk m c 3 t) := by dsimp only [dats]
theorem after_9 (c : Dev nD) (t : Fin cfg0.N) : (dats m 0 c).after 9 t = outJ (grid0.coords t) (xblk m c t) (iblk m c 1 t) (iblk m c 2 t) (iblk m c 3 t) := by dsimp only [dats]
theorem after_10 (c : Dev nD) (t : Fin cfg0.N) : (dats m 0 c).after 10 t = outW (grid0.coords t) (xblk m c t) (iblk m c 1 t) (iblk m c 2 t) (iblk m c 3 t) := by dsimp only [dats]

theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem outH_fill (c : Dev nD) (t : Fin cfg0.N) (d : Vec F S1x544x1024 .f32) :
    outH (grid0.coords t) (win0_0.fill (grid0.coords t) d (iblk m c 0 t)) (iblk m c 1 t) (iblk m c 2 t) = outH (grid0.coords t) (xblk m c t) (iblk m c 1 t) (iblk m c 2 t) :=
  congrArg (fun r : FVec F S544x1024 .f32 => (View.canon [⟨rH, payH r⟩] : Vec F S1x544x1024 .f32)) (rows_fill (grid0.coords t) _ _ (iblk m c 0 t) d _)
theorem outQ_fill (c : Dev nD) (t : Fin cfg0.N) (d : Vec F S1x544x1024 .f32) :
    outQ (grid0.coords t) (win0_0.fill (grid0.coords t) d (iblk m c 0 t)) (iblk m c 1 t) (iblk m c 2 t) (iblk m c 3 t) = outQ (grid0.coords t) (xblk m c t) (iblk m c 1 t) (iblk m c 2 t) (iblk m c 3 t) :=
  congrArg (fun r : FVec F S544x1024 .f32 => (View.canon [⟨rH, payQ (low r) (View.ld (iblk m c 3 t) rW0)⟩] : Vec F S1x544x1024 .bf16)) (rows_fill (grid0.coords t) _ _ (iblk m c 0 t) d _)
theorem outK_fill (c : Dev nD) (t : Fin cfg0.N) (d : Vec F S1x544x1024 .f32) :
    outK (grid0.coords t) (win0_0.fill (grid0.coords t) d (iblk m c 0 t)) (iblk m c 1 t) (iblk m c 2 t) (iblk m c 3 t) = outK (grid0.coords t) (xblk m c t) (iblk m c 1 t) (iblk m c 2 t) (iblk m c 3 t) :=
  congrArg (fun r : FVec F S544x1024 .f32 => (View.canon [⟨rH, payK (low r) (View.ld (iblk m c 3 t) rW1)⟩] : Vec F S1x544x1024 .bf16)) (rows_fill (grid0.coords t) _ _ (iblk m c 0 t) d _)
theorem outV_fill (c : Dev nD) (t : Fin cfg0.N) (d : Vec F S1x544x1024 .f32) :
    outV (grid0.coords t) (win0_0.fill (grid0.coords t) d (iblk m c 0 t)) (iblk m c 1 t) (iblk m c 2 t) (iblk m c 3 t) = outV (grid0.coords t) (xblk m c t) (iblk m c 1 t) (iblk m c 2 t) (iblk m c 3 t) :=
  congrArg (fun r : FVec F S544x1024 .f32 => (View.canon [⟨rH, payV (low r) (View.ld (iblk m c 3 t) rW2)⟩] : Vec F S1x544x1024 .bf16)) (rows_fill (grid0.coords t) _ _ (iblk m c 0 t) d _)
theorem outI_fill (c : Dev nD) (t : Fin cfg0.N) (d : Vec F S1x544x1024 .f32) :
    outI (grid0.coords t) (win0_0.fill (grid0.coords t) d (iblk m c 0 t)) (iblk m c 1 t) (iblk m c 2 t) (iblk m c 3 t) = outI (grid0.coords t) (xblk m c t) (iblk m c 1 t) (iblk m c 2 t) (iblk m c 3 t) :=
  congrArg (fun r : FVec F S544x1024 .f32 => (View.canon [⟨rI, payI (low r) (View.ld (iblk m c 3 t) rW3)⟩] : Vec F S1x544x512 .bf16)) (rows_fill (grid0.coords t) _ _ (iblk m c 0 t) d _)
theorem outJ_fill (c : Dev nD) (t : Fin cfg0.N) (d : Vec F S1x544x1024 .f32) :
    outJ (grid0.coords t) (win0_0.fill (grid0.coords t) d (iblk m c 0 t)) (iblk m c 1 t) (iblk m c 2 t) (iblk m c 3 t) = outJ (grid0.coords t) (xblk m c t) (iblk m c 1 t) (iblk m c 2 t) (iblk m c 3 t) :=
  congrArg (fun r : FVec F S544x1024 .f32 => (View.canon [⟨rJ, payJ (last (low r) (View.ld (iblk m c 3 t) rW4))⟩] : Vec F S1x544x128 .bf16)) (rows_fill (grid0.coords t) _ _ (iblk m c 0 t) d _)
theorem outW_fill (c : Dev nD) (t : Fin cfg0.N) (d : Vec F S1x544x1024 .f32) :
    outW (grid0.coords t) (win0_0.fill (grid0.coords t) d (iblk m c 0 t)) (iblk m c 1 t) (iblk m c 2 t) (iblk m c 3 t) = outW (grid0.coords t) (xblk m c t) (iblk m c 1 t) (iblk m c 2 t) (iblk m c 3 t) :=
  congrArg (fun r : FVec F S544x1024 .f32 => (View.canon [⟨rO, payW (wts (last (low r) (View.ld (iblk m c 3 t) rW4)))⟩] : Vec F S1x544x8 .f32)) (rows_fill (grid0.coords t) _ _ (iblk m c 0 t) d _)

/-! ## The body obligation -/

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- What it returns: the sequence's block named only inside its array. -/
def bodyPost (c : Dev nD) (t : Fin cfg0.N) : sProp 𝕄 :=
  iprop((dats m 0 c).Φ t.succ ∗ (dats m 0 c).owesAt () t.succ ∗ (∃ d, owns (c : Thread nD τ) (st0_0 t) fullShare (win0_0.fill (grid0.coords t) d (win0_0.cut (grid0.coords t) ((dats m 0 c).after 0 t)))) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (win0_0.fill (grid0.coords t) d0 (iblk m c 0 t)) (iblk m c 1 t) (iblk m c 2 t) (iblk m c 3 t) _)
  rw [outH_fill, outQ_fill, outK_fill, outV_fill, outI_fill, outJ_fill, outW_fill]
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]
  · iexists d0
    rw [show win0_0.cut (grid0.coords t) (xblk m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends with the arrays as the proof data has them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Proj

end
-- ==== Proof.Proj.Bits.lean ====
/- The input projection's frame at machine words: the program is the same text as its ideal printing's, so its run is
   the one of `Proof.Proj.Run` at words. -/
module

public import proofs.«01_k».proof.Proof.Proj.Run
public import proofs.«01_k».proof.Proof.Gen.ProjKernel.Frame

@[expose] public section

namespace Cert.Proof.Proj

open Idealize.ShloMosaic Idealize.ShloMosaic.TcCoe Idealize.SL.Sem

theorem defs₀_eq : Cert.ProjKernel.defs₀ (F := Bits) = Cert.ProjKernelIdeal.defs₀ := by
  unfold Cert.ProjKernel.defs₀ Cert.ProjKernelIdeal.defs₀
  exact congrArg Defs.onTc (funext fun l => funext fun a => match l, a with
    | 0, (_, _) => rfl
    | ⟨_ + 1, h⟩, _ => absurd h (Nat.not_lt.2 (Nat.le_add_left _ _)))

theorem defs_eq : Cert.ProjKernel.defs (F := Bits) = Cert.ProjKernelIdeal.defs := by
  unfold Cert.ProjKernel.defs Cert.ProjKernelIdeal.defs
  exact congrArg (Pipeline.defs _) defs₀_eq

open Cert.ProjKernel in
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact frame (F := Bits) m ρ

end Cert.Proof.Proj

end
-- ==== Proof.Proj.Value.lean ====
/- The input projection's values: what the kernel leaves in its seven result arrays is the reference's terms, read at `Ideal`. -/
module

public import proofs.«01_k».proof.Proof.Proj.Run
public import proofs.«01_k».proof.Proof.Gen.ProjReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Proj

/-! ## The widened sequence and its products, entry by entry -/

/-- Row `r` of the widened sequence: the meta tokens, then the sequence, then zeros. -/
def seq (X : FVec Ideal ⟨3, ![16, 2048, 1024]⟩ .f32) (M : FVec Ideal ⟨2, ![16, 1024]⟩ .f32) (b : Fin 16) (r : ℕ) (k : Fin 1024) : EReal :=
  if h : r < 16 then M (ix2 ⟨r, h⟩ k) else if h : r - 16 < 2048 then X (ix3 b ⟨r - 16, h⟩ k) else 0

/-- An entry of the widened sequence times the weights. -/
def prod (X : FVec Ideal ⟨3, ![16, 2048, 1024]⟩ .f32) (M : FVec Ideal ⟨2, ![16, 1024]⟩ .f32) (W : FVec Ideal ⟨2, ![1024, 3656]⟩ .f32)
    (b : Fin 16) (r : ℕ) (n : Fin 3656) : EReal :=
  ∑ k : Fin 1024, seq X M b r k * W (ix2 k n)

theorem seq_past (X M) (b : Fin 16) (r : ℕ) (k : Fin 1024) (h : 2064 ≤ r) : seq X M b r k = 0 := by
  unfold seq
  rw [dif_neg (by omega), dif_neg (by omega)]

theorem prod_past (X M W) (b : Fin 16) (r : ℕ) (n : Fin 3656) (h : 2064 ≤ r) : prod X M W b r n = 0 := by
  unfold prod
  exact Finset.sum_eq_zero fun k _ => by rw [seq_past X M b r k h, zero_mul]

section reference

open Cert.ProjReferenceIdeal Cert.ProjReferenceIdeal.Gen

variable (X : FVec Ideal S16x2048x1024 .f32) (M : FVec Ideal S16x1024 .f32) (W : FVec Ideal S1024x3656 .f32)

/-- The meta tokens before the sequence. -/
def hcat : FVec Ideal S16x2064x1024 .f32 :=
  concatenate S16x2064x1024 1 [⟨S16x16x1024, broadcastInDim S16x16x1024 ![0, 1, 2] bcast_S1x16x1024_S16x16x1024_0_1_2 (broadcastInDim S1x16x1024 ![1, 2] bcast_S16x1024_S1x16x1024_1_2 M)⟩, ⟨S16x2048x1024, X⟩] concatenates_S16x16x1024_S16x2048x1024_S16x2064x1024_d1

/-- The projections of it all. -/
def hdot : FVec Ideal S16x2064x3656 .f32 :=
  Host.dotGeneral dot_S16x2064x1024_S1024x3656_S16x2064x3656_2_0_01_1_n_n none (hcat X M) W

theorem hcat_at (b : Fin 16) (r : Fin 2064) (k : Fin 1024) : hcat X M (ix3 b r k) = seq X M b r.val k := by
  have hr := r.isLt
  pointwise [hcat, seq]
  by_cases h : r.val < 16
  · rw [dif_pos h, dif_pos h]
  · rw [dif_neg h, dif_neg h, dif_pos (by omega)]

theorem hdot_at (b : Fin 16) (r : Fin 2064) (n : Fin 3656) : hdot X M W (ix3 b r n) = prod X M W b r.val n := by
  have h : hdot X M W (ix3 b r n) = ∑ k : Fin 1024, hcat X M (ix3 b r k) * W (ix2 k n) := by
    generalize hH : hcat X M = H
    pointwise [hdot, hH]
  rw [h]
  exact Finset.sum_congr rfl fun k _ => by rw [hcat_at]

/-- The widened sequence with its rows of zeros. -/
def refH (H : FVec Ideal S16x2064x1024 .f32) : FVec Ideal S16x2176x1024 .f32 :=
  concatenate S16x2176x1024 1 [⟨S16x2064x1024, H⟩, ⟨S16x112x1024, (broadcastInDim S16x112x1024 ![] bcast_S_S16x112x1024 (constant S_ .f32 0x00000000#32))⟩] concatenates_S16x2064x1024_S16x112x1024_S16x2176x1024_d1
/-- The scaled queries. -/
def refQ (D : FVec Ideal S16x2064x3656 .f32) : FVec Ideal S16x2176x1024 .bf16 :=
  truncf .bf16 (concatenate S16x2176x1024 1 [⟨S16x2064x1024, (mulf (extractStridedSlice S16x2064x1024 ![0, 0, 0] D slices_S16x2064x3656_S16x2064x1024_0_0_0) (broadcastInDim S16x2064x1024 ![] bcast_S_S16x2064x1024 (constant S_ .f32 0x3E38AA3B#32)))⟩, ⟨S16x112x1024, (broadcastInDim S16x112x1024 ![] bcast_S_S16x112x1024 (constant S_ .f32 0x00000000#32))⟩] concatenates_S16x2064x1024_S16x112x1024_S16x2176x1024_d1) bitsLt_bf16_f32
/-- The keys. -/
def refK (D : FVec Ideal S16x2064x3656 .f32) : FVec Ideal S16x2176x1024 .bf16 :=
  truncf .bf16 (concatenate S16x2176x1024 1 [⟨S16x2064x1024, (extractStridedSlice S16x2064x1024 ![0, 0, 1024] D slices_S16x2064x3656_S16x2064x1024_0_0_1024)⟩, ⟨S16x112x1024, (broadcastInDim S16x112x1024 ![] bcast_S_S16x112x1024 (constant S_ .f32 0x00000000#32))⟩] concatenates_S16x2064x1024_S16x112x1024_S16x2176x1024_d1) bitsLt_bf16_f32
/-- The values. -/
def refV (D : FVec Ideal S16x2064x3656 .f32) : FVec Ideal S16x2176x1024 .bf16 :=
  truncf .bf16 (concatenate S16x2176x1024 1 [⟨S16x2064x1024, (extractStridedSlice S16x2064x1024 ![0, 0, 2048] D slices_S16x2064x3656_S16x2064x1024_0_0_2048)⟩, ⟨S16x112x1024, (broadcastInDim S16x112x1024 ![] bcast_S_S16x112x1024 (constant S_ .f32 0x00000000#32))⟩] concatenates_S16x2064x1024_S16x112x1024_S16x2176x1024_d1) bitsLt_bf16_f32
/-- The indexer's queries. -/
def refI (D : FVec Ideal S16x2064x3656 .f32) : FVec Ideal S16x2176x512 .bf16 :=
  truncf .bf16 (concatenate S16x2176x512 1 [⟨S16x2064x512, (extractStridedSlice S16x2064x512 ![0, 0, 3072] D slices_S16x2064x3656_S16x2064x512_0_0_3072)⟩, ⟨S16x112x512, (broadcastInDim S16x112x512 ![] bcast_S_S16x112x512 (constant S_ .f32 0x00000000#32))⟩] concatenates_S16x2064x512_S16x112x512_S16x2176x512_d1) bitsLt_bf16_f32
/-- The indexer's keys, twice. -/
def refJ (D : FVec Ideal S16x2064x3656 .f32) : FVec Ideal S16x2176x128 .bf16 :=
  truncf .bf16 (concatenate S16x2176x128 1 [⟨S16x2064x128, (concatenate S16x2064x128 2 [⟨S16x2064x64, (extractStridedSlice S16x2064x64 ![0, 0, 3584] D slices_S16x2064x3656_S16x2064x64_0_0_3584)⟩, ⟨S16x2064x64, (extractStridedSlice S16x2064x64 ![0, 0, 3584] D slices_S16x2064x3656_S16x2064x64_0_0_3584)⟩] concatenates_S16x2064x64_S16x2064x64_S16x2064x128_d2)⟩, ⟨S16x112x128, (broadcastInDim S16x112x128 ![] bcast_S_S16x112x128 (constant S_ .f32 0x00000000#32))⟩] concatenates_S16x2064x128_S16x112x128_S16x2176x128_d1) bitsLt_bf16_f32
/-- The indexer's scaled weights. -/
def refW (D : FVec Ideal S16x2064x3656 .f32) : FVec Ideal S16x2176x8 .f32 :=
  concatenate S16x2176x8 1 [⟨S16x2064x8, (mulf (extractStridedSlice S16x2064x8 ![0, 0, 3648] D slices_S16x2064x3656_S16x2064x8_0_0_3648) (broadcastInDim S16x2064x8 ![] bcast_S_S16x2064x8 (constant S_ .f32 0x3D3504F3#32)))⟩, ⟨S16x112x8, (broadcastInDim S16x112x8 ![] bcast_S_S16x112x8 (constant S_ .f32 0x00000000#32))⟩] concatenates_S16x2064x8_S16x112x8_S16x2176x8_d1

theorem refH_at (b : Fin 16) (r : Fin 2176) (k : Fin 1024) : refH (hcat X M) (ix3 b r k) = seq X M b r.val k := by
  by_cases h : r.val < 2064
  · pointwise [refH]
    rw [dif_pos h]
    exact hcat_at X M b ⟨r.val, h⟩ k
  · rw [seq_past X M b r.val k (by omega)]
    pointwise [refH]
    rw [dif_neg h]

/-- The reference's scaled queries read at an entry. -/
theorem refQ_at (b : Fin 16) (r : Fin 2176) (n : Fin 1024) (o : Fin 3656) (ho : o.val = n.val) :
    refQ (hdot X M W) (ix3 b r n) = prod X M W b r.val o * (FloatOps.ofBits (F := Ideal) .f32 0x3E38AA3B#32 : EReal) := by
  by_cases h : r.val < 2064
  · rw [← hdot_at X M W b ⟨r.val, h⟩ o]
    pointwise [refQ]
    rw [dif_pos h]
    exact congrArg (fun a => hdot X M W a * (FloatOps.ofBits (F := Ideal) .f32 0x3E38AA3B#32 : EReal)) ((ix3_inj ..).2 ⟨rfl, rfl, Fin.ext (by show n.val = o.val; omega)⟩)
  · rw [prod_past X M W b r.val o (by omega)]
    pointwise [refQ]
    rw [dif_neg h]
    exact (zero_mul _).symm

/-- The reference's keys read at an entry. -/
theorem refK_at (b : Fin 16) (r : Fin 2176) (n : Fin 1024) (o : Fin 3656) (ho : o.val = 1024 + n.val) :
    refK (hdot X M W) (ix3 b r n) = prod X M W b r.val o := by
  by_cases h : r.val < 2064
  · rw [← hdot_at X M W b ⟨r.val, h⟩ o]
    pointwise [refK]
    rw [dif_pos h]
    exact congrArg _ ((ix3_inj ..).2 ⟨rfl, rfl, Fin.ext (by show 1024 + n.val = o.val; omega)⟩)
  · rw [prod_past X M W b r.val o (by omega)]
    pointwise [refK]
    rw [dif_neg h]

/-- The reference's values read at an entry. -/
theorem refV_at (b : Fin 16) (r : Fin 2176) (n : Fin 1024) (o : Fin 3656) (ho : o.val = 2048 + n.val) :
    refV (hdot X M W) (ix3 b r n) = prod X M W b r.val o := by
  by_cases h : r.val < 2064
  · rw [← hdot_at X M W b ⟨r.val, h⟩ o]
    pointwise [refV]
    rw [dif_pos h]
    exact congrArg _ ((ix3_inj ..).2 ⟨rfl, rfl, Fin.ext (by show 2048 + n.val = o.val; omega)⟩)
  · rw [prod_past X M W b r.val o (by omega)]
    pointwise [refV]
    rw [dif_neg h]

/-- The reference's indexer queries read at an entry. -/
theorem refI_at (b : Fin 16) (r : Fin 2176) (n : Fin 512) (o : Fin 3656) (ho : o.val = 3072 + n.val) :
    refI (hdot X M W) (ix3 b r n) = prod X M W b r.val o := by
  by_cases h : r.val < 2064
  · rw [← hdot_at X M W b ⟨r.val, h⟩ o]
    pointwise [refI]
    rw [dif_pos h]
    exact congrArg _ ((ix3_inj ..).2 ⟨rfl, rfl, Fin.ext (by show 3072 + n.val = o.val; omega)⟩)
  · rw [prod_past X M W b r.val o (by omega)]
    pointwise [refI]
    rw [dif_neg h]

/-- The reference's indexer keys read at an entry. -/
theorem refJ_at (b : Fin 16) (r : Fin 2176) (n : Fin 128) (o : Fin 3656) (ho : o.val = 3584 + n.val % 64) :
    refJ (hdot X M W) (ix3 b r n) = prod X M W b r.val o := by
  by_cases h : r.val < 2064
  · rw [← hdot_at X M W b ⟨r.val, h⟩ o]
    pointwise [refJ]
    rw [dif_pos h]
    by_cases h2 : n.val < 64
    · rw [dif_pos h2]
      exact congrArg _ ((ix3_inj ..).2 ⟨rfl, rfl, Fin.ext (by show 3584 + n.val = o.val; omega)⟩)
    · rw [dif_neg h2]
      exact congrArg _ ((ix3_inj ..).2 ⟨rfl, rfl, Fin.ext (by show 3584 + (n.val - 64) = o.val; omega)⟩)
  · rw [prod_past X M W b r.val o (by omega)]
    pointwise [refJ]
    rw [dif_neg h]

/-- The reference's scaled indexer weights read at an entry. -/
theorem refW_at (b : Fin 16) (r : Fin 2176) (n : Fin 8) (o : Fin 3656) (ho : o.val = 3648 + n.val) :
    refW (hdot X M W) (ix3 b r n) = prod X M W b r.val o * (FloatOps.ofBits (F := Ideal) .f32 0x3D3504F3#32 : EReal) := by
  by_cases h : r.val < 2064
  · rw [← hdot_at X M W b ⟨r.val, h⟩ o]
    pointwise [refW]
    rw [dif_pos h]
    exact congrArg (fun a => hdot X M W a * (FloatOps.ofBits (F := Ideal) .f32 0x3D3504F3#32 : EReal)) ((ix3_inj ..).2 ⟨rfl, rfl, Fin.ext (by show 3648 + n.val = o.val; omega)⟩)
  · rw [prod_past X M W b r.val o (by omega)]
    pointwise [refW]
    rw [dif_neg h]
    exact (zero_mul _).symm

end reference

open Cert.ProjKernelIdeal Cert.ProjKernelIdeal.Gen

variable (m : (ℓ : Loc nD τ sig) → Buf (Elt Ideal) ℓ)

/-- Each window's block index at a grid point. -/
theorem idx : ∀ t : Fin cfg0.N, win0_0.index t = ![t.val / 4, t.val % 4, 0] ∧ win0_1.index t = ![t.val / 4, t.val % 4 * 34 - 1, 0, 0]
    ∧ win0_2.index t = ![0, 0] ∧ win0_3.index t = ![0, 0] ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] :=
  (by decide +kernel : ∀ t : Fin grid0.N, _)

/-- The coordinates of a grid point. -/
theorem coord : ∀ t : Fin cfg0.N, ((grid0.coords t) 0).val = t.val / 4 ∧ ((grid0.coords t) 1).val = t.val % 4 :=
  (by decide +kernel : ∀ t : Fin grid0.N, _)

/-- The tail window's array: the sequence in groups of 16 rows. -/
theorem V_tails (c : Dev nD) : V m c main_v6 = shapeCast S16x128x16x1024 (m ((c : Thread nD τ).loc main_arg0)) shapeCasts_S16x2048x1024_S16x128x16x1024 := by
  dsimp only [V, hostOps0]
  after_results
  rfl

theorem tails_at (X : FVec Ideal S16x2048x1024 .f32) (b : Fin 16) (g : Fin 128) (y : Fin 16) (k : Fin 1024) (r : Fin 2048) (hr : r.val = g.val * 16 + y.val) :
    shapeCast S16x128x16x1024 X shapeCasts_S16x2048x1024_S16x128x16x1024 (ix4 b g y k) = X (ix3 b r k) := by
  pointwise
  congr 1
  exact (ix3_inj ..).2 ⟨rfl, Fin.ext hr.symm, rfl⟩

/-- The pieces of the padded weights side by side. -/
abbrev wcat (a : FVec Ideal S1024x3648 .f32) (b : FVec Ideal S1024x64 .f32) (d : FVec Ideal S1024x8 .f32) (e : FVec Ideal S1024x120 .f32) : FVec Ideal S1024x3840 .bf16 :=
  truncf .bf16 (concatenate S1024x3840 1 [⟨S1024x3648, a⟩, ⟨S1024x64, b⟩, ⟨S1024x8, d⟩, ⟨S1024x120, e⟩] concatenates_S1024x3648_S1024x64_S1024x8_S1024x120_S1024x3840_d1) bitsLt_bf16_f32

/-- The padded weights over the weights. -/
abbrev wpad (W : FVec Ideal S1024x3656 .f32) : FVec Ideal S1024x3840 .bf16 :=
  wcat (extractStridedSlice S1024x3648 ![0, 0] W slices_S1024x3656_S1024x3648_0_0) (extractStridedSlice S1024x64 ![0, 3584] W slices_S1024x3656_S1024x64_0_3584)
    (extractStridedSlice S1024x8 ![0, 3648] W slices_S1024x3656_S1024x8_0_3648) (broadcastInDim S1024x120 ![] bcast_S_S1024x120 (constant (F := Ideal) S_ .f32 0x00000000#32))

/-- The pieces as the region finds them. -/
theorem V_w0 (c : Dev nD) : V m c main_v0 = extractStridedSlice S1024x3648 ![0, 0] (m ((c : Thread nD τ).loc main_arg2)) slices_S1024x3656_S1024x3648_0_0 := by
  dsimp only [V, hostOps0]
  after_results
theorem V_w1 (c : Dev nD) : V m c main_v1 = extractStridedSlice S1024x64 ![0, 3584] (m ((c : Thread nD τ).loc main_arg2)) slices_S1024x3656_S1024x64_0_3584 := by
  dsimp only [V, hostOps0]
  after_results
theorem V_w2 (c : Dev nD) : V m c main_v2 = extractStridedSlice S1024x8 ![0, 3648] (m ((c : Thread nD τ).loc main_arg2)) slices_S1024x3656_S1024x8_0_3648 := by
  dsimp only [V, hostOps0]
  after_results
theorem V_w3 (c : Dev nD) : V m c main_v3 = broadcastInDim S1024x120 ![] bcast_S_S1024x120 (constant (F := Ideal) S_ .f32 0x00000000#32) := by
  dsimp only [V, hostOps0]
  after_results

/-- The padded weights as the region finds them. -/
theorem V_wpad (c : Dev nD) : V m c main_v5 = wpad (m ((c : Thread nD τ).loc main_arg2)) := by
  have h : V m c main_v5 = wcat (V m c main_v0) (V m c main_v1) (V m c main_v2) (V m c main_v3) := by
    dsimp only [V, hostOps0]
    after_results
    rfl
  rw [h, V_w0, V_w1, V_w2, V_w3]

/-- A column before the indexer's second copy of the keys is the weights' own. -/
theorem wpad_low (W : FVec Ideal S1024x3656 .f32) (k : Fin 1024) (n : Fin 3840) (n' : Fin 3656) (h : n.val < 3648) (hn : n'.val = n.val) :
    wpad W (ix2 k n) = W (ix2 k n') := by
  pointwise [wpad, wcat]
  rw [dif_pos h]
  congr 1
  exact (ix2_inj ..).2 ⟨rfl, Fin.ext hn.symm⟩

/-- The other columns are the weights' 64 columns before. -/
theorem wpad_high (W : FVec Ideal S1024x3656 .f32) (k : Fin 1024) (n : Fin 3840) (n' : Fin 3656) (h : 3648 ≤ n.val) (h' : n.val < 3720) (hn : n'.val + 64 = n.val) :
    wpad W (ix2 k n) = W (ix2 k n') := by
  pointwise [wpad, wcat]
  rw [dif_neg (by omega)]
  by_cases h2 : n.val - 3648 < 64
  · rw [dif_pos h2]
    congr 1
    exact (ix2_inj ..).2 ⟨rfl, Fin.ext (by show 3584 + (n.val - 3648) = n'.val; omega)⟩
  · rw [dif_neg h2, dif_pos (by omega)]
    congr 1
    exact (ix2_inj ..).2 ⟨rfl, Fin.ext (by show 3648 + (n.val - 3648 - 64) = n'.val; omega)⟩

theorem head_at (c : Dev nD) (t : Fin cfg0.N) (y : Fin 16) (k : Fin 1024) :
    View.ld (iblk m c 2 t) rM (ix2 y k) = m ((c : Thread nD τ).loc main_arg1) (ix2 y k) := by
  pointwise [View.ld]
  blk_point [iblk, V_main_arg1, idx t]

theorem tail_at (c : Dev nD) (t : Fin cfg0.N) (ht : t.val % 4 ≠ 0) (y : Fin 16) (k : Fin 1024) (b : Fin 16) (r : Fin 2048) (hb : b.val = t.val / 4)
    (hr : r.val + 16 = t.val % 4 * 544 + y.val) :
    View.ld (iblk m c 1 t) rT (ix4 0 0 y k) = m ((c : Thread nD τ).loc main_arg0) (ix3 b r k) := by
  pointwise [View.ld]
  have e : ((cfg0.win 1).blk t).view.emb (ix4 0 0 y k : S1x1x16x1024.Idx) = (ix4 b ⟨t.val % 4 * 34 - 1, by omega⟩ y k : S16x128x16x1024.Idx) := by
    blk_ext [idx t]
  show V m c main_v6 (((cfg0.win 1).blk t).view.emb (ix4 0 0 y k : S1x1x16x1024.Idx)) = _
  rw [e, V_tails]
  exact tails_at _ b _ y k r (by show r.val = (t.val % 4 * 34 - 1) * 16 + y.val; omega)

theorem body_at (c : Dev nD) (t : Fin cfg0.N) (y : Fin 528) (k : Fin 1024) (b : Fin 16) (r : Fin 2048) (hb : b.val = t.val / 4)
    (hr : r.val = t.val % 4 * 544 + y.val) :
    View.ld (xblk m c t) rX (ix3 0 y k) = m ((c : Thread nD τ).loc main_arg0) (ix3 b r k) := by
  pointwise [View.ld]
  have hm : win0_0.moved (grid0.coords t) (ix3 0 ⟨y.val, by omega⟩ k : S1x544x1024.Idx) = true :=
    moved_of (grid0.coords t) _ (by show ((grid0.coords t) 1).val * 544 + y.val < 2048; rw [(coord t).2]; omega)
  unfold xblk Pipeline.Window.fill
  rw [dif_pos hm]
  show V m c main_arg0 (((cfg0.win 0).blk t).view.emb _) = _
  rw [V_main_arg0]
  congr 1
  blk_ext [idx t]

/-- A row that the body does not keep is past the widened sequence. -/
theorem unkept (n : Fin 4) (r : Fin 544)
    (h : ¬ Scalar.cmpi .slt (Scalar.addi (Scalar.muli (BitVec.ofNat 32 n.val) 544#32) (BitVec.ofNat 32 r.val)) 2064#32 = 1#1) :
    2064 ≤ n.val * 544 + r.val := by
  have hyes : ∀ (n : Fin 4) (q : Fin 544), n.val * 544 + q.val < 2064 →
      Scalar.cmpi .slt (Scalar.addi (Scalar.muli (BitVec.ofNat 32 n.val) 544#32) (BitVec.ofNat 32 q.val)) 2064#32 = 1#1 := by decide +kernel
  by_contra hc
  exact h (hyes n r (by omega))

theorem first (n : Fin 4) : Scalar.cmpi .eq (BitVec.ofNat 32 n.val) 0#32 = 1#1 ↔ n.val = 0 := by
  revert n; decide

/-- The rows of a block read at an entry. -/
theorem rows_at (i : grid0.Coords) (vm : Vec Ideal S16x1024 .f32) (vt : Vec Ideal S1x1x16x1024 .f32) (vx : Vec Ideal S1x528x1024 .f32) (y : Fin 544) (k : Fin 1024) :
    rows i vm vt vx (ix2 y k) = if Scalar.cmpi .slt (Scalar.addi (Scalar.muli (BitVec.ofNat 32 (i 1).val) 544#32) (BitVec.ofNat 32 y.val)) 2064#32 = 1#1 then
      (if h : y.val < 16 then (if Scalar.cmpi .eq (BitVec.ofNat 32 (i 1).val) 0#32 = 1#1 then vm (ix2 ⟨y.val, h⟩ k) else vt (ix4 0 0 ⟨y.val, h⟩ k))
        else vx (ix3 0 ⟨y.val - 16, by have := y.isLt; omega⟩ k)) else (0 : EReal) := by
  pointwise [rows]
  rfl

/-- The rows of a block are the widened sequence's, from the block's place on. -/
theorem rows_blk (c : Dev nD) (t : Fin cfg0.N) (y : Fin 544) (k : Fin 1024) (b : Fin 16) (hb : b.val = t.val / 4) (r : ℕ) (hr : r = t.val % 4 * 544 + y.val) :
    rows (grid0.coords t) (View.ld (iblk m c 2 t) rM) (View.ld (iblk m c 1 t) rT) (View.ld (xblk m c t) rX) (ix2 y k)
      = seq (m ((c : Thread nD τ).loc main_arg0)) (m ((c : Thread nD τ).loc main_arg1)) b r k := by
  have hy := y.isLt
  have h1 := (coord t).2
  subst hr
  rw [rows_at]
  by_cases hk : Scalar.cmpi .slt (Scalar.addi (Scalar.muli (BitVec.ofNat 32 ((grid0.coords t) 1).val) 544#32) (BitVec.ofNat 32 y.val)) 2064#32 = 1#1
  · rw [if_pos hk]
    have hlt := kept ((grid0.coords t) 1) y hk
    rw [h1] at hlt
    by_cases h : y.val < 16
    · rw [dif_pos h]
      by_cases h0 : t.val % 4 = 0
      · rw [if_pos ((first ((grid0.coords t) 1)).mpr (h1.trans h0)), head_at]
        unfold seq
        rw [dif_pos (by omega)]
        exact congrArg _ ((ix2_inj ..).2 ⟨Fin.ext (by show y.val = t.val % 4 * 544 + y.val; omega), rfl⟩)
      · rw [if_neg (fun e => h0 (h1.symm.trans ((first ((grid0.coords t) 1)).mp e)))]
        unfold seq
        rw [dif_neg (by omega), dif_pos (by omega)]
        exact tail_at m c t h0 ⟨y.val, h⟩ k b ⟨t.val % 4 * 544 + y.val - 16, by omega⟩ hb (by show t.val % 4 * 544 + y.val - 16 + 16 = t.val % 4 * 544 + y.val; omega)
    · rw [dif_neg h]
      unfold seq
      rw [dif_neg (by omega), dif_pos (by omega)]
      exact body_at m c t ⟨y.val - 16, by omega⟩ k b ⟨t.val % 4 * 544 + y.val - 16, by omega⟩ hb (by show t.val % 4 * 544 + y.val - 16 = t.val % 4 * 544 + (y.val - 16); omega)
  · rw [if_neg hk]
    have hge := unkept ((grid0.coords t) 1) y hk
    rw [h1] at hge
    exact (seq_past _ _ _ _ _ hge).symm

/-- A block's padded weights are the whole padded weights. -/
theorem wblk (c : Dev nD) (t : Fin cfg0.N) (k : Fin 1024) (n : Fin 3840) :
    (iblk m c 3 t : FVec Ideal S1024x3840 .bf16) (ix2 k n) = wpad (m ((c : Thread nD τ).loc main_arg2)) (ix2 k n) := by
  have e : ((cfg0.win 3).blk t).view.emb (ix2 k n : S1024x3840.Idx) = (ix2 k n : S1024x3840.Idx) := by
    blk_ext [idx t]
  show V m c main_v5 (((cfg0.win 3).blk t).view.emb (ix2 k n : S1024x3840.Idx)) = _
  rw [e, V_wpad]

theorem payQ_at (R : FVec Ideal S544x1024 .f32) (w : FVec Ideal S1024x3840 .bf16) (z : Fin 1) (y : Fin 544) (n : Fin 1024) (o : Fin 3840) (ho : o.val = 0 + n.val) :
    payQ (low R) (View.ld w rW0) (ix3 z y n) = (∑ k : Fin 1024, R (ix2 y k) * w (ix2 k o) : EReal) * (FloatOps.ofBits (F := Ideal) .f32 0x3E38AA3B#32 : EReal) := by
  pointwise [payQ, low, View.ld]
  have hb : n.val < 3840 := by omega
  obtain rfl : o = ⟨n.val, hb⟩ := Fin.ext (by show o.val = n.val; omega)
  rfl

theorem payK_at (R : FVec Ideal S544x1024 .f32) (w : FVec Ideal S1024x3840 .bf16) (z : Fin 1) (y : Fin 544) (n : Fin 1024) (o : Fin 3840) (ho : o.val = 1024 + n.val) :
    payK (low R) (View.ld w rW1) (ix3 z y n) = (∑ k : Fin 1024, R (ix2 y k) * w (ix2 k o) : EReal) := by
  pointwise [payK, low, View.ld]
  have hb : 1024 + n.val < 3840 := by omega
  obtain rfl : o = ⟨1024 + n.val, hb⟩ := Fin.ext (by show o.val = 1024 + n.val; omega)
  rfl

theorem payV_at (R : FVec Ideal S544x1024 .f32) (w : FVec Ideal S1024x3840 .bf16) (z : Fin 1) (y : Fin 544) (n : Fin 1024) (o : Fin 3840) (ho : o.val = 2048 + n.val) :
    payV (low R) (View.ld w rW2) (ix3 z y n) = (∑ k : Fin 1024, R (ix2 y k) * w (ix2 k o) : EReal) := by
  pointwise [payV, low, View.ld]
  have hb : 2048 + n.val < 3840 := by omega
  obtain rfl : o = ⟨2048 + n.val, hb⟩ := Fin.ext (by show o.val = 2048 + n.val; omega)
  rfl

theorem payI_at (R : FVec Ideal S544x1024 .f32) (w : FVec Ideal S1024x3840 .bf16) (z : Fin 1) (y : Fin 544) (n : Fin 512) (o : Fin 3840) (ho : o.val = 3072 + n.val) :
    payI (low R) (View.ld w rW3) (ix3 z y n) = (∑ k : Fin 1024, R (ix2 y k) * w (ix2 k o) : EReal) := by
  pointwise [payI, low, View.ld]
  have hb : 3072 + n.val < 3840 := by omega
  obtain rfl : o = ⟨3072 + n.val, hb⟩ := Fin.ext (by show o.val = 3072 + n.val; omega)
  rfl

theorem payJ_at (R : FVec Ideal S544x1024 .f32) (w : FVec Ideal S1024x3840 .bf16) (z : Fin 1) (y : Fin 544) (n : Fin 128) (o : Fin 3840) (ho : o.val = 3584 + n.val) :
    payJ (last (low R) (View.ld w rW4)) (ix3 z y n) = (∑ k : Fin 1024, R (ix2 y k) * w (ix2 k o) : EReal) := by
  pointwise [payJ, last, low, View.ld]
  have hb : 3584 + n.val < 3840 := by omega
  obtain rfl : o = ⟨3584 + n.val, hb⟩ := Fin.ext (by show o.val = 3584 + n.val; omega)
  rfl

theorem payW_at (R : FVec Ideal S544x1024 .f32) (w : FVec Ideal S1024x3840 .bf16) (z : Fin 1) (y : Fin 544) (n : Fin 8) (o : Fin 3840) (ho : o.val = 3712 + n.val) :
    payW (wts (last (low R) (View.ld w rW4))) (ix3 z y n) = (∑ k : Fin 1024, R (ix2 y k) * w (ix2 k o) : EReal) * (FloatOps.ofBits (F := Ideal) .f32 0x3D3504F3#32 : EReal) := by
  pointwise [payW, wts, last, low, View.ld]
  have hb : 3584 + (128 + n.val) < 3840 := by omega
  obtain rfl : o = ⟨3584 + (128 + n.val), hb⟩ := Fin.ext (by show o.val = 3584 + (128 + n.val); omega)
  rfl

/-- A block's rows times the padded weights are the widened sequence's products. -/
theorem blk_prod (c : Dev nD) (t : Fin cfg0.N) (y : Fin 544) (b : Fin 16) (hb : b.val = t.val / 4) (r : ℕ) (hr : r = t.val % 4 * 544 + y.val)
    (o : Fin 3840) (o' : Fin 3656) (ho : o.val < 3648 ∧ o'.val = o.val ∨ 3648 ≤ o.val ∧ o.val < 3720 ∧ o'.val + 64 = o.val) :
    (∑ k : Fin 1024, (rows (grid0.coords t) (View.ld (iblk m c 2 t) rM) (View.ld (iblk m c 1 t) rT) (View.ld (xblk m c t) rX)) (ix2 y k) * (iblk m c 3 t : FVec Ideal S1024x3840 .bf16) (ix2 k o) : EReal)
      = prod (m ((c : Thread nD τ).loc main_arg0)) (m ((c : Thread nD τ).loc main_arg1)) (m ((c : Thread nD τ).loc main_arg2)) b r o' := by
  unfold prod
  refine Finset.sum_congr rfl fun k _ => ?_
  rw [rows_blk m c t y k b hb r hr, wblk]
  rcases ho with ⟨h, h'⟩ | ⟨h, h', h''⟩
  · rw [wpad_low _ k o o' h h']
  · rw [wpad_high _ k o o' h h' h'']

/-- What the body stores of the rows is the widened sequence. -/
theorem pointH (c : Dev nD) (t : Fin cfg0.N) (z : Fin 1) (y : Fin 544) (n : Fin 1024) :
    payH (rows (grid0.coords t) (View.ld (iblk m c 2 t) rM) (View.ld (iblk m c 1 t) rT) (View.ld (xblk m c t) rX)) (ix3 z y n) = refH (hcat (m ((c : Thread nD τ).loc main_arg0)) (m ((c : Thread nD τ).loc main_arg1))) (((cfg0.win 4).blk t).view.emb (ix3 z y n : S1x544x1024.Idx)) := by
  have ht : t.val < 64 := t.isLt
  have hy := y.isLt
  have e : ((cfg0.win 4).blk t).view.emb (ix3 z y n : S1x544x1024.Idx) = (ix3 ⟨t.val / 4, by omega⟩ ⟨t.val % 4 * 544 + y.val, by omega⟩ n : S16x2176x1024.Idx) := by
    blk_ext [idx t]
  rw [e, refH_at, ← rows_blk m c t y n ⟨t.val / 4, by omega⟩ rfl (t.val % 4 * 544 + y.val) rfl]
  pointwise [payH]

/-- What the body stores of the scaled queries is the reference's. -/
theorem pointQ (c : Dev nD) (t : Fin cfg0.N) (z : Fin 1) (y : Fin 544) (n : Fin 1024) :
    payQ (low (rows (grid0.coords t) (View.ld (iblk m c 2 t) rM) (View.ld (iblk m c 1 t) rT) (View.ld (xblk m c t) rX))) (View.ld (iblk m c 3 t) rW0) (ix3 z y n) = refQ (hdot (m ((c : Thread nD τ).loc main_arg0)) (m ((c : Thread nD τ).loc main_arg1)) (m ((c : Thread nD τ).loc main_arg2))) (((cfg0.win 5).blk t).view.emb (ix3 z y n : S1x544x1024.Idx)) := by
  have ht : t.val < 64 := t.isLt
  have hy := y.isLt
  have hn := n.isLt
  have e : ((cfg0.win 5).blk t).view.emb (ix3 z y n : S1x544x1024.Idx) = (ix3 ⟨t.val / 4, by omega⟩ ⟨t.val % 4 * 544 + y.val, by omega⟩ n : S16x2176x1024.Idx) := by
    blk_ext [idx t]
  rw [e, refQ_at _ _ _ _ _ n ⟨n.val, by omega⟩ rfl, payQ_at _ _ z y n ⟨n.val, by omega⟩ (by show n.val = 0 + n.val; omega)]
  rw [blk_prod m c t y ⟨t.val / 4, by omega⟩ rfl (t.val % 4 * 544 + y.val) rfl ⟨n.val, by omega⟩ ⟨n.val, by omega⟩ (by show n.val < 3648 ∧ n.val = n.val ∨ 3648 ≤ n.val ∧ n.val < 3720 ∧ n.val + 64 = n.val; omega)]

/-- What the body stores of the keys is the reference's. -/
theorem pointK (c : Dev nD) (t : Fin cfg0.N) (z : Fin 1) (y : Fin 544) (n : Fin 1024) :
    payK (low (rows (grid0.coords t) (View.ld (iblk m c 2 t) rM) (View.ld (iblk m c 1 t) rT) (View.ld (xblk m c t) rX))) (View.ld (iblk m c 3 t) rW1) (ix3 z y n) = refK (hdot (m ((c : Thread nD τ).loc main_arg0)) (m ((c : Thread nD τ).loc main_arg1)) (m ((c : Thread nD τ).loc main_arg2))) (((cfg0.win 6).blk t).view.emb (ix3 z y n : S1x544x1024.Idx)) := by
  have ht : t.val < 64 := t.isLt
  have hy := y.isLt
  have hn := n.isLt
  have e : ((cfg0.win 6).blk t).view.emb (ix3 z y n : S1x544x1024.Idx) = (ix3 ⟨t.val / 4, by omega⟩ ⟨t.val % 4 * 544 + y.val, by omega⟩ n : S16x2176x1024.Idx) := by
    blk_ext [idx t]
  rw [e, refK_at _ _ _ _ _ n ⟨1024 + n.val, by omega⟩ rfl, payK_at _ _ z y n ⟨1024 + n.val, by omega⟩ rfl]
  rw [blk_prod m c t y ⟨t.val / 4, by omega⟩ rfl (t.val % 4 * 544 + y.val) rfl ⟨1024 + n.val, by omega⟩ ⟨1024 + n.val, by omega⟩ (by show 1024 + n.val < 3648 ∧ 1024 + n.val = 1024 + n.val ∨ 3648 ≤ 1024 + n.val ∧ 1024 + n.val < 3720 ∧ 1024 + n.val + 64 = 1024 + n.val; omega)]

/-- What the body stores of the values is the reference's. -/
theorem pointV (c : Dev nD) (t : Fin cfg0.N) (z : Fin 1) (y : Fin 544) (n : Fin 1024) :
    payV (low (rows (grid0.coords t) (View.ld (iblk m c 2 t) rM) (View.ld (iblk m c 1 t) rT) (View.ld (xblk m c t) rX))) (View.ld (iblk m c 3 t) rW2) (ix3 z y n) = refV (hdot (m ((c : Thread nD τ).loc main_arg0)) (m ((c : Thread nD τ).loc main_arg1)) (m ((c : Thread nD τ).loc main_arg2))) (((cfg0.win 7).blk t).view.emb (ix3 z y n : S1x544x1024.Idx)) := by
  have ht : t.val < 64 := t.isLt
  have hy := y.isLt
  have hn := n.isLt
  have e : ((cfg0.win 7).blk t).view.emb (ix3 z y n : S1x544x1024.Idx) = (ix3 ⟨t.val / 4, by omega⟩ ⟨t.val % 4 * 544 + y.val, by omega⟩ n : S16x2176x1024.Idx) := by
    blk_ext [idx t]
  rw [e, refV_at _ _ _ _ _ n ⟨2048 + n.val, by omega⟩ rfl, payV_at _ _ z y n ⟨2048 + n.val, by omega⟩ rfl]
  rw [blk_prod m c t y ⟨t.val / 4, by omega⟩ rfl (t.val % 4 * 544 + y.val) rfl ⟨2048 + n.val, by omega⟩ ⟨2048 + n.val, by omega⟩ (by show 2048 + n.val < 3648 ∧ 2048 + n.val = 2048 + n.val ∨ 3648 ≤ 2048 + n.val ∧ 2048 + n.val < 3720 ∧ 2048 + n.val + 64 = 2048 + n.val; omega)]

/-- What the body stores of the indexer's queries is the reference's. -/
theorem pointI (c : Dev nD) (t : Fin cfg0.N) (z : Fin 1) (y : Fin 544) (n : Fin 512) :
    payI (low (rows (grid0.coords t) (View.ld (iblk m c 2 t) rM) (View.ld (iblk m c 1 t) rT) (View.ld (xblk m c t) rX))) (View.ld (iblk m c 3 t) rW3) (ix3 z y n) = refI (hdot (m ((c : Thread nD τ).loc main_arg0)) (m ((c : Thread nD τ).loc main_arg1)) (m ((c : Thread nD τ).loc main_arg2))) (((cfg0.win 8).blk t).view.emb (ix3 z y n : S1x544x512.Idx)) := by
  have ht : t.val < 64 := t.isLt
  have hy := y.isLt
  have hn := n.isLt
  have e : ((cfg0.win 8).blk t).view.emb (ix3 z y n : S1x544x512.Idx) = (ix3 ⟨t.val / 4, by omega⟩ ⟨t.val % 4 * 544 + y.val, by omega⟩ n : S16x2176x512.Idx) := by
    blk_ext [idx t]
  rw [e, refI_at _ _ _ _ _ n ⟨3072 + n.val, by omega⟩ rfl, payI_at _ _ z y n ⟨3072 + n.val, by omega⟩ rfl]
  rw [blk_prod m c t y ⟨t.val / 4, by omega⟩ rfl (t.val % 4 * 544 + y.val) rfl ⟨3072 + n.val, by omega⟩ ⟨3072 + n.val, by omega⟩ (by show 3072 + n.val < 3648 ∧ 3072 + n.val = 3072 + n.val ∨ 3648 ≤ 3072 + n.val ∧ 3072 + n.val < 3720 ∧ 3072 + n.val + 64 = 3072 + n.val; omega)]

/-- What the body stores of the indexer's keys is the reference's. -/
theorem pointJ (c : Dev nD) (t : Fin cfg0.N) (z : Fin 1) (y : Fin 544) (n : Fin 128) :
    payJ (last (low (rows (grid0.coords t) (View.ld (iblk m c 2 t) rM) (View.ld (iblk m c 1 t) rT) (View.ld (xblk m c t) rX))) (View.ld (iblk m c 3 t) rW4)) (ix3 z y n) = refJ (hdot (m ((c : Thread nD τ).loc main_arg0)) (m ((c : Thread nD τ).loc main_arg1)) (m ((c : Thread nD τ).loc main_arg2))) (((cfg0.win 9).blk t).view.emb (ix3 z y n : S1x544x128.Idx)) := by
  have ht : t.val < 64 := t.isLt
  have hy := y.isLt
  have hn := n.isLt
  have e : ((cfg0.win 9).blk t).view.emb (ix3 z y n : S1x544x128.Idx) = (ix3 ⟨t.val / 4, by omega⟩ ⟨t.val % 4 * 544 + y.val, by omega⟩ n : S16x2176x128.Idx) := by
    blk_ext [idx t]
  rw [e, refJ_at _ _ _ _ _ n ⟨3584 + n.val % 64, by omega⟩ rfl, payJ_at _ _ z y n ⟨3584 + n.val, by omega⟩ rfl]
  rw [blk_prod m c t y ⟨t.val / 4, by omega⟩ rfl (t.val % 4 * 544 + y.val) rfl ⟨3584 + n.val, by omega⟩ ⟨3584 + n.val % 64, by omega⟩ (by show 3584 + n.val < 3648 ∧ 3584 + n.val % 64 = 3584 + n.val ∨ 3648 ≤ 3584 + n.val ∧ 3584 + n.val < 3720 ∧ 3584 + n.val % 64 + 64 = 3584 + n.val; omega)]

/-- What the body stores of the indexer's scaled weights is the reference's. -/
theorem pointW (c : Dev nD) (t : Fin cfg0.N) (z : Fin 1) (y : Fin 544) (n : Fin 8) :
    payW (wts (last (low (rows (grid0.coords t) (View.ld (iblk m c 2 t) rM) (View.ld (iblk m c 1 t) rT) (View.ld (xblk m c t) rX))) (View.ld (iblk m c 3 t) rW4))) (ix3 z y n) = refW (hdot (m ((c : Thread nD τ).loc main_arg0)) (m ((c : Thread nD τ).loc main_arg1)) (m ((c : Thread nD τ).loc main_arg2))) (((cfg0.win 10).blk t).view.emb (ix3 z y n : S1x544x8.Idx)) := by
  have ht : t.val < 64 := t.isLt
  have hy := y.isLt
  have hn := n.isLt
  have e : ((cfg0.win 10).blk t).view.emb (ix3 z y n : S1x544x8.Idx) = (ix3 ⟨t.val / 4, by omega⟩ ⟨t.val % 4 * 544 + y.val, by omega⟩ n : S16x2176x8.Idx) := by
    blk_ext [idx t]
  rw [e, refW_at _ _ _ _ _ n ⟨3648 + n.val, by omega⟩ rfl, payW_at _ _ z y n ⟨3712 + n.val, by omega⟩ rfl]
  rw [blk_prod m c t y ⟨t.val / 4, by omega⟩ rfl (t.val % 4 * 544 + y.val) rfl ⟨3712 + n.val, by omega⟩ ⟨3648 + n.val, by omega⟩ (by show 3712 + n.val < 3648 ∧ 3648 + n.val = 3712 + n.val ∨ 3648 ≤ 3712 + n.val ∧ 3712 + n.val < 3720 ∧ 3648 + n.val + 64 = 3712 + n.val; omega)]

theorem canonH (p : Vec Ideal S1x544x1024 .f32) (y : S1x544x1024.Idx) : (View.canon [⟨rH, p⟩] : Vec Ideal S1x544x1024 .f32) y = p y := by
  frame_out

theorem canonQ (p : Vec Ideal S1x544x1024 .bf16) (y : S1x544x1024.Idx) : (View.canon [⟨rH, p⟩] : Vec Ideal S1x544x1024 .bf16) y = p y := by
  frame_out

theorem canonI (p : Vec Ideal S1x544x512 .bf16) (y : S1x544x512.Idx) : (View.canon [⟨rI, p⟩] : Vec Ideal S1x544x512 .bf16) y = p y := by
  frame_out

theorem canonJ (p : Vec Ideal S1x544x128 .bf16) (y : S1x544x128.Idx) : (View.canon [⟨rJ, p⟩] : Vec Ideal S1x544x128 .bf16) y = p y := by
  frame_out

theorem canonW (p : Vec Ideal S1x544x8 .f32) (y : S1x544x8.Idx) : (View.canon [⟨rO, p⟩] : Vec Ideal S1x544x8 .f32) y = p y := by
  frame_out

theorem blockH (c : Dev nD) (t : Fin cfg0.N) (y : S1x544x1024.Idx) :
    (dats m 0 c).after 4 t y = refH (hcat (m ((c : Thread nD τ).loc main_arg0)) (m ((c : Thread nD τ).loc main_arg1))) (((cfg0.win 4).blk t).view.emb y) := by
  rw [eq_ix3 y]
  exact (congrFun (after_4 m c t) _).trans ((canonH _ _).trans (pointH m c t (y 0) (y 1) (y 2)))

/-- The widened sequence after the run. -/
theorem finalH (c : Dev nD) : (dats m 0 c).arrAt 4 (cfgs 0).N = refH (hcat (m ((c : Thread nD τ).loc main_arg0)) (m ((c : Thread nD τ).loc main_arg1))) := by
  refine (dats m 0 c).arrAt_eq_of_covers 4 _ (by decide +kernel) fun t _ y => ?_
  blk_simp
  exact blockH m c t y

theorem blockQ (c : Dev nD) (t : Fin cfg0.N) (y : S1x544x1024.Idx) :
    (dats m 0 c).after 5 t y = refQ (hdot (m ((c : Thread nD τ).loc main_arg0)) (m ((c : Thread nD τ).loc main_arg1)) (m ((c : Thread nD τ).loc main_arg2))) (((cfg0.win 5).blk t).view.emb y) := by
  rw [eq_ix3 y]
  exact (congrFun (after_5 m c t) _).trans ((canonQ _ _).trans (pointQ m c t (y 0) (y 1) (y 2)))

/-- The scaled queries after the run. -/
theorem finalQ (c : Dev nD) : (dats m 0 c).arrAt 5 (cfgs 0).N = refQ (hdot (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  exact blockQ m c t y

theorem blockK (c : Dev nD) (t : Fin cfg0.N) (y : S1x544x1024.Idx) :
    (dats m 0 c).after 6 t y = refK (hdot (m ((c : Thread nD τ).loc main_arg0)) (m ((c : Thread nD τ).loc main_arg1)) (m ((c : Thread nD τ).loc main_arg2))) (((cfg0.win 6).blk t).view.emb y) := by
  rw [eq_ix3 y]
  exact (congrFun (after_6 m c t) _).trans ((canonQ _ _).trans (pointK m c t (y 0) (y 1) (y 2)))

/-- The keys after the run. -/
theorem finalK (c : Dev nD) : (dats m 0 c).arrAt 6 (cfgs 0).N = refK (hdot (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  exact blockK m c t y

theorem blockV (c : Dev nD) (t : Fin cfg0.N) (y : S1x544x1024.Idx) :
    (dats m 0 c).after 7 t y = refV (hdot (m ((c : Thread nD τ).loc main_arg0)) (m ((c : Thread nD τ).loc main_arg1)) (m ((c : Thread nD τ).loc main_arg2))) (((cfg0.win 7).blk t).view.emb y) := by
  rw [eq_ix3 y]
  exact (congrFun (after_7 m c t) _).trans ((canonQ _ _).trans (pointV m c t (y 0) (y 1) (y 2)))

/-- The values after the run. -/
theorem finalV (c : Dev nD) : (dats m 0 c).arrAt 7 (cfgs 0).N = refV (hdot (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  exact blockV m c t y

theorem blockI (c : Dev nD) (t : Fin cfg0.N) (y : S1x544x512.Idx) :
    (dats m 0 c).after 8 t y = refI (hdot (m ((c : Thread nD τ).loc main_arg0)) (m ((c : Thread nD τ).loc main_arg1)) (m ((c : Thread nD τ).loc main_arg2))) (((cfg0.win 8).blk t).view.emb y) := by
  rw [eq_ix3 y]
  exact (congrFun (after_8 m c t) _).trans ((canonI _ _).trans (pointI m c t (y 0) (y 1) (y 2)))

/-- The indexer's queries after the run. -/
theorem finalI (c : Dev nD) : (dats m 0 c).arrAt 8 (cfgs 0).N = refI (hdot (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  exact blockI m c t y

theorem blockJ (c : Dev nD) (t : Fin cfg0.N) (y : S1x544x128.Idx) :
    (dats m 0 c).after 9 t y = refJ (hdot (m ((c : Thread nD τ).loc main_arg0)) (m ((c : Thread nD τ).loc main_arg1)) (m ((c : Thread nD τ).loc main_arg2))) (((cfg0.win 9).blk t).view.emb y) := by
  rw [eq_ix3 y]
  exact (congrFun (after_9 m c t) _).trans ((canonJ _ _).trans (pointJ m c t (y 0) (y 1) (y 2)))

/-- The indexer's keys after the run. -/
theorem finalJ (c : Dev nD) : (dats m 0 c).arrAt 9 (cfgs 0).N = refJ (hdot (m ((c : Thread nD τ).loc main_arg0)) (m ((c : Thread nD τ).loc main_arg1)) (m ((c : Thread nD τ).loc main_arg2))) := by
  refine (dats m 0 c).arrAt_eq_of_covers 9 _ (by decide +kernel) fun t _ y => ?_
  blk_simp
  exact blockJ m c t y

theorem blockW (c : Dev nD) (t : Fin cfg0.N) (y : S1x544x8.Idx) :
    (dats m 0 c).after 10 t y = refW (hdot (m ((c : Thread nD τ).loc main_arg0)) (m ((c : Thread nD τ).loc main_arg1)) (m ((c : Thread nD τ).loc main_arg2))) (((cfg0.win 10).blk t).view.emb y) := by
  rw [eq_ix3 y]
  exact (congrFun (after_10 m c t) _).trans ((canonW _ _).trans (pointW m c t (y 0) (y 1) (y 2)))

/-- The indexer's scaled weights after the run. -/
theorem finalW (c : Dev nD) : (dats m 0 c).arrAt 10 (cfgs 0).N = refW (hdot (m ((c : Thread nD τ).loc main_arg0)) (m ((c : Thread nD τ).loc main_arg1)) (m ((c : Thread nD τ).loc main_arg2))) := by
  refine (dats m 0 c).arrAt_eq_of_covers 10 _ (by decide +kernel) fun t _ y => ?_
  blk_simp
  exact blockW m c t y

end Cert.Proof.Proj

end
-- ==== Proof.Proj.Claim.lean ====
/- The input projection's value claim, from the two runs. -/
module

public import proofs.«01_k».proof.Defs
public import proofs.«01_k».proof.Proof.Proj.Value
public import proofs.«01_k».proof.Proof.Gen.ProjReferenceIdeal.Run
public import Idealize.ShloMosaic.Lib.Claim

@[expose] public section

set_option maxRecDepth 16384

noncomputable section

open Idealize.ShloMosaic Idealize.ShloMosaic.TcCoe Idealize.SL.Sem

namespace Cert.Proof.Proj

section kernel

open Cert.ProjKernelIdeal Cert.ProjKernelIdeal.Gen

/-- The kernel's run: each result array at the reference's term of the arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v7_0) = refH (hcat (m ((c.tc : Thread nD τ).loc main_arg0)) (m ((c.tc : Thread nD τ).loc main_arg1)))
      ∧ r.2.mem ((c.tc : Thread nD τ).loc main_v7_1) = refQ (hdot (m ((c.tc : Thread nD τ).loc main_arg0)) (m ((c.tc : Thread nD τ).loc main_arg1)) (m ((c.tc : Thread nD τ).loc main_arg2)))
      ∧ r.2.mem ((c.tc : Thread nD τ).loc main_v7_2) = refK (hdot (m ((c.tc : Thread nD τ).loc main_arg0)) (m ((c.tc : Thread nD τ).loc main_arg1)) (m ((c.tc : Thread nD τ).loc main_arg2)))
      ∧ r.2.mem ((c.tc : Thread nD τ).loc main_v7_3) = refV (hdot (m ((c.tc : Thread nD τ).loc main_arg0)) (m ((c.tc : Thread nD τ).loc main_arg1)) (m ((c.tc : Thread nD τ).loc main_arg2)))
      ∧ r.2.mem ((c.tc : Thread nD τ).loc main_v7_4) = refI (hdot (m ((c.tc : Thread nD τ).loc main_arg0)) (m ((c.tc : Thread nD τ).loc main_arg1)) (m ((c.tc : Thread nD τ).loc main_arg2)))
      ∧ r.2.mem ((c.tc : Thread nD τ).loc main_v7_5) = refJ (hdot (m ((c.tc : Thread nD τ).loc main_arg0)) (m ((c.tc : Thread nD τ).loc main_arg1)) (m ((c.tc : Thread nD τ).loc main_arg2)))
      ∧ r.2.mem ((c.tc : Thread nD τ).loc main_v7_6) = refW (hdot (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (finalH m c), ((h c).1 5).trans (finalQ m c), ((h c).1 6).trans (finalK m c), ((h c).1 7).trans (finalV m c),
      ((h c).1 8).trans (finalI m c), ((h c).1 9).trans (finalJ m c), ((h c).1 10).trans (finalW m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m g)

end kernel

section reference

open Cert.ProjReferenceIdeal Cert.ProjReferenceIdeal.Gen

/-- The reference's run in the same terms. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16) = refH (hcat (m ((c.tc : Thread nD τ).loc main_arg0)) (m ((c.tc : Thread nD τ).loc main_arg1)))
      ∧ r.2.mem ((c.tc : Thread nD τ).loc main_v19) = refQ (hdot (m ((c.tc : Thread nD τ).loc main_arg0)) (m ((c.tc : Thread nD τ).loc main_arg1)) (m ((c.tc : Thread nD τ).loc main_arg2)))
      ∧ r.2.mem ((c.tc : Thread nD τ).loc main_v22) = refK (hdot (m ((c.tc : Thread nD τ).loc main_arg0)) (m ((c.tc : Thread nD τ).loc main_arg1)) (m ((c.tc : Thread nD τ).loc main_arg2)))
      ∧ r.2.mem ((c.tc : Thread nD τ).loc main_v25) = refV (hdot (m ((c.tc : Thread nD τ).loc main_arg0)) (m ((c.tc : Thread nD τ).loc main_arg1)) (m ((c.tc : Thread nD τ).loc main_arg2)))
      ∧ r.2.mem ((c.tc : Thread nD τ).loc main_v28) = refI (hdot (m ((c.tc : Thread nD τ).loc main_arg0)) (m ((c.tc : Thread nD τ).loc main_arg1)) (m ((c.tc : Thread nD τ).loc main_arg2)))
      ∧ r.2.mem ((c.tc : Thread nD τ).loc main_v31) = refJ (hdot (m ((c.tc : Thread nD τ).loc main_arg0)) (m ((c.tc : Thread nD τ).loc main_arg1)) (m ((c.tc : Thread nD τ).loc main_arg2)))
      ∧ r.2.mem ((c.tc : Thread nD τ).loc main_v33) = refW (hdot (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  unfold refH refQ refK refV refI refJ refW hdot hcat
  exact Cert.ProjReferenceIdeal.Value.run (F := Ideal) m g

end reference

theorem algebraic : Cert.algebraic_ProjKernelIdeal_ProjReferenceIdeal := by
  intro m g m' g' _ hagree
  refine ⟨fun c => refH (hcat (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1))),
    fun c => refQ (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))),
    fun c => refK (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))),
    fun c => refV (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))),
    fun c => refI (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))),
    fun c => refJ (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))),
    fun c => refW (hdot (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2))), kernel_run m g, ?_⟩
  refine (θ_run _ _ _).mono (fun r h c => ?_) (reference_run m' g')
  obtain ⟨h0, h1, h2, h3, h4, h5, h6, hr⟩ := h c
  obtain ⟨a0, a1, a2⟩ := hagree c
  rw [a0, a1] at h0
  rw [a0, a1, a2] at h1 h2 h3 h4 h5 h6
  exact ⟨h0, h1, h2, h3, h4, h5, h6, hr⟩

end Cert.Proof.Proj

end
-- ==== Proof.Conv.Ref.lean ====
/- The convolution module's second half: what each array of the reference holds at an entry. -/
module

public import proofs.«01_k».proof.Proof.Gen.ConvReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Conv

/-- Row `n` of the sequence with thirty rows of zeros before it. -/
def row (U : FVec Ideal ⟨3, ![16, 2176, 1024]⟩ .f32) (b : Fin 16) (n : ℕ) (k : Fin 1024) : EReal :=
  if h : 30 ≤ n ∧ n < 2094 then U (ix3 b ⟨n - 30, by omega⟩ k) else 0

/-- Tap `j` of the depthwise convolution, over rows `o`, `o + 1`, …; zero from the thirty-first on. -/
def tap (w : FVec Ideal ⟨2, ![31, 1024]⟩ .f32) (R : ℕ → Fin 1024 → EReal) (o : ℕ) (k : Fin 1024) (j : ℕ) : EReal :=
  if h : j < 31 then w (ix2 ⟨j, h⟩ k) * R (j + o) k else 0

theorem tap_of (w : FVec Ideal ⟨2, ![31, 1024]⟩ .f32) (R : ℕ → Fin 1024 → EReal) (o : ℕ) (k : Fin 1024) (j : ℕ) (h : j < 31) :
    tap w R o k j = w (ix2 ⟨j, h⟩ k) * R (j + o) k := dif_pos h

/-- The depthwise convolution at row `o`. -/
def conv (w : FVec Ideal ⟨2, ![31, 1024]⟩ .f32) (B : FVec Ideal ⟨1, ![1024]⟩ .f32) (R : ℕ → Fin 1024 → EReal) (o : ℕ)
    (k : Fin 1024) : EReal :=
  B (ix1 k) + ∑ j ∈ Finset.range 31, tap w R o k j

/-- The mean over the features. -/
def mean (f : Fin 1024 → EReal) : EReal := Ideal.div (∑ x, f x) (Ideal.ofBits .f32 0x44800000#32)

/-- A LayerNorm, at a feature. -/
def norm (f g b : Fin 1024 → EReal) (k : Fin 1024) : EReal :=
  (f k - mean f) * Ideal.rsqrt (mean (fun x => (f x - mean f) * (f x - mean f)) + Ideal.ofBits .f32 0x3727C5AC#32) * g k + b k

/-- The scaled input plus the product of the swish of `f` with `w` and its bias, at a feature. -/
def sum2 (h f : Fin 1024 → EReal) (w : FVec Ideal ⟨2, ![1024, 1024]⟩ .f32) (b : Fin 1024 → EReal) (k : Fin 1024) : EReal :=
  Ideal.ofBits .f32 0x3FB504F3#32 * h k + (∑ x, f x * Ideal.div 1 (1 + Ideal.exp (-f x)) * w (ix2 x k) + b k)

open Cert.ConvReferenceIdeal Cert.ConvReferenceIdeal.Gen Cert.ConvReferenceIdeal.Value

variable (V0 : Valuation τ sig (Elt Ideal))

/-- The arguments, each at its own type. -/
abbrev aU : FVec Ideal S16x2176x1024 .f32 := V0 (Proc.devRef .tc main_arg0)
abbrev aH : FVec Ideal S16x2176x1024 .f32 := V0 (Proc.devRef .tc main_arg1)
abbrev aW : FVec Ideal S31x1024 .f32 := V0 (Proc.devRef .tc main_arg2)
abbrev aB : FVec Ideal S1024 .f32 := V0 (Proc.devRef .tc main_arg3)
abbrev aLg : FVec Ideal S1024 .f32 := V0 (Proc.devRef .tc main_arg4)
abbrev aLb : FVec Ideal S1024 .f32 := V0 (Proc.devRef .tc main_arg5)
abbrev aW2 : FVec Ideal S1024x1024 .f32 := V0 (Proc.devRef .tc main_arg6)
abbrev aB2 : FVec Ideal S1024 .f32 := V0 (Proc.devRef .tc main_arg7)
abbrev aG : FVec Ideal S1024 .f32 := V0 (Proc.devRef .tc main_arg8)
abbrev aGb : FVec Ideal S1024 .f32 := V0 (Proc.devRef .tc main_arg9)

/-- The sequence in front of which thirty rows of zeros stand. -/
theorem v3_at (b : Fin 16) (n : Fin 2094) (k : Fin 1024) :
    res_main_v3 V0 (ix3 b n k) = row (aU V0) b n k := by
  pointwise [res_main_v3]
  unfold row
  split
  · rw [dif_neg (by omega)]
  · rw [dif_pos (by omega)]

theorem v75_at (b : Fin 16) (o : Fin 2064) (k : Fin 1024) :
    res_main_v75 V0 (ix3 b o k) = aB V0 (ix1 k)
      + ∑ j ∈ Finset.range 10, tap (aW V0) (row (aU V0) b) o k j := by
  simp only [Finset.sum_range_succ, Finset.sum_range_zero, zero_add, tap_of, Nat.reduceLT]
  pointwise [res_main_v75, v3_at]
  simp only [← add_assoc]

theorem v152_at (b : Fin 16) (o : Fin 2064) (k : Fin 1024) :
    res_main_v152 V0 (ix3 b o k) = aB V0 (ix1 k)
      + ∑ j ∈ Finset.range 21, tap (aW V0) (row (aU V0) b) o k j := by
  simp only [Finset.sum_range_succ _ 10, Finset.sum_range_succ _ 11, Finset.sum_range_succ _ 12, Finset.sum_range_succ _ 13, Finset.sum_range_succ _ 14,
    Finset.sum_range_succ _ 15, Finset.sum_range_succ _ 16, Finset.sum_range_succ _ 17, Finset.sum_range_succ _ 18, Finset.sum_range_succ _ 19,
    Finset.sum_range_succ _ 20, ← add_assoc, tap_of, Nat.reduceLT, ← v75_at]
  pointwise [res_main_v152, v3_at]

theorem v222_at (b : Fin 16) (o : Fin 2064) (k : Fin 1024) :
    res_main_v222 V0 (ix3 b o k) = conv (aW V0) (aB V0) (row (aU V0) b) o k := by
  unfold conv
  simp only [Finset.sum_range_succ _ 21, Finset.sum_range_succ _ 22, Finset.sum_range_succ _ 23, Finset.sum_range_succ _ 24,
    Finset.sum_range_succ _ 25, Finset.sum_range_succ _ 26, Finset.sum_range_succ _ 27, Finset.sum_range_succ _ 28, Finset.sum_range_succ _ 29,
    Finset.sum_range_succ _ 30, ← add_assoc, tap_of, Nat.reduceLT, ← v152_at]
  pointwise [res_main_v222, v3_at]

/-- The convolution's row. -/
abbrev cv (b : Fin 16) (o : ℕ) : Fin 1024 → EReal := conv (aW V0) (aB V0) (row (aU V0) b) o

theorem v226_at (b : Fin 16) (o : Fin 2064) (z : Fin 1) : res_main_v226 V0 (ix3 b o z) = mean (cv V0 b o) := by
  pointwise [res_main_v226, v222_at]
  rfl

theorem v228_at (b : Fin 16) (o : Fin 2064) (k : Fin 1024) : res_main_v228 V0 (ix3 b o k) = cv V0 b o k - mean (cv V0 b o) := by
  pointwise [res_main_v228, v222_at, v226_at]

/-- Its LayerNorm. -/
abbrev ln (b : Fin 16) (o : ℕ) : Fin 1024 → EReal :=
  norm (cv V0 b o) (fun k => aLg V0 (ix1 k)) (fun k => aLb V0 (ix1 k))

theorem v246_at (b : Fin 16) (o : Fin 2064) (k : Fin 1024) : res_main_v246 V0 (ix3 b o k) = ln V0 b o k := by
  pointwise [res_main_v246, v222_at, v226_at, v228_at]
  rfl

/-- What the last LayerNorm is applied to. -/
abbrev rs (b : Fin 16) (o : Fin 2064) : Fin 1024 → EReal :=
  sum2 (fun k => aH V0 (ix3 b ⟨o, by omega⟩ k)) (ln V0 b o) (aW2 V0) (fun k => aB2 V0 (ix1 k))

theorem v254_at (b : Fin 16) (o : Fin 2064) (k : Fin 1024) : res_main_v254 V0 (ix3 b o k) = rs V0 b o k := by
  pointwise [res_main_v254, v246_at]
  rfl

theorem v258_at (b : Fin 16) (o : Fin 2064) (z : Fin 1) : res_main_v258 V0 (ix3 b o z) = mean (rs V0 b o) := by
  pointwise [res_main_v258, v254_at]
  rfl

theorem v260_at (b : Fin 16) (o : Fin 2064) (k : Fin 1024) : res_main_v260 V0 (ix3 b o k) = rs V0 b o k - mean (rs V0 b o) := by
  pointwise [res_main_v260, v254_at, v258_at]

/-- The reference's result over the device's contents. -/
abbrev result : FVec Ideal S16x2048x1024 .f32 :=
  extractStridedSlice S16x2048x1024 ![0, 16, 0] (addf (mulf (mulf (subf (res_main_v254 V0) (broadcastInDim S16x2064x1024 ![0, 1, 2] bcast_S16x2064x1_S16x2064x1024_0_1_2 (res_main_v258 V0))) (broadcastInDim S16x2064x1024 ![0, 1, 2] bcast_S16x2064x1_S16x2064x1024_0_1_2 (Host.rsqrt (addf (Host.divf (broadcastInDim S16x2064x1 ![0, 1] bcast_S16x2064_S16x2064x1_0_1 (Host.reduceAdd (mulf (res_main_v260 V0) (res_main_v260 V0)) (constant S_ .f32 0x00000000#32) reducesTo_S16x2064x1024_S16x2064_d2 h_S_)) (broadcastInDim S16x2064x1 ![] bcast_S_S16x2064x1 (constant S_ .f32 0x44800000#32))) (broadcastInDim S16x2064x1 ![] bcast_S_S16x2064x1 (constant S_ .f32 0x3727C5AC#32)))))) (broadcastInDim S16x2064x1024 ![0, 1, 2] bcast_S1x1x1024_S16x2064x1024_0_1_2 (broadcastInDim S1x1x1024 ![2] bcast_S1024_S1x1x1024_2 (aG V0)))) (broadcastInDim S16x2064x1024 ![0, 1, 2] bcast_S1x1x1024_S16x2064x1024_0_1_2 (broadcastInDim S1x1x1024 ![2] bcast_S1024_S1x1x1024_2 (aGb V0)))) slices_S16x2064x1024_S16x2048x1024_0_16_0

/-- The result at an entry, over the arguments. -/
def out (U H : FVec Ideal ⟨3, ![16, 2176, 1024]⟩ .f32) (W : FVec Ideal ⟨2, ![31, 1024]⟩ .f32) (B Lg Lb : FVec Ideal ⟨1, ![1024]⟩ .f32)
    (W2 : FVec Ideal ⟨2, ![1024, 1024]⟩ .f32) (B2 G Gb : FVec Ideal ⟨1, ![1024]⟩ .f32) (b : Fin 16) (p : Fin 2048) (k : Fin 1024) :
    EReal :=
  norm (sum2 (fun k => H (ix3 b ⟨16 + p, by omega⟩ k))
      (norm (conv W B (row U b) (16 + p)) (fun k => Lg (ix1 k)) (fun k => Lb (ix1 k))) W2 (fun k => B2 (ix1 k)))
    (fun k => G (ix1 k)) (fun k => Gb (ix1 k)) k

theorem result_at (b : Fin 16) (p : Fin 2048) (k : Fin 1024) :
    result V0 (ix3 b p k)
      = out (aU V0) (aH V0) (aW V0) (aB V0) (aLg V0) (aLb V0) (aW2 V0) (aB2 V0) (aG V0) (aGb V0) b p k := by
  pointwise [result, v254_at, v258_at, v260_at]
  rfl

end Cert.Proof.Conv

end
-- ==== Proof.Conv.Taps.lean ====
/- The convolution module's second half: the kernel's sum of taps. A block's rows and their two halos are laid out one after another, and seven shifted
   copies are kept; whichever copy a tap reads, it reads the row that the reference's tap reads. -/
module

public import proofs.«01_k».proof.Proof.Conv.Ref
public import proofs.«01_k».proof.Proof.Gen.ConvKernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Conv

open Cert.ConvKernelIdeal Cert.ConvKernelIdeal.Gen

/-- A row of the taps' weights, loaded. -/
theorem w_at (a : Memref sig .tc .vmem S31x1024 .f32) (ha : a.IsWhole) (x : Vec Ideal S31x1024 .f32) (j : ℕ) (hj : j < 31)
    (inb : ∀ d, (![j, 0] : Fin 2 → ℕ) d + S1x1024.size d ≤ S31x1024.size d) (z : Fin 1) (k : Fin 1024) :
    View.readAt (Elt Ideal) a.view (Rect.unit (s := S31x1024) ![j, 0] S1x1024.size inb).toLoadRect (ha.unread x) (ix2 z k) = x (ix2 ⟨j, hj⟩ k) := by
  rw [View.readAt_eq_ld, Memref.IsWhole.read_unread]
  refine congrArg x (funext fun d => ?_)
  fin_cases d
  · exact Fin.ext (by have := z.isLt; show j + 1 * z.val = j; omega)
  · exact Fin.ext (by show 0 + 1 * k.val = k.val; omega)

variable (c : Dev nD) (i : grid0.Coords)
  (arg2 : Memref sig .tc .vmem S1x512x1024 .f32) (harg2 : arg2.IsWhole)
  (arg3 : Memref sig .tc .vmem S1x1x16x1024 .f32) (harg3 : arg3.IsWhole)
  (arg4 : Memref sig .tc .vmem S1x1x16x1024 .f32) (harg4 : arg4.IsWhole)
  (arg7 : Memref sig .tc .vmem S31x1024 .f32) (harg7 : arg7.IsWhole)
  (arg8 : Memref sig .tc .vmem S1x1024 .f32) (harg8 : arg8.IsWhole)
  (arg16 : Memref sig .tc .vmem S544x1024 .f32) (arg17 : Memref sig .tc .vmem S7x536x1024 .f32)
  (x0 : Vec Ideal S1x512x1024 .f32) (x1 x2 : Vec Ideal S1x1x16x1024 .f32) (x5 : Vec Ideal S31x1024 .f32) (x6 : Vec Ideal S1x1024 .f32)
  (R : ℕ → Fin 1024 → EReal)

/-- Rows `0` to `543` of `R`. -/
def stack (R : ℕ → Fin 1024 → EReal) : Vec Ideal S544x1024 .f32 := fun y => R (y 0) (y 1)

/-- The block and its halos are rows `0` to `543` of `R`. -/
structure Rows : Prop where
  lo : ∀ (e : Fin 16) (k : Fin 1024), k0_pay2 i x1 (ix2 e k) = R e k
  mid : ∀ (e : Fin 512) (k : Fin 1024), x0 (ix3 0 e k) = R (16 + e) k
  hi : ∀ (e : Fin 16) (k : Fin 1024), x2 (ix4 0 0 e k) = R (528 + e) k

/-- The three stores cover the first scratch. -/
theorem ext_cover (y : S544x1024.Idx) : ∃ p ∈ kernelRun0_A.sl.HS0_3 c i arg2 harg2 arg3 harg3 arg4 harg4 x0 x1 x2, y ∈ p.1.set := by
  unfold kernelRun0_A.sl.HS0_3
  have b0 : (y 0).val < 544 := (y 0).isLt
  have b1 : (y 1).val < 1024 := (y 1).isLt
  by_cases h1 : 528 ≤ (y 0).val
  · refine ⟨_, List.mem_cons_self, ?_⟩
    refine Rect.mem_set_unit (inb := inb_S544x1024_S16x1024_528_0).mpr fun a => ?_
    fin_cases a
    · exact ⟨h1, by show (y 0).val < 528 + 16; omega⟩
    · exact ⟨Nat.zero_le _, by show (y 1).val < 0 + 1024; omega⟩
  by_cases h2 : 16 ≤ (y 0).val
  · refine ⟨_, List.mem_cons_of_mem _ List.mem_cons_self, ?_⟩
    refine Rect.mem_set_unit (inb := inb_S544x1024_S512x1024_16_0).mpr fun a => ?_
    fin_cases a
    · exact ⟨h2, by show (y 0).val < 16 + 512; omega⟩
    · exact ⟨Nat.zero_le _, by show (y 1).val < 0 + 1024; omega⟩
  · refine ⟨_, List.mem_cons_of_mem _ (List.mem_cons_of_mem _ List.mem_cons_self), ?_⟩
    refine Rect.mem_set_unit (inb := inb_S544x1024_S16x1024_0_0).mpr fun a => ?_
    fin_cases a
    · exact ⟨Nat.zero_le _, by show (y 0).val < 0 + 16; omega⟩
    · exact ⟨Nat.zero_le _, by show (y 1).val < 0 + 1024; omega⟩

/-- A load of rows `o`, `o + 1`, … of slab `s` of the second scratch, just stored. -/
theorem slab_at (s o : ℕ) (ho : o ≤ 24) (inb : ∀ d, (![s, o, 0] : Fin 3 → ℕ) d + S1x512x1024.size d ≤ S7x536x1024.size d)
    (inb' : ∀ d, (![s, 0, 0] : Fin 3 → ℕ) d + S1x536x1024.size d ≤ S7x536x1024.size d) (pay : Vec Ideal S1x536x1024 .f32)
    (L : List (View.Piece (Elt Ideal) S7x536x1024 .f32)) (z : Fin 1) (y : Fin 512) (k : Fin 1024) :
    arg17.view.readCov (⟨Rect.unit (s := S7x536x1024) ![s, 0, 0] S1x536x1024.size inb', pay⟩ :: L)
      (Rect.unit (s := S7x536x1024) ![s, o, 0] S1x512x1024.size inb).toLoadRect (ix3 z y k) = pay (ix3 0 ⟨o + y, by omega⟩ k) := by
  rw [View.readCov_eq_canon']
  refine (congrArg (View.canon _) (funext fun d => ?_)).trans
    (View.canon_cons_emb (Val := Elt Ideal) (e := .f32) (Rect.unit (s := S7x536x1024) ![s, 0, 0] S1x536x1024.size inb') pay L
      (ix3 (0 : Fin 1) (⟨o + y, by omega⟩ : Fin 536) k))
  fin_cases d
  · exact Fin.ext (by have := z.isLt; show s + 1 * z.val = s + 1 * 0; omega)
  · exact Fin.ext (by show o + 1 * y.val = 0 + 1 * (o + y.val); omega)
  · rfl

variable {i x0 x1 x2 R} (h : Rows i x0 x1 x2 R)
include h

/-- What the stores leave in the first scratch. -/
theorem ext_at (y : S544x1024.Idx) :
    View.canon (kernelRun0_A.sl.HS0_3 c i arg2 harg2 arg3 harg3 arg4 harg4 x0 x1 x2) y = R (y 0) (y 1) := by
  have hp : View.PiecesOf (Val := Elt Ideal) (e := .f32) (stack R)
      (kernelRun0_A.sl.HS0_3 c i arg2 harg2 arg3 harg3 arg4 harg4 x0 x1 x2) := by
    unfold kernelRun0_A.sl.HS0_3
    refine ⟨fun x => ?_, fun x => ?_, fun x => ?_, trivial⟩
    · have e := h.hi (x 0) (x 1)
      frame_out
      pointwise [k0_pay4]
      exact e.trans (congrArg₂ R (by show 528 + (x 0).val = 528 + 1 * (x 0).val; omega) (Fin.ext (by show (x 1).val = 0 + 1 * (x 1).val; omega)))
    · have e := h.mid (x 0) (x 1)
      frame_out
      pointwise [k0_pay3]
      exact e.trans (congrArg₂ R (by show 16 + (x 0).val = 16 + 1 * (x 0).val; omega) (Fin.ext (by show (x 1).val = 0 + 1 * (x 1).val; omega)))
    · show k0_pay2 (F := Ideal) i _ x = R _ _
      have e := h.lo (x 0) (x 1)
      frame_out
      exact (congrArg (k0_pay2 i x1) (eq_ix2 x)).trans (e.trans (congrArg₂ R (by show (x 0).val = 0 + 1 * (x 0).val; omega) (Fin.ext (by show (x 1).val = 0 + 1 * (x 1).val; omega))))
  exact View.canon_apply_of_pieces (Val := Elt Ideal) (e := .f32) (stack R) _ hp.mem y (ext_cover c i arg2 harg2 arg3 harg3 arg4 harg4 x0 x1 x2 y)

/-- A load of 512 rows from the first scratch. -/
theorem load512_at (o : ℕ) (inb : ∀ d, (![o, 0] : Fin 2 → ℕ) d + S512x1024.size d ≤ S544x1024.size d) (y : Fin 512) (k : Fin 1024) :
    arg16.view.readCov (kernelRun0_A.sl.HS0_3 c i arg2 harg2 arg3 harg3 arg4 harg4 x0 x1 x2)
      (Rect.unit (s := S544x1024) ![o, 0] S512x1024.size inb).toLoadRect (ix2 y k) = R (o + y) k := by
  rw [View.readCov_eq_canon']
  refine (ext_at c arg2 harg2 arg3 harg3 arg4 harg4 h _).trans ?_
  refine congrArg₂ R (by show o + 1 * y.val = _; omega) (Fin.ext (by show 0 + 1 * k.val = k.val; omega))

/-- A load of 536 rows from the first scratch. -/
theorem load536_at (o : ℕ) (inb : ∀ d, (![o, 0] : Fin 2 → ℕ) d + S536x1024.size d ≤ S544x1024.size d) (y : Fin 536) (k : Fin 1024) :
    arg16.view.readCov (kernelRun0_A.sl.HS0_3 c i arg2 harg2 arg3 harg3 arg4 harg4 x0 x1 x2)
      (Rect.unit (s := S544x1024) ![o, 0] S536x1024.size inb).toLoadRect (ix2 y k) = R (o + y) k := by
  rw [View.readCov_eq_canon']
  refine (ext_at c arg2 harg2 arg3 harg3 arg4 harg4 h _).trans ?_
  refine congrArg₂ R (by show o + 1 * y.val = _; omega) (Fin.ext (by show 0 + 1 * k.val = k.val; omega))

theorem kv23_at (y : Fin 512) (k : Fin 1024) :
    kernelRun0_A.sl.v23 c i arg2 harg2 arg3 harg3 arg4 harg4 arg16 x0 x1 x2 (ix2 y k) = R (8 + y) k := by
  unfold kernelRun0_A.sl.v23
  exact load512_at c arg2 harg2 arg3 harg3 arg4 harg4 arg16 h 8 _ y k

theorem kv28_at (y : Fin 512) (k : Fin 1024) :
    kernelRun0_A.sl.v28 c i arg2 harg2 arg3 harg3 arg4 harg4 arg16 x0 x1 x2 (ix2 y k) = R (16 + y) k := by
  unfold kernelRun0_A.sl.v28
  exact load512_at c arg2 harg2 arg3 harg3 arg4 harg4 arg16 h 16 _ y k

theorem kv33_at (y : Fin 512) (k : Fin 1024) :
    kernelRun0_A.sl.v33 c i arg2 harg2 arg3 harg3 arg4 harg4 arg16 x0 x1 x2 (ix2 y k) = R (24 + y) k := by
  unfold kernelRun0_A.sl.v33
  exact load512_at c arg2 harg2 arg3 harg3 arg4 harg4 arg16 h 24 _ y k

theorem kv38_at (y : Fin 512) (k : Fin 1024) :
    kernelRun0_A.sl.v38 c i arg2 harg2 arg3 harg3 arg4 harg4 arg16 x0 x1 x2 (ix2 y k) = R (32 + y) k := by
  unfold kernelRun0_A.sl.v38
  exact load512_at c arg2 harg2 arg3 harg3 arg4 harg4 arg16 h 32 _ y k

theorem kv43_at (y : Fin 536) (k : Fin 1024) :
    kernelRun0_A.sl.v43 c i arg2 harg2 arg3 harg3 arg4 harg4 arg16 x0 x1 x2 (ix2 y k) = R (1 + y) k := by
  unfold kernelRun0_A.sl.v43
  exact load536_at c arg2 harg2 arg3 harg3 arg4 harg4 arg16 h 1 _ y k

theorem kv65_at (y : Fin 536) (k : Fin 1024) :
    kernelRun0_A.sl.v65 c i arg2 harg2 arg3 harg3 arg4 harg4 arg16 x0 x1 x2 (ix2 y k) = R (2 + y) k := by
  unfold kernelRun0_A.sl.v65
  exact load536_at c arg2 harg2 arg3 harg3 arg4 harg4 arg16 h 2 _ y k

theorem kv93_at (y : Fin 536) (k : Fin 1024) :
    kernelRun0_A.sl.v93 c i arg2 harg2 arg3 harg3 arg4 harg4 arg16 x0 x1 x2 (ix2 y k) = R (3 + y) k := by
  unfold kernelRun0_A.sl.v93
  exact load536_at c arg2 harg2 arg3 harg3 arg4 harg4 arg16 h 3 _ y k

theorem kv121_at (y : Fin 536) (k : Fin 1024) :
    kernelRun0_A.sl.v121 c i arg2 harg2 arg3 harg3 arg4 harg4 arg16 x0 x1 x2 (ix2 y k) = R (4 + y) k := by
  unfold kernelRun0_A.sl.v121
  exact load536_at c arg2 harg2 arg3 harg3 arg4 harg4 arg16 h 4 _ y k

theorem kv149_at (y : Fin 536) (k : Fin 1024) :
    kernelRun0_A.sl.v149 c i arg2 harg2 arg3 harg3 arg4 harg4 arg16 x0 x1 x2 (ix2 y k) = R (5 + y) k := by
  unfold kernelRun0_A.sl.v149
  exact load536_at c arg2 harg2 arg3 harg3 arg4 harg4 arg16 h 5 _ y k

theorem kv177_at (y : Fin 536) (k : Fin 1024) :
    kernelRun0_A.sl.v177 c i arg2 harg2 arg3 harg3 arg4 harg4 arg16 x0 x1 x2 (ix2 y k) = R (6 + y) k := by
  unfold kernelRun0_A.sl.v177
  exact load536_at c arg2 harg2 arg3 harg3 arg4 harg4 arg16 h 6 _ y k

theorem kv205_at (y : Fin 536) (k : Fin 1024) :
    kernelRun0_A.sl.v205 c i arg2 harg2 arg3 harg3 arg4 harg4 arg16 x0 x1 x2 (ix2 y k) = R (7 + y) k := by
  unfold kernelRun0_A.sl.v205
  exact load536_at c arg2 harg2 arg3 harg3 arg4 harg4 arg16 h 7 _ y k

/-- Slab 0 as stored. -/
theorem slab0_at (z : Fin 1) (y : Fin 536) (k : Fin 1024) :
    k0_pay6 (kernelRun0_A.sl.v43 c i arg2 harg2 arg3 harg3 arg4 harg4 arg16 x0 x1 x2) (ix3 z y k) = R (1 + y) k := by
  refine Eq.trans ?_ (kv43_at c arg2 harg2 arg3 harg3 arg4 harg4 arg16 h y k)
  pointwise [k0_pay6]

theorem kv47_at (z : Fin 1) (y : Fin 512) (k : Fin 1024) :
    kernelRun0_A.sl.v47 c i arg2 harg2 arg3 harg3 arg4 harg4 arg16 arg17 x0 x1 x2 (ix3 z y k) = R (1 + (8 + y)) k := by
  unfold kernelRun0_A.sl.v47 kernelRun0_A.sl.HS1_1
  exact (slab_at arg17 0 8 (by decide) _ _ _ _ z y k).trans (slab0_at c arg2 harg2 arg3 harg3 arg4 harg4 arg16 h 0 _ k)

theorem kv53_at (z : Fin 1) (y : Fin 512) (k : Fin 1024) :
    kernelRun0_A.sl.v53 c i arg2 harg2 arg3 harg3 arg4 harg4 arg16 arg17 x0 x1 x2 (ix3 z y k) = R (1 + (16 + y)) k := by
  unfold kernelRun0_A.sl.v53 kernelRun0_A.sl.HS1_1
  exact (slab_at arg17 0 16 (by decide) _ _ _ _ z y k).trans (slab0_at c arg2 harg2 arg3 harg3 arg4 harg4 arg16 h 0 _ k)

theorem kv59_at (z : Fin 1) (y : Fin 512) (k : Fin 1024) :
    kernelRun0_A.sl.v59 c i arg2 harg2 arg3 harg3 arg4 harg4 arg16 arg17 x0 x1 x2 (ix3 z y k) = R (1 + (24 + y)) k := by
  unfold kernelRun0_A.sl.v59 kernelRun0_A.sl.HS1_1
  exact (slab_at arg17 0 24 (by decide) _ _ _ _ z y k).trans (slab0_at c arg2 harg2 arg3 harg3 arg4 harg4 arg16 h 0 _ k)

/-- Slab 1 as stored. -/
theorem slab1_at (z : Fin 1) (y : Fin 536) (k : Fin 1024) :
    k0_pay8 (kernelRun0_A.sl.v65 c i arg2 harg2 arg3 harg3 arg4 harg4 arg16 x0 x1 x2) (ix3 z y k) = R (2 + y) k := by
  refine Eq.trans ?_ (kv65_at c arg2 harg2 arg3 harg3 arg4 harg4 arg16 h y k)
  pointwise [k0_pay8]

theorem kv69_at (z : Fin 1) (y : Fin 512) (k : Fin 1024) :
    kernelRun0_A.sl.v69 c i arg2 harg2 arg3 harg3 arg4 harg4 arg16 arg17 x0 x1 x2 (ix3 z y k) = R (2 + (0 + y)) k := by
  unfold kernelRun0_A.sl.v69 kernelRun0_A.sl.HS1_2
  exact (slab_at arg17 1 0 (by decide) _ _ _ _ z y k).trans (slab1_at c arg2 harg2 arg3 harg3 arg4 harg4 arg16 h 0 _ k)

theorem kv75_at (z : Fin 1) (y : Fin 512) (k : Fin 1024) :
    kernelRun0_A.sl.v75 c i arg2 harg2 arg3 harg3 arg4 harg4 arg16 arg17 x0 x1 x2 (ix3 z y k) = R (2 + (8 + y)) k := by
  unfold kernelRun0_A.sl.v75 kernelRun0_A.sl.HS1_2
  exact (slab_at arg17 1 8 (by decide) _ _ _ _ z y k).trans (slab1_at c arg2 harg2 arg3 harg3 arg4 harg4 arg16 h 0 _ k)

theorem kv81_at (z : Fin 1) (y : Fin 512) (k : Fin 1024) :
    kernelRun0_A.sl.v81 c i arg2 harg2 arg3 harg3 arg4 harg4 arg16 arg17 x0 x1 x2 (ix3 z y k) = R (2 + (16 + y)) k := by
  unfold kernelRun0_A.sl.v81 kernelRun0_A.sl.HS1_2
  exact (slab_at arg17 1 16 (by decide) _ _ _ _ z y k).trans (slab1_at c arg2 harg2 arg3 harg3 arg4 harg4 arg16 h 0 _ k)

theorem kv87_at (z : Fin 1) (y : Fin 512) (k : Fin 1024) :
    kernelRun0_A.sl.v87 c i arg2 harg2 arg3 harg3 arg4 harg4 arg16 arg17 x0 x1 x2 (ix3 z y k) = R (2 + (24 + y)) k := by
  unfold kernelRun0_A.sl.v87 kernelRun0_A.sl.HS1_2
  exact (slab_at arg17 1 24 (by decide) _ _ _ _ z y k).trans (slab1_at c arg2 harg2 arg3 harg3 arg4 harg4 arg16 h 0 _ k)

/-- Slab 2 as stored. -/
theorem slab2_at (z : Fin 1) (y : Fin 536) (k : Fin 1024) :
    k0_pay11 (kernelRun0_A.sl.v93 c i arg2 harg2 arg3 harg3 arg4 harg4 arg16 x0 x1 x2) (ix3 z y k) = R (3 + y) k := by
  refine Eq.trans ?_ (kv93_at c arg2 harg2 arg3 harg3 arg4 harg4 arg16 h y k)
  pointwise [k0_pay11]

theorem kv97_at (z : Fin 1) (y : Fin 512) (k : Fin 1024) :
    kernelRun0_A.sl.v97 c i arg2 harg2 arg3 harg3 arg4 harg4 arg16 arg17 x0 x1 x2 (ix3 z y k) = R (3 + (0 + y)) k := by
  unfold kernelRun0_A.sl.v97 kernelRun0_A.sl.HS1_3
  exact (slab_at arg17 2 0 (by decide) _ _ _ _ z y k).trans (slab2_at c arg2 harg2 arg3 harg3 arg4 harg4 arg16 h 0 _ k)

theorem kv103_at (z : Fin 1) (y : Fin 512) (k : Fin 1024) :
    kernelRun0_A.sl.v103 c i arg2 harg2 arg3 harg3 arg4 harg4 arg16 arg17 x0 x1 x2 (ix3 z y k) = R (3 + (8 + y)) k := by
  unfold kernelRun0_A.sl.v103 kernelRun0_A.sl.HS1_3
  exact (slab_at arg17 2 8 (by decide) _ _ _ _ z y k).trans (slab2_at c arg2 harg2 arg3 harg3 arg4 harg4 arg16 h 0 _ k)

theorem kv109_at (z : Fin 1) (y : Fin 512) (k : Fin 1024) :
    kernelRun0_A.sl.v109 c i arg2 harg2 arg3 harg3 arg4 harg4 arg16 arg17 x0 x1 x2 (ix3 z y k) = R (3 + (16 + y)) k := by
  unfold kernelRun0_A.sl.v109 kernelRun0_A.sl.HS1_3
  exact (slab_at arg17 2 16 (by decide) _ _ _ _ z y k).trans (slab2_at c arg2 harg2 arg3 harg3 arg4 harg4 arg16 h 0 _ k)

theorem kv115_at (z : Fin 1) (y : Fin 512) (k : Fin 1024) :
    kernelRun0_A.sl.v115 c i arg2 harg2 arg3 harg3 arg4 harg4 arg16 arg17 x0 x1 x2 (ix3 z y k) = R (3 + (24 + y)) k := by
  unfold kernelRun0_A.sl.v115 kernelRun0_A.sl.HS1_3
  exact (slab_at arg17 2 24 (by decide) _ _ _ _ z y k).trans (slab2_at c arg2 harg2 arg3 harg3 arg4 harg4 arg16 h 0 _ k)

/-- Slab 3 as stored. -/
theorem slab3_at (z : Fin 1) (y : Fin 536) (k : Fin 1024) :
    k0_pay13 (kernelRun0_A.sl.v121 c i arg2 harg2 arg3 harg3 arg4 harg4 arg16 x0 x1 x2) (ix3 z y k) = R (4 + y) k := by
  refine Eq.trans ?_ (kv121_at c arg2 harg2 arg3 harg3 arg4 harg4 arg16 h y k)
  pointwise [k0_pay13]

theorem kv125_at (z : Fin 1) (y : Fin 512) (k : Fin 1024) :
    kernelRun0_A.sl.v125 c i arg2 harg2 arg3 harg3 arg4 harg4 arg16 arg17 x0 x1 x2 (ix3 z y k) = R (4 + (0 + y)) k := by
  unfold kernelRun0_A.sl.v125 kernelRun0_A.sl.HS1_4
  exact (slab_at arg17 3 0 (by decide) _ _ _ _ z y k).trans (slab3_at c arg2 harg2 arg3 harg3 arg4 harg4 arg16 h 0 _ k)

theorem kv131_at (z : Fin 1) (y : Fin 512) (k : Fin 1024) :
    kernelRun0_A.sl.v131 c i arg2 harg2 arg3 harg3 arg4 harg4 arg16 arg17 x0 x1 x2 (ix3 z y k) = R (4 + (8 + y)) k := by
  unfold kernelRun0_A.sl.v131 kernelRun0_A.sl.HS1_4
  exact (slab_at arg17 3 8 (by decide) _ _ _ _ z y k).trans (slab3_at c arg2 harg2 arg3 harg3 arg4 harg4 arg16 h 0 _ k)

theorem kv137_at (z : Fin 1) (y : Fin 512) (k : Fin 1024) :
    kernelRun0_A.sl.v137 c i arg2 harg2 arg3 harg3 arg4 harg4 arg16 arg17 x0 x1 x2 (ix3 z y k) = R (4 + (16 + y)) k := by
  unfold kernelRun0_A.sl.v137 kernelRun0_A.sl.HS1_4
  exact (slab_at arg17 3 16 (by decide) _ _ _ _ z y k).trans (slab3_at c arg2 harg2 arg3 harg3 arg4 harg4 arg16 h 0 _ k)

theorem kv143_at (z : Fin 1) (y : Fin 512) (k : Fin 1024) :
    kernelRun0_A.sl.v143 c i arg2 harg2 arg3 harg3 arg4 harg4 arg16 arg17 x0 x1 x2 (ix3 z y k) = R (4 + (24 + y)) k := by
  unfold kernelRun0_A.sl.v143 kernelRun0_A.sl.HS1_4
  exact (slab_at arg17 3 24 (by decide) _ _ _ _ z y k).trans (slab3_at c arg2 harg2 arg3 harg3 arg4 harg4 arg16 h 0 _ k)

/-- Slab 4 as stored. -/
theorem slab4_at (z : Fin 1) (y : Fin 536) (k : Fin 1024) :
    k0_pay15 (kernelRun0_A.sl.v149 c i arg2 harg2 arg3 harg3 arg4 harg4 arg16 x0 x1 x2) (ix3 z y k) = R (5 + y) k := by
  refine Eq.trans ?_ (kv149_at c arg2 harg2 arg3 harg3 arg4 harg4 arg16 h y k)
  pointwise [k0_pay15]

theorem kv153_at (z : Fin 1) (y : Fin 512) (k : Fin 1024) :
    kernelRun0_A.sl.v153 c i arg2 harg2 arg3 harg3 arg4 harg4 arg16 arg17 x0 x1 x2 (ix3 z y k) = R (5 + (0 + y)) k := by
  unfold kernelRun0_A.sl.v153 kernelRun0_A.sl.HS1_5
  exact (slab_at arg17 4 0 (by decide) _ _ _ _ z y k).trans (slab4_at c arg2 harg2 arg3 harg3 arg4 harg4 arg16 h 0 _ k)

theorem kv159_at (z : Fin 1) (y : Fin 512) (k : Fin 1024) :
    kernelRun0_A.sl.v159 c i arg2 harg2 arg3 harg3 arg4 harg4 arg16 arg17 x0 x1 x2 (ix3 z y k) = R (5 + (8 + y)) k := by
  unfold kernelRun0_A.sl.v159 kernelRun0_A.sl.HS1_5
  exact (slab_at arg17 4 8 (by decide) _ _ _ _ z y k).trans (slab4_at c arg2 harg2 arg3 harg3 arg4 harg4 arg16 h 0 _ k)

theorem kv165_at (z : Fin 1) (y : Fin 512) (k : Fin 1024) :
    kernelRun0_A.sl.v165 c i arg2 harg2 arg3 harg3 arg4 harg4 arg16 arg17 x0 x1 x2 (ix3 z y k) = R (5 + (16 + y)) k := by
  unfold kernelRun0_A.sl.v165 kernelRun0_A.sl.HS1_5
  exact (slab_at arg17 4 16 (by decide) _ _ _ _ z y k).trans (slab4_at c arg2 harg2 arg3 harg3 arg4 harg4 arg16 h 0 _ k)

theorem kv171_at (z : Fin 1) (y : Fin 512) (k : Fin 1024) :
    kernelRun0_A.sl.v171 c i arg2 harg2 arg3 harg3 arg4 harg4 arg16 arg17 x0 x1 x2 (ix3 z y k) = R (5 + (24 + y)) k := by
  unfold kernelRun0_A.sl.v171 kernelRun0_A.sl.HS1_5
  exact (slab_at arg17 4 24 (by decide) _ _ _ _ z y k).trans (slab4_at c arg2 harg2 arg3 harg3 arg4 harg4 arg16 h 0 _ k)

/-- Slab 5 as stored. -/
theorem slab5_at (z : Fin 1) (y : Fin 536) (k : Fin 1024) :
    k0_pay17 (kernelRun0_A.sl.v177 c i arg2 harg2 arg3 harg3 arg4 harg4 arg16 x0 x1 x2) (ix3 z y k) = R (6 + y) k := by
  refine Eq.trans ?_ (kv177_at c arg2 harg2 arg3 harg3 arg4 harg4 arg16 h y k)
  pointwise [k0_pay17]

theorem kv181_at (z : Fin 1) (y : Fin 512) (k : Fin 1024) :
    kernelRun0_A.sl.v181 c i arg2 harg2 arg3 harg3 arg4 harg4 arg16 arg17 x0 x1 x2 (ix3 z y k) = R (6 + (0 + y)) k := by
  unfold kernelRun0_A.sl.v181 kernelRun0_A.sl.HS1_6
  exact (slab_at arg17 5 0 (by decide) _ _ _ _ z y k).trans (slab5_at c arg2 harg2 arg3 harg3 arg4 harg4 arg16 h 0 _ k)

theorem kv187_at (z : Fin 1) (y : Fin 512) (k : Fin 1024) :
    kernelRun0_A.sl.v187 c i arg2 harg2 arg3 harg3 arg4 harg4 arg16 arg17 x0 x1 x2 (ix3 z y k) = R (6 + (8 + y)) k := by
  unfold kernelRun0_A.sl.v187 kernelRun0_A.sl.HS1_6
  exact (slab_at arg17 5 8 (by decide) _ _ _ _ z y k).trans (slab5_at c arg2 harg2 arg3 harg3 arg4 harg4 arg16 h 0 _ k)

theorem kv193_at (z : Fin 1) (y : Fin 512) (k : Fin 1024) :
    kernelRun0_A.sl.v193 c i arg2 harg2 arg3 harg3 arg4 harg4 arg16 arg17 x0 x1 x2 (ix3 z y k) = R (6 + (16 + y)) k := by
  unfold kernelRun0_A.sl.v193 kernelRun0_A.sl.HS1_6
  exact (slab_at arg17 5 16 (by decide) _ _ _ _ z y k).trans (slab5_at c arg2 harg2 arg3 harg3 arg4 harg4 arg16 h 0 _ k)

theorem kv199_at (z : Fin 1) (y : Fin 512) (k : Fin 1024) :
    kernelRun0_A.sl.v199 c i arg2 harg2 arg3 harg3 arg4 harg4 arg16 arg17 x0 x1 x2 (ix3 z y k) = R (6 + (24 + y)) k := by
  unfold kernelRun0_A.sl.v199 kernelRun0_A.sl.HS1_6
  exact (slab_at arg17 5 24 (by decide) _ _ _ _ z y k).trans (slab5_at c arg2 harg2 arg3 harg3 arg4 harg4 arg16 h 0 _ k)

/-- Slab 6 as stored. -/
theorem slab6_at (z : Fin 1) (y : Fin 536) (k : Fin 1024) :
    k0_pay19 (kernelRun0_A.sl.v205 c i arg2 harg2 arg3 harg3 arg4 harg4 arg16 x0 x1 x2) (ix3 z y k) = R (7 + y) k := by
  refine Eq.trans ?_ (kv205_at c arg2 harg2 arg3 harg3 arg4 harg4 arg16 h y k)
  pointwise [k0_pay19]

theorem kv209_at (z : Fin 1) (y : Fin 512) (k : Fin 1024) :
    kernelRun0_A.sl.v209 c i arg2 harg2 arg3 harg3 arg4 harg4 arg16 arg17 x0 x1 x2 (ix3 z y k) = R (7 + (0 + y)) k := by
  unfold kernelRun0_A.sl.v209 kernelRun0_A.sl.HS1_7
  exact (slab_at arg17 6 0 (by decide) _ _ _ _ z y k).trans (slab6_at c arg2 harg2 arg3 harg3 arg4 harg4 arg16 h 0 _ k)

theorem kv215_at (z : Fin 1) (y : Fin 512) (k : Fin 1024) :
    kernelRun0_A.sl.v215 c i arg2 harg2 arg3 harg3 arg4 harg4 arg16 arg17 x0 x1 x2 (ix3 z y k) = R (7 + (8 + y)) k := by
  unfold kernelRun0_A.sl.v215 kernelRun0_A.sl.HS1_7
  exact (slab_at arg17 6 8 (by decide) _ _ _ _ z y k).trans (slab6_at c arg2 harg2 arg3 harg3 arg4 harg4 arg16 h 0 _ k)

theorem kv221_at (z : Fin 1) (y : Fin 512) (k : Fin 1024) :
    kernelRun0_A.sl.v221 c i arg2 harg2 arg3 harg3 arg4 harg4 arg16 arg17 x0 x1 x2 (ix3 z y k) = R (7 + (16 + y)) k := by
  unfold kernelRun0_A.sl.v221 kernelRun0_A.sl.HS1_7
  exact (slab_at arg17 6 16 (by decide) _ _ _ _ z y k).trans (slab6_at c arg2 harg2 arg3 harg3 arg4 harg4 arg16 h 0 _ k)

theorem kv227_at (z : Fin 1) (y : Fin 512) (k : Fin 1024) :
    kernelRun0_A.sl.v227 c i arg2 harg2 arg3 harg3 arg4 harg4 arg16 arg17 x0 x1 x2 (ix3 z y k) = R (7 + (24 + y)) k := by
  unfold kernelRun0_A.sl.v227 kernelRun0_A.sl.HS1_7
  exact (slab_at arg17 6 24 (by decide) _ _ _ _ z y k).trans (slab6_at c arg2 harg2 arg3 harg3 arg4 harg4 arg16 h 0 _ k)

end Cert.Proof.Conv

end
-- ==== Proof.Conv.Sum.lean ====
/- The convolution module's second half: the kernel's running sums of taps and what its other steps hold at an entry. -/
module

public import proofs.«01_k».proof.Proof.Conv.Taps

@[expose] public section

set_option maxRecDepth 16384

noncomputable section

open Idealize.ShloMosaic Idealize.ShloMosaic.TcCoe Idealize.SL.Sem
open Idealize.ShloMosaic.Pipeline (Dat)

namespace Cert.Proof.Conv

open Cert.ConvKernelIdeal Cert.ConvKernelIdeal.Gen

/-- A row vector, loaded. -/
theorem vec_at (a : Memref sig .tc .vmem S1x1024 .f32) (ha : a.IsWhole) (x : Vec Ideal S1x1024 .f32)
    (inb : ∀ d, (![0, 0] : Fin 2 → ℕ) d + S1x1024.size d ≤ S1x1024.size d) (z : Fin 1) (k : Fin 1024) :
    View.readAt (Elt Ideal) a.view (Rect.unit (s := S1x1024) ![0, 0] S1x1024.size inb).toLoadRect (ha.unread x) (ix2 z k)
      = x (ix2 z k) := by
  rw [View.readAt_eq_ld, Memref.IsWhole.read_unread]
  refine congrArg x (funext fun d => ?_)
  fin_cases d
  · exact Fin.ext (by show 0 + 1 * z.val = z.val; omega)
  · exact Fin.ext (by show 0 + 1 * k.val = k.val; omega)

/-- The activation times the second pointwise weight, with the scaled rows of `h`, less its mean. -/
theorem pay27_at (lg lb : FVec Ideal S1x1024 .f32) (d : FVec Ideal S512x1024 .f32) (r : FVec Ideal S512x1 .f32)
    (w : Vec Ideal S1024x1024 .bf16) (b : Vec Ideal S1x1024 .f32) (hm : Vec Ideal S1x496x1024 .f32) (ha : Vec Ideal S1x1x16x1024 .f32)
    (hh : Fin 1024 → EReal) (y : Fin 512) (k : Fin 1024)
    (h1 : ∀ (hy : y.val < 496) (x : Fin 1024), hm (ix3 0 ⟨y, hy⟩ x) = hh x)
    (h2 : ∀ (hy : ¬ y.val < 496) (x : Fin 1024), ha (ix4 0 0 ⟨y - 496, by omega⟩ x) = hh x) :
    k0_pay27 lg lb d r w b hm ha (ix2 y k)
      = sum2 hh (fun x => d (ix2 y x) * r (ix2 y 0) * lg (ix2 0 x) + lb (ix2 0 x)) w (fun x => b (ix2 0 x)) k
        - mean (sum2 hh (fun x => d (ix2 y x) * r (ix2 y 0) * lg (ix2 0 x) + lb (ix2 0 x)) w (fun x => b (ix2 0 x))) := by
  have e : ∀ x : Fin 1024, (if hy : y.val < 496 then hm (ix3 0 ⟨y, hy⟩ x) else ha (ix4 0 0 ⟨y - 496, by omega⟩ x)) = hh x := fun x => by
    split
    · next g => exact h1 g x
    · next g => exact h2 g x
  pointwise [k0_pay27, Ideal.logistic]
  simp only [e]
  rfl

/-- A square matrix, loaded. -/
theorem mat_eq (a : Memref sig .tc .vmem S1024x1024 .bf16) (ha : a.IsWhole) (x : Vec Ideal S1024x1024 .bf16)
    (inb : ∀ d, (![0, 0] : Fin 2 → ℕ) d + S1024x1024.size d ≤ S1024x1024.size d) :
    View.readAt (Elt Ideal) a.view (Rect.unit (s := S1024x1024) ![0, 0] S1024x1024.size inb).toLoadRect (ha.unread x) = x := by
  rw [View.readAt_eq_ld, Memref.IsWhole.read_unread]
  funext i
  refine congrArg x (funext fun d => ?_)
  fin_cases d
  · exact Fin.ext (by show 0 + 1 * (i 0).val = (i 0).val; omega)
  · exact Fin.ext (by show 0 + 1 * (i 1).val = (i 1).val; omega)

/-- Rows of the block from the sixteenth on, loaded. -/
theorem main_at (a : Memref sig .tc .vmem S1x512x1024 .f32) (ha : a.IsWhole) (x : Vec Ideal S1x512x1024 .f32)
    (inb : ∀ d, (![0, 16, 0] : Fin 3 → ℕ) d + S1x496x1024.size d ≤ S1x512x1024.size d) (z : Fin 1) (y : Fin 496) (k : Fin 1024) :
    View.readAt (Elt Ideal) a.view (Rect.unit (s := S1x512x1024) ![0, 16, 0] S1x496x1024.size inb).toLoadRect (ha.unread x) (ix3 z y k)
      = x (ix3 0 ⟨16 + y, by omega⟩ k) := by
  rw [View.readAt_eq_ld, Memref.IsWhole.read_unread]
  refine congrArg x (funext fun d => ?_)
  fin_cases d
  · exact Fin.ext (by have := z.isLt; show 0 + 1 * z.val = 0; omega)
  · exact Fin.ext (by show 16 + 1 * y.val = 16 + y.val; omega)
  · exact Fin.ext (by show 0 + 1 * k.val = k.val; omega)

/-- The rows after the block, loaded. -/
theorem after_at (a : Memref sig .tc .vmem S1x1x16x1024 .f32) (ha : a.IsWhole) (x : Vec Ideal S1x1x16x1024 .f32)
    (inb : ∀ d, (![0, 0, 0, 0] : Fin 4 → ℕ) d + S1x1x16x1024.size d ≤ S1x1x16x1024.size d) (z z' : Fin 1) (y : Fin 16) (k : Fin 1024) :
    View.readAt (Elt Ideal) a.view (Rect.unit (s := S1x1x16x1024) ![0, 0, 0, 0] S1x1x16x1024.size inb).toLoadRect (ha.unread x)
        (ix4 z z' y k)
      = x (ix4 z z' y k) := by
  rw [View.readAt_eq_ld, Memref.IsWhole.read_unread]
  refine congrArg x (funext fun d => ?_)
  fin_cases d
  · exact Fin.ext (by show 0 + 1 * z.val = z.val; omega)
  · exact Fin.ext (by show 0 + 1 * z'.val = z'.val; omega)
  · exact Fin.ext (by show 0 + 1 * y.val = y.val; omega)
  · exact Fin.ext (by show 0 + 1 * k.val = k.val; omega)

/-- The last LayerNorm's scaling. -/
theorem pay1_at (g b : FVec Ideal S1x1024 .f32) (d : FVec Ideal S512x1024 .f32) (v : FVec Ideal S512x1 .f32) (z : Fin 1) (y : Fin 512)
    (k : Fin 1024) :
    k0_pay1 g b d v (ix3 z y k)
      = d (ix2 y k) * Ideal.rsqrt (v (ix2 y 0) + Ideal.ofBits .f32 0x3727C5AC#32) * g (ix2 0 k) + b (ix2 0 k) := by
  pointwise [k0_pay1]

variable (c : Dev nD) (i : grid0.Coords)
  (arg2 : Memref sig .tc .vmem S1x512x1024 .f32) (harg2 : arg2.IsWhole)
  (arg3 : Memref sig .tc .vmem S1x1x16x1024 .f32) (harg3 : arg3.IsWhole)
  (arg4 : Memref sig .tc .vmem S1x1x16x1024 .f32) (harg4 : arg4.IsWhole)
  (arg7 : Memref sig .tc .vmem S31x1024 .f32) (harg7 : arg7.IsWhole)
  (arg8 : Memref sig .tc .vmem S1x1024 .f32) (harg8 : arg8.IsWhole)
  (arg16 : Memref sig .tc .vmem S544x1024 .f32) (arg17 : Memref sig .tc .vmem S7x536x1024 .f32)
  (x0 : Vec Ideal S1x512x1024 .f32) (x1 x2 : Vec Ideal S1x1x16x1024 .f32) (x5 : Vec Ideal S31x1024 .f32) (x6 : Vec Ideal S1x1024 .f32)
  (R : ℕ → Fin 1024 → EReal)

variable {i x0 x1 x2 R} (h : Rows i x0 x1 x2 R)
include h

theorem r_at (y : Fin 512) (k : Fin 1024) :
    kernelRun0_A.sl.r c i arg2 harg2 arg3 harg3 arg4 harg4 arg7 harg7 arg8 harg8 arg16 x0 x1 x2 x5 x6 (ix2 y k) = x6 (ix2 0 k) + tap x5 R (2 + y) k 6 := by
  unfold kernelRun0_A.sl.r
  pointwise [k0_pay5]
  rw [kv23_at c arg2 harg2 arg3 harg3 arg4 harg4 arg16 h, w_at arg7 harg7 x5 6 (by decide), vec_at arg8 harg8 x6]
  simp only [tap_of, ← Nat.add_assoc, Nat.reduceAdd, Nat.reduceLT, Nat.zero_add, zero_add]

theorem r_1_at (y : Fin 512) (k : Fin 1024) :
    kernelRun0_A.sl.r_1 c i arg2 harg2 arg3 harg3 arg4 harg4 arg7 harg7 arg8 harg8 arg16 arg17 x0 x1 x2 x5 x6 (ix2 y k)
      = kernelRun0_A.sl.r c i arg2 harg2 arg3 harg3 arg4 harg4 arg7 harg7 arg8 harg8 arg16 x0 x1 x2 x5 x6 (ix2 y k)
        + tap x5 R (2 + y) k 14 + tap x5 R (2 + y) k 22 + tap x5 R (2 + y) k 30 + tap x5 R (2 + y) k 7 + tap x5 R (2 + y) k 15 := by
  unfold kernelRun0_A.sl.r_1
  pointwise [k0_pay7]
  rw [kv28_at c arg2 harg2 arg3 harg3 arg4 harg4 arg16 h, kv33_at c arg2 harg2 arg3 harg3 arg4 harg4 arg16 h, kv38_at c arg2 harg2 arg3 harg3 arg4 harg4 arg16 h, kv47_at c arg2 harg2 arg3 harg3 arg4 harg4 arg16 arg17 h, kv53_at c arg2 harg2 arg3 harg3 arg4 harg4 arg16 arg17 h, w_at arg7 harg7 x5 14 (by decide), w_at arg7 harg7 x5 22 (by decide), w_at arg7 harg7 x5 30 (by decide), w_at arg7 harg7 x5 7 (by decide), w_at arg7 harg7 x5 15 (by decide)]
  simp only [tap_of, ← Nat.add_assoc, Nat.reduceAdd, Nat.reduceLT, Nat.zero_add, zero_add]

theorem r_2_at (y : Fin 512) (k : Fin 1024) :
    kernelRun0_A.sl.r_2 c i arg2 harg2 arg3 harg3 arg4 harg4 arg7 harg7 arg8 harg8 arg16 arg17 x0 x1 x2 x5 x6 (ix2 y k)
      = kernelRun0_A.sl.r_1 c i arg2 harg2 arg3 harg3 arg4 harg4 arg7 harg7 arg8 harg8 arg16 arg17 x0 x1 x2 x5 x6 (ix2 y k)
        + tap x5 R (2 + y) k 23 + tap x5 R (2 + y) k 0 + tap x5 R (2 + y) k 8 + tap x5 R (2 + y) k 16 := by
  unfold kernelRun0_A.sl.r_2
  pointwise [k0_pay9]
  rw [kv59_at c arg2 harg2 arg3 harg3 arg4 harg4 arg16 arg17 h, kv69_at c arg2 harg2 arg3 harg3 arg4 harg4 arg16 arg17 h, kv75_at c arg2 harg2 arg3 harg3 arg4 harg4 arg16 arg17 h, kv81_at c arg2 harg2 arg3 harg3 arg4 harg4 arg16 arg17 h, w_at arg7 harg7 x5 23 (by decide), w_at arg7 harg7 x5 0 (by decide), w_at arg7 harg7 x5 8 (by decide), w_at arg7 harg7 x5 16 (by decide)]
  simp only [tap_of, ← Nat.add_assoc, Nat.reduceAdd, Nat.reduceLT, Nat.zero_add, zero_add]

theorem r_5_at (y : Fin 512) (k : Fin 1024) :
    kernelRun0_A.sl.r_5 c i arg2 harg2 arg3 harg3 arg4 harg4 arg7 harg7 arg8 harg8 arg16 arg17 x0 x1 x2 x5 x6 (ix2 y k)
      = kernelRun0_A.sl.r_2 c i arg2 harg2 arg3 harg3 arg4 harg4 arg7 harg7 arg8 harg8 arg16 arg17 x0 x1 x2 x5 x6 (ix2 y k)
        + tap x5 R (2 + y) k 24 + tap x5 R (2 + y) k 1 + tap x5 R (2 + y) k 9 + tap x5 R (2 + y) k 17 + tap x5 R (2 + y) k 25 := by
  unfold kernelRun0_A.sl.r_5 kernelRun0_A.sl.r_3 kernelRun0_A.sl.r_4
  pointwise [k0_pay12, k0_pay10]
  rw [kv87_at c arg2 harg2 arg3 harg3 arg4 harg4 arg16 arg17 h, kv97_at c arg2 harg2 arg3 harg3 arg4 harg4 arg16 arg17 h, kv103_at c arg2 harg2 arg3 harg3 arg4 harg4 arg16 arg17 h, kv109_at c arg2 harg2 arg3 harg3 arg4 harg4 arg16 arg17 h, kv115_at c arg2 harg2 arg3 harg3 arg4 harg4 arg16 arg17 h, w_at arg7 harg7 x5 24 (by decide), w_at arg7 harg7 x5 1 (by decide), w_at arg7 harg7 x5 9 (by decide), w_at arg7 harg7 x5 17 (by decide), w_at arg7 harg7 x5 25 (by decide)]
  simp only [tap_of, ← Nat.add_assoc, Nat.reduceAdd, Nat.reduceLT, Nat.zero_add, zero_add]

theorem r_6_at (y : Fin 512) (k : Fin 1024) :
    kernelRun0_A.sl.r_6 c i arg2 harg2 arg3 harg3 arg4 harg4 arg7 harg7 arg8 harg8 arg16 arg17 x0 x1 x2 x5 x6 (ix2 y k)
      = kernelRun0_A.sl.r_5 c i arg2 harg2 arg3 harg3 arg4 harg4 arg7 harg7 arg8 harg8 arg16 arg17 x0 x1 x2 x5 x6 (ix2 y k)
        + tap x5 R (2 + y) k 2 + tap x5 R (2 + y) k 10 + tap x5 R (2 + y) k 18 + tap x5 R (2 + y) k 26 := by
  unfold kernelRun0_A.sl.r_6
  pointwise [k0_pay14]
  rw [kv125_at c arg2 harg2 arg3 harg3 arg4 harg4 arg16 arg17 h, kv131_at c arg2 harg2 arg3 harg3 arg4 harg4 arg16 arg17 h, kv137_at c arg2 harg2 arg3 harg3 arg4 harg4 arg16 arg17 h, kv143_at c arg2 harg2 arg3 harg3 arg4 harg4 arg16 arg17 h, w_at arg7 harg7 x5 2 (by decide), w_at arg7 harg7 x5 10 (by decide), w_at arg7 harg7 x5 18 (by decide), w_at arg7 harg7 x5 26 (by decide)]
  simp only [tap_of, ← Nat.add_assoc, Nat.reduceAdd, Nat.reduceLT, Nat.zero_add, zero_add]

theorem r_8_at (y : Fin 512) (k : Fin 1024) :
    kernelRun0_A.sl.r_8 c i arg2 harg2 arg3 harg3 arg4 harg4 arg7 harg7 arg8 harg8 arg16 arg17 x0 x1 x2 x5 x6 (ix2 y k)
      = kernelRun0_A.sl.r_6 c i arg2 harg2 arg3 harg3 arg4 harg4 arg7 harg7 arg8 harg8 arg16 arg17 x0 x1 x2 x5 x6 (ix2 y k)
        + tap x5 R (2 + y) k 3 + tap x5 R (2 + y) k 11 + tap x5 R (2 + y) k 19 + tap x5 R (2 + y) k 27 := by
  unfold kernelRun0_A.sl.r_8
  pointwise [k0_pay16]
  rw [kv153_at c arg2 harg2 arg3 harg3 arg4 harg4 arg16 arg17 h, kv159_at c arg2 harg2 arg3 harg3 arg4 harg4 arg16 arg17 h, kv165_at c arg2 harg2 arg3 harg3 arg4 harg4 arg16 arg17 h, kv171_at c arg2 harg2 arg3 harg3 arg4 harg4 arg16 arg17 h, w_at arg7 harg7 x5 3 (by decide), w_at arg7 harg7 x5 11 (by decide), w_at arg7 harg7 x5 19 (by decide), w_at arg7 harg7 x5 27 (by decide)]
  simp only [tap_of, ← Nat.add_assoc, Nat.reduceAdd, Nat.reduceLT, Nat.zero_add, zero_add]

theorem r_10_at (y : Fin 512) (k : Fin 1024) :
    kernelRun0_A.sl.r_10 c i arg2 harg2 arg3 harg3 arg4 harg4 arg7 harg7 arg8 harg8 arg16 arg17 x0 x1 x2 x5 x6 (ix2 y k)
      = kernelRun0_A.sl.r_8 c i arg2 harg2 arg3 harg3 arg4 harg4 arg7 harg7 arg8 harg8 arg16 arg17 x0 x1 x2 x5 x6 (ix2 y k)
        + tap x5 R (2 + y) k 4 + tap x5 R (2 + y) k 12 + tap x5 R (2 + y) k 20 + tap x5 R (2 + y) k 28 + tap x5 R (2 + y) k 5 := by
  unfold kernelRun0_A.sl.r_10 kernelRun0_A.sl.r_9
  pointwise [k0_pay20, k0_pay18]
  rw [kv181_at c arg2 harg2 arg3 harg3 arg4 harg4 arg16 arg17 h, kv187_at c arg2 harg2 arg3 harg3 arg4 harg4 arg16 arg17 h, kv193_at c arg2 harg2 arg3 harg3 arg4 harg4 arg16 arg17 h, kv199_at c arg2 harg2 arg3 harg3 arg4 harg4 arg16 arg17 h, kv209_at c arg2 harg2 arg3 harg3 arg4 harg4 arg16 arg17 h, w_at arg7 harg7 x5 4 (by decide), w_at arg7 harg7 x5 12 (by decide), w_at arg7 harg7 x5 20 (by decide), w_at arg7 harg7 x5 28 (by decide), w_at arg7 harg7 x5 5 (by decide)]
  simp only [tap_of, ← Nat.add_assoc, Nat.reduceAdd, Nat.reduceLT, Nat.zero_add, zero_add]

/-- The last three taps: the whole convolution's row, its deviation from its mean. -/
theorem r_13_at (B : FVec Ideal ⟨1, ![1024]⟩ .f32) (hB : ∀ k : Fin 1024, x6 (ix2 0 k) = B (ix1 k)) (y : Fin 512) (k : Fin 1024) :
    kernelRun0_A.sl.r_13 c i arg2 harg2 arg3 harg3 arg4 harg4 arg7 harg7 arg8 harg8 arg16 arg17 x0 x1 x2 x5 x6 (ix2 y k)
      = conv x5 B R (2 + y) k - mean (conv x5 B R (2 + y)) := by
  have e : ∀ k : Fin 1024, kernelRun0_A.sl.r_10 c i arg2 harg2 arg3 harg3 arg4 harg4 arg7 harg7 arg8 harg8 arg16 arg17 x0 x1 x2 x5 x6 (ix2 y k)
      + tap x5 R (2 + y) k 13 + tap x5 R (2 + y) k 21 + tap x5 R (2 + y) k 29 = conv x5 B R (2 + y) k := fun k => by
    rw [r_10_at c arg2 harg2 arg3 harg3 arg4 harg4 arg7 harg7 arg8 harg8 arg16 arg17 x5 x6 h, r_8_at c arg2 harg2 arg3 harg3 arg4 harg4 arg7 harg7 arg8 harg8 arg16 arg17 x5 x6 h, r_6_at c arg2 harg2 arg3 harg3 arg4 harg4 arg7 harg7 arg8 harg8 arg16 arg17 x5 x6 h, r_5_at c arg2 harg2 arg3 harg3 arg4 harg4 arg7 harg7 arg8 harg8 arg16 arg17 x5 x6 h, r_2_at c arg2 harg2 arg3 harg3 arg4 harg4 arg7 harg7 arg8 harg8 arg16 arg17 x5 x6 h, r_1_at c arg2 harg2 arg3 harg3 arg4 harg4 arg7 harg7 arg8 harg8 arg16 arg17 x5 x6 h, r_at c arg2 harg2 arg3 harg3 arg4 harg4 arg7 harg7 arg8 harg8 arg16 x5 x6 h, hB]
    unfold conv
    simp only [Finset.sum_range_succ, Finset.sum_range_zero, zero_add]
    ac_rfl
  unfold kernelRun0_A.sl.r_13
  pointwise [k0_pay23]
  simp only [kv215_at c arg2 harg2 arg3 harg3 arg4 harg4 arg16 arg17 h, kv221_at c arg2 harg2 arg3 harg3 arg4 harg4 arg16 arg17 h, kv227_at c arg2 harg2 arg3 harg3 arg4 harg4 arg16 arg17 h, w_at arg7 harg7 x5 13 (by decide), w_at arg7 harg7 x5 21 (by decide), w_at arg7 harg7 x5 29 (by decide)]
  simp only [tap_of, ← Nat.add_assoc, Nat.reduceAdd, Nat.reduceLT] at e ⊢
  simp only [e]
  rfl

theorem r_14_at (B : FVec Ideal ⟨1, ![1024]⟩ .f32) (hB : ∀ k : Fin 1024, x6 (ix2 0 k) = B (ix1 k)) (y : Fin 512) (z : Fin 1) :
    kernelRun0_A.sl.r_14 c i arg2 harg2 arg3 harg3 arg4 harg4 arg7 harg7 arg8 harg8 arg16 arg17 x0 x1 x2 x5 x6 (ix2 y z)
      = Ideal.rsqrt (mean (fun x => (conv x5 B R (2 + y) x - mean (conv x5 B R (2 + y))) * (conv x5 B R (2 + y) x - mean (conv x5 B R (2 + y))))
        + Ideal.ofBits .f32 0x3727C5AC#32) := by
  have e := r_13_at c arg2 harg2 arg3 harg3 arg4 harg4 arg7 harg7 arg8 harg8 arg16 arg17 x5 x6 h B hB y
  unfold kernelRun0_A.sl.r_13 at e
  unfold kernelRun0_A.sl.r_14
  pointwise [k0_pay24]
  simp only [e]
  rfl

variable (arg5 : Memref sig .tc .vmem S1x512x1024 .f32) (harg5 : arg5.IsWhole)
  (arg6 : Memref sig .tc .vmem S1x1x16x1024 .f32) (harg6 : arg6.IsWhole)
  (arg9 : Memref sig .tc .vmem S1x1024 .f32) (harg9 : arg9.IsWhole) (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x1024 .f32) (harg14 : arg14.IsWhole)
  (x3 : Vec Ideal S1x512x1024 .f32) (x4 : Vec Ideal S1x1x16x1024 .f32) (x7 x8 : Vec Ideal S1x1024 .f32)
  (x9 : Vec Ideal S1024x1024 .bf16) (x10 x11 x12 : Vec Ideal S1x1024 .f32)
  (B : FVec Ideal ⟨1, ![1024]⟩ .f32) (hB : ∀ k : Fin 1024, x6 (ix2 0 k) = B (ix1 k))
  (hh : Fin 1024 → EReal) (y : Fin 512)
  (h1 : ∀ (e : Fin 512) (x : Fin 1024), e.val = 16 + y.val → x3 (ix3 0 e x) = hh x)
  (h2 : ∀ (e : Fin 16) (x : Fin 1024), 496 + e.val = y.val → x4 (ix4 0 0 e x) = hh x)

/-- The first LayerNorm, of the convolution's row. -/
abbrev kln : Fin 1024 → EReal :=
  norm (conv x5 B R (2 + y)) (fun k => x7 (ix2 0 k)) (fun k => x8 (ix2 0 k))

/-- What the last LayerNorm is applied to. -/
abbrev krs : Fin 1024 → EReal := sum2 hh (kln x5 x7 x8 B y (R := R)) x9 (fun k => x10 (ix2 0 k))

include hB h1 h2 in
theorem r_17_at (k : Fin 1024) :
    kernelRun0_A.sl.r_17 c i arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 (ix2 y k)
      = krs x5 x7 x8 x9 x10 B hh y (R := R) k - mean (krs x5 x7 x8 x9 x10 B hh y (R := R)) := by
  unfold kernelRun0_A.sl.r_17
  rw [mat_eq arg11 harg11 x9]
  refine (pay27_at _ _ _ _ _ _ _ _ hh y k (fun hy x => ?_) (fun hy x => ?_)).trans ?_
  · rw [main_at arg5 harg5 x3]; exact h1 _ x rfl
  · rw [after_at arg6 harg6 x4]; exact h2 _ x (by show 496 + (y.val - 496) = y.val; omega)
  unfold kernelRun0_A.sl.r_11 kernelRun0_A.sl.r_12
  pointwise [k0_pay21, k0_pay22]
  simp only [r_13_at c arg2 harg2 arg3 harg3 arg4 harg4 arg7 harg7 arg8 harg8 arg16 arg17 x5 x6 h B hB y, r_14_at c arg2 harg2 arg3 harg3 arg4 harg4 arg7 harg7 arg8 harg8 arg16 arg17 x5 x6 h B hB y, vec_at arg9 harg9 x7, vec_at arg10 harg10 x8,
    vec_at arg12 harg12 x10]
  rfl

include hB h1 h2 in
theorem r_18_at (z : Fin 1) :
    kernelRun0_A.sl.r_18 c i arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 (ix2 y z)
      = mean (fun x => (krs x5 x7 x8 x9 x10 B hh y (R := R) x - mean (krs x5 x7 x8 x9 x10 B hh y (R := R)))
          * (krs x5 x7 x8 x9 x10 B hh y (R := R) x - mean (krs x5 x7 x8 x9 x10 B hh y (R := R)))) := by
  have e := r_17_at c arg2 harg2 arg3 harg3 arg4 harg4 arg7 harg7 arg8 harg8 arg16 arg17 x5 x6 h arg5 harg5 arg6 harg6 arg9 harg9 arg10 harg10 arg11 harg11 arg12 harg12 x3 x4 x7 x8 x9 x10 B hB hh y h1 h2
  unfold kernelRun0_A.sl.r_17 at e
  unfold kernelRun0_A.sl.r_18
  pointwise [k0_pay28]
  simp only [e]
  rfl

include hB h1 h2 in
/-- What the body stores, at row `y`. -/
theorem body_at (z : Fin 1) (k : Fin 1024) :
    k0_pay1 (kernelRun0_A.sl.r_15 c arg13 harg13 x11) (kernelRun0_A.sl.r_16 c arg14 harg14 x12)
        (kernelRun0_A.sl.r_17 c i arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10)
        (kernelRun0_A.sl.r_18 c i arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10) (ix3 z y k)
      = norm (krs x5 x7 x8 x9 x10 B hh y (R := R)) (fun k => x11 (ix2 0 k)) (fun k => x12 (ix2 0 k)) k := by
  rw [pay1_at, r_17_at c arg2 harg2 arg3 harg3 arg4 harg4 arg7 harg7 arg8 harg8 arg16 arg17 x5 x6 h arg5 harg5 arg6 harg6 arg9 harg9 arg10 harg10 arg11 harg11 arg12 harg12 x3 x4 x7 x8 x9 x10 B hB hh y h1 h2,
    r_18_at c arg2 harg2 arg3 harg3 arg4 harg4 arg7 harg7 arg8 harg8 arg16 arg17 x5 x6 h arg5 harg5 arg6 harg6 arg9 harg9 arg10 harg10 arg11 harg11 arg12 harg12 x3 x4 x7 x8 x9 x10 B hB hh y h1 h2]
  unfold kernelRun0_A.sl.r_15 kernelRun0_A.sl.r_16
  pointwise [k0_pay25, k0_pay26]
  simp only [vec_at arg13 harg13 x11, vec_at arg14 harg14 x12]
  rfl

end Cert.Proof.Conv

end
-- ==== Proof.Conv.Value.lean ====
/- The second half of a Conformer convolution block: what the kernel leaves in its result array is the reference's term, read at `Ideal`. -/
module

public import proofs.«01_k».proof.Proof.Conv.Sum

@[expose] public section

set_option maxRecDepth 16384

noncomputable section

namespace Cert.Proof.Conv

open Idealize.ShloMosaic Idealize.ShloMosaic.TcCoe Idealize.SL.Sem
open Idealize.ShloMosaic.Pipeline (Dat)
open Cert.ConvKernelIdeal Cert.ConvKernelIdeal.Gen

variable (m : (ℓ : Loc nD τ sig) → Buf (Elt Ideal) ℓ)

/-- Each window's block index at a grid point. -/
theorem idx : ∀ t : Fin cfg0.N, win0_0.index t = ![t.val / 4, t.val % 4, 0] ∧ win0_1.index t = ![t.val / 4, t.val % 4 * 32 - 1, 0, 0]
    ∧ win0_2.index t = ![t.val / 4, t.val % 4 * 32 + 32, 0, 0] ∧ win0_3.index t = ![t.val / 4, t.val % 4, 0]
    ∧ win0_4.index t = ![t.val / 4, t.val % 4 * 32 + 32, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val / 4, t.val % 4, 0] :=
  (by decide +kernel : ∀ t : Fin grid0.N, _)

/-- The second grid coordinate, and whether it is past zero. -/
theorem coord : ∀ t : Fin cfg0.N, Scalar.cmpi .sgt (BitVec.ofNat 32 (grid0.coords t 1).val) 0#32 = if t.val % 4 = 0 then 0#1 else 1#1 :=
  (by decide +kernel : ∀ t : Fin grid0.N, _)

/-- The arguments, each at its own type. -/
abbrev kU (c : Dev nD) : FVec Ideal S16x2176x1024 .f32 := m ((c : Thread nD τ).loc main_arg0)
abbrev kH (c : Dev nD) : FVec Ideal S16x2176x1024 .f32 := m ((c : Thread nD τ).loc main_arg1)
abbrev kW (c : Dev nD) : FVec Ideal S31x1024 .f32 := m ((c : Thread nD τ).loc main_arg2)
abbrev kB (c : Dev nD) : FVec Ideal S1024 .f32 := m ((c : Thread nD τ).loc main_arg3)
abbrev kLg (c : Dev nD) : FVec Ideal S1024 .f32 := m ((c : Thread nD τ).loc main_arg4)
abbrev kLb (c : Dev nD) : FVec Ideal S1024 .f32 := m ((c : Thread nD τ).loc main_arg5)
abbrev kW2 (c : Dev nD) : FVec Ideal S1024x1024 .f32 := m ((c : Thread nD τ).loc main_arg6)
abbrev kB2 (c : Dev nD) : FVec Ideal S1024 .f32 := m ((c : Thread nD τ).loc main_arg7)
abbrev kG (c : Dev nD) : FVec Ideal S1024 .f32 := m ((c : Thread nD τ).loc main_arg8)
abbrev kGb (c : Dev nD) : FVec Ideal S1024 .f32 := m ((c : Thread nD τ).loc main_arg9)

theorem nt (t : Fin cfg0.N) : t.val < 64 := t.isLt

/-! What each window holds at a point. -/

theorem x0_at (c : Dev nD) (t : Fin cfg0.N) (z : Fin 1) (e : Fin 512) (k : Fin 1024) :
    (X0_0 m c t : FVec Ideal S1x512x1024 .f32) (ix3 z e k)
      = kU m c (ix3 ⟨t.val / 4, by have := nt t; omega⟩ ⟨512 * (t.val % 4) + e, by omega⟩ k) := by
  unfold X0_0 Pipeline.Window.fill
  rw [dif_pos (moved0_0 t _)]
  blk_point [iblk, V, idx t]

theorem x1_at (c : Dev nD) (t : Fin cfg0.N) (z z' : Fin 1) (e : Fin 16) (k : Fin 1024) :
    (iblk m c 1 t : FVec Ideal S1x1x16x1024 .f32) (ix4 z z' e k)
      = kU m c (ix3 ⟨t.val / 4, by have := nt t; omega⟩ ⟨16 * (t.val % 4 * 32 - 1) + e, by omega⟩ k) := by
  blk_point [iblk, V, idx t]

theorem x2_at (c : Dev nD) (t : Fin cfg0.N) (z z' : Fin 1) (e : Fin 16) (k : Fin 1024) :
    (iblk m c 2 t : FVec Ideal S1x1x16x1024 .f32) (ix4 z z' e k)
      = kU m c (ix3 ⟨t.val / 4, by have := nt t; omega⟩ ⟨16 * (t.val % 4 * 32 + 32) + e, by omega⟩ k) := by
  blk_point [iblk, V, idx t]

theorem x3_at (c : Dev nD) (t : Fin cfg0.N) (z : Fin 1) (e : Fin 512) (k : Fin 1024) :
    (X0_3 m c t : FVec Ideal S1x512x1024 .f32) (ix3 z e k)
      = kH m c (ix3 ⟨t.val / 4, by have := nt t; omega⟩ ⟨512 * (t.val % 4) + e, by omega⟩ k) := by
  unfold X0_3 Pipeline.Window.fill
  rw [dif_pos (moved0_3 t _)]
  blk_point [iblk, V, idx t]

theorem x4_at (c : Dev nD) (t : Fin cfg0.N) (z z' : Fin 1) (e : Fin 16) (k : Fin 1024) :
    (iblk m c 4 t : FVec Ideal S1x1x16x1024 .f32) (ix4 z z' e k)
      = kH m c (ix3 ⟨t.val / 4, by have := nt t; omega⟩ ⟨16 * (t.val % 4 * 32 + 32) + e, by omega⟩ k) := by
  blk_point [iblk, V, idx t]

theorem x5_eq (c : Dev nD) (t : Fin cfg0.N) : (iblk m c 5 t : FVec Ideal S31x1024 .f32) = kW m c := by
  funext y
  blk_point [iblk, V, idx t]

theorem x6_at (c : Dev nD) (t : Fin cfg0.N) (z : Fin 1) (k : Fin 1024) :
    (iblk m c 6 t : FVec Ideal S1x1024 .f32) (ix2 z k) = kB m c (ix1 k) := by
  blk_point [iblk, V, idx t]

theorem x7_at (c : Dev nD) (t : Fin cfg0.N) (z : Fin 1) (k : Fin 1024) :
    (iblk m c 7 t : FVec Ideal S1x1024 .f32) (ix2 z k) = kLg m c (ix1 k) := by
  blk_point [iblk, V, idx t]

theorem x8_at (c : Dev nD) (t : Fin cfg0.N) (z : Fin 1) (k : Fin 1024) :
    (iblk m c 8 t : FVec Ideal S1x1024 .f32) (ix2 z k) = kLb m c (ix1 k) := by
  blk_point [iblk, V, idx t]

theorem x9_eq (c : Dev nD) (t : Fin cfg0.N) : (iblk m c 9 t : FVec Ideal S1024x1024 .bf16) = kW2 m c := by
  funext y
  blk_point [iblk, V, idx t]

theorem x10_at (c : Dev nD) (t : Fin cfg0.N) (z : Fin 1) (k : Fin 1024) :
    (iblk m c 10 t : FVec Ideal S1x1024 .f32) (ix2 z k) = kB2 m c (ix1 k) := by
  blk_point [iblk, V, idx t]

theorem x11_at (c : Dev nD) (t : Fin cfg0.N) (z : Fin 1) (k : Fin 1024) :
    (iblk m c 11 t : FVec Ideal S1x1024 .f32) (ix2 z k) = kG m c (ix1 k) := by
  blk_point [iblk, V, idx t]

theorem x12_at (c : Dev nD) (t : Fin cfg0.N) (z : Fin 1) (k : Fin 1024) :
    (iblk m c 12 t : FVec Ideal S1x1024 .f32) (ix2 z k) = kGb m c (ix1 k) := by
  blk_point [iblk, V, idx t]

/-- The rows the point's block reads, counted from the first it may read. -/
abbrev rows (c : Dev nD) (t : Fin cfg0.N) (n : ℕ) (k : Fin 1024) : EReal :=
  row (kU m c) ⟨t.val / 4, by have := nt t; omega⟩ (512 * (t.val % 4) + 14 + n) k

/-- The rows before the block: zeros at the sequence's start. -/
theorem lo_at (c : Dev nD) (t : Fin cfg0.N) (e : Fin 16) (k : Fin 1024) :
    k0_pay2 (F := Ideal) (grid0.coords t) (iblk m c 1 t) (ix2 e k) = rows m c t e k := by
  have hc := coord t
  unfold rows row
  by_cases h : t.val % 4 = 0
  · rw [if_pos h] at hc
    rw [dif_neg (by omega)]
    pointwise [k0_pay2]
    rw [hc]
    rfl
  · rw [if_neg h] at hc
    rw [dif_pos (by omega)]
    pointwise [k0_pay2]
    rw [hc]
    exact (x1_at m c t 0 0 e k).trans (congrArg (kU m c) ((ix3_inj ..).2 ⟨rfl, Fin.ext (by show 16 * (t.val % 4 * 32 - 1) + e.val = 512 * (t.val % 4) + 14 + e.val - 30; omega), rfl⟩))

theorem rows_at (c : Dev nD) (t : Fin cfg0.N) :
    Rows (grid0.coords t) (X0_0 m c t) (iblk m c 1 t) (iblk m c 2 t) (rows m c t) where
  lo := lo_at m c t
  mid e k := by
    rw [x0_at]
    unfold rows row
    rw [dif_pos (by omega)]
    exact congrArg (kU m c) ((ix3_inj ..).2 ⟨rfl, Fin.ext (by show 512 * (t.val % 4) + e.val = 512 * (t.val % 4) + 14 + (16 + e.val) - 30; omega), rfl⟩)
  hi e k := by
    rw [x2_at]
    unfold rows row
    rw [dif_pos (by omega)]
    exact congrArg (kU m c) ((ix3_inj ..).2 ⟨rfl, Fin.ext (by show 16 * (t.val % 4 * 32 + 32) + e.val = 512 * (t.val % 4) + 14 + (528 + e.val) - 30; omega), rfl⟩)

/-- The convolution over the point's rows is the sequence's own. -/
theorem conv_at (c : Dev nD) (t : Fin cfg0.N) (y : Fin 512) :
    conv (kW m c) (kB m c) (rows m c t) (2 + y)
      = conv (kW m c) (kB m c) (row (kU m c) ⟨t.val / 4, by have := nt t; omega⟩) (16 + (512 * (t.val % 4) + y)) := by
  funext k
  unfold conv tap rows
  refine congrArg (kB m c (ix1 k) + ·) (Finset.sum_congr rfl fun j _ => ?_)
  rw [show 512 * (t.val % 4) + 14 + (j + (2 + y.val)) = j + (16 + (512 * (t.val % 4) + y.val)) by omega]

/-- What the body leaves in the output's buffer. -/
theorem outs_at (c : Dev nD) (t : Fin cfg0.N) (z : Fin 1) (y : Fin 512) (k : Fin 1024) :
    outsAt0 m c t (ix3 z y k)
      = out (kU m c) (kH m c) (kW m c) (kB m c) (kLg m c) (kLb m c) (kW2 m c) (kB2 m c) (kG m c) (kGb m c)
          ⟨t.val / 4, by have := nt t; omega⟩ ⟨512 * (t.val % 4) + y, by omega⟩ k := by
  unfold outsAt0 out0_A_13 kernelRun0_A
  rw [View.read_writes_junk_eq_canon, View.canon_cons_unit_lit' (h := by intro a; fin_cases a <;> rfl)]
  refine (body_at (h := rows_at m c t) (B := kB m c) (hB := fun k => x6_at m c t 0 k)
    (hh := fun k => kH m c (ix3 ⟨t.val / 4, by have := nt t; omega⟩ ⟨16 + (512 * (t.val % 4) + y), by omega⟩ k)) (y := y)
    (h1 := fun e x he => ?_) (h2 := fun e x he => ?_) (z := z) (k := k) ..).trans ?_
  · rw [x3_at]
    exact congrArg (kH m c) ((ix3_inj ..).2 ⟨rfl, Fin.ext (by show 512 * (t.val % 4) + e.val = 16 + (512 * (t.val % 4) + y.val); omega), rfl⟩)
  · rw [x4_at]
    exact congrArg (kH m c) ((ix3_inj ..).2 ⟨rfl, Fin.ext (by show 16 * (t.val % 4 * 32 + 32) + e.val = 16 + (512 * (t.val % 4) + y.val); omega), rfl⟩)
  · unfold krs kln out
    simp only [x5_eq, x7_at, x8_at, x9_eq, x10_at, x11_at, x12_at, conv_at]

/-- The whole result, over the arguments. -/
def outV (U H : FVec Ideal S16x2176x1024 .f32) (W : FVec Ideal S31x1024 .f32) (B Lg Lb : FVec Ideal S1024 .f32)
    (W2 : FVec Ideal S1024x1024 .f32) (B2 G Gb : FVec Ideal S1024 .f32) : FVec Ideal S16x2048x1024 .f32 :=
  fun y => out U H W B Lg Lb W2 B2 G Gb (y 0) (y 1) (y 2)

/-- Each point stores the result's own block. -/
theorem final_of (c : Dev nD) (W : FVec Ideal S16x2048x1024 .f32)
    (hW : ∀ (b : Fin 16) (p : Fin 2048) (k : Fin 1024), W (ix3 b p k)
      = out (kU m c) (kH m c) (kW m c) (kB m c) (kLg m c) (kLb m c) (kW2 m c) (kB2 m c) (kG m c) (kGb m c) b p k) :
    (dats m 0 c).arrAt 13 (cfgs 0).N = W := by
  refine (dats m 0 c).arrAt_eq_of_covers 13 _ (by decide +kernel) fun t _ y => ?_
  blk_simp
  rw [after0_13, eq_ix3 y]
  refine (outs_at m c t (y 0) (y 1) (y 2)).trans ((hW _ _ _).symm.trans ?_)
  blk_point [idx t]

/-- The result array after the run. -/
theorem final (c : Dev nD) : (dats m 0 c).arrAt 13 (cfgs 0).N
    = outV (kU m c) (kH m c) (kW m c) (kB m c) (kLg m c) (kLb m c) (kW2 m c) (kB2 m c) (kG m c) (kGb m c) :=
  final_of m c _ fun _ _ _ => rfl

end Cert.Proof.Conv

end
-- ==== Proof.Conv.Claim.lean ====
/- The value claim of a convolution block's second half, from the two runs. -/
module

public import proofs.«01_k».proof.Defs
public import proofs.«01_k».proof.Proof.Conv.Value
public import proofs.«01_k».proof.Proof.Gen.ConvReferenceIdeal.Run
public import Idealize.ShloMosaic.Lib.Claim

@[expose] public section

set_option maxRecDepth 16384

noncomputable section

open Idealize.ShloMosaic Idealize.ShloMosaic.TcCoe Idealize.SL.Sem

namespace Cert.Proof.Conv

section kernel

open Cert.ConvKernelIdeal Cert.ConvKernelIdeal.Gen

/-- The kernel's run: the result array at the function of the arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10) = outV (kU m c) (kH m c) (kW m c) (kB m c) (kLg m c) (kLb m c) (kW2 m c) (kB2 m c) (kG m c) (kGb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 13).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m g)

end kernel

section reference

open Cert.ConvReferenceIdeal Cert.ConvReferenceIdeal.Gen Cert.ConvReferenceIdeal.Value Idealize.ShloMosaic.StableHlo

/-- The reference's result array is the same function of its arguments. -/
theorem result_eq (V0 : Valuation τ sig (Elt Ideal)) :
    result V0 = outV (aU V0) (aH V0) (aW V0) (aB V0) (aLg V0) (aLb V0) (aW2 V0) (aB2 V0) (aG V0) (aGb V0) := by
  funext y
  rw [eq_ix3 y]
  exact result_at V0 (y 0) (y 1) (y 2)

/-- The reference's run in the same terms. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v279) = outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq (launchContents m c)), (h c).2⟩) (run (F := Ideal) m g)

end reference

theorem algebraic : Cert.algebraic_ConvKernelIdeal_ConvReferenceIdeal := by
  intro m g m' g' _ hagree
  refine ⟨fun c => outV (kU m c) (kH m c) (kW m c) (kB m c) (kLg m c) (kLb m c) (kW2 m c) (kB2 m c) (kG m c) (kGb m c), kernel_run m g, ?_⟩
  refine (θ_run _ _ _).mono (fun r h c => ?_) (reference_run m' g')
  obtain ⟨h0, hr⟩ := h c
  obtain ⟨a0, a1, a2, a3, a4, a5, a6, a7, a8, a9⟩ := hagree c
  rw [a0, a1, a2, a3, a4, a5, a6, a7, a8, a9] at h0
  exact ⟨h0, hr⟩

end Cert.Proof.Conv

end
-- ==== Proof.lean ====
module

public import proofs.«01_k».proof.Defs
public import proofs.«01_k».proof.Proof.Attn.Frame
public import proofs.«01_k».proof.Proof.Ffn.Claim
public import proofs.«01_k».proof.Proof.Ffn0.Claim
public import proofs.«01_k».proof.Proof.Glu.Claim
public import proofs.«01_k».proof.Proof.Proj.Bits
public import proofs.«01_k».proof.Proof.Proj.Claim
public import proofs.«01_k».proof.Proof.Conv.Claim
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.Ffn0Kernel.Frame
public import proofs.«01_k».proof.Proof.Gen.Ffn0KernelIdeal.Frame
public import proofs.«01_k».proof.Proof.Gen.Ffn0ReferenceIdeal.Run
public import proofs.«01_k».proof.Proof.Gen.GluKernel.Frame
public import proofs.«01_k».proof.Proof.Gen.GluKernelIdeal.Frame
public import proofs.«01_k».proof.Proof.Gen.GluReferenceIdeal.Run
public import proofs.«01_k».proof.Proof.Gen.ProjKernel.Frame
public import proofs.«01_k».proof.Proof.Gen.ProjKernelIdeal.Frame
public import proofs.«01_k».proof.Proof.Gen.ProjReferenceIdeal.Run
public import proofs.«01_k».proof.Proof.Gen.ConvKernel.Frame
public import proofs.«01_k».proof.Proof.Gen.ConvKernelIdeal.Frame
public import proofs.«01_k».proof.Proof.Gen.ConvKernelIdeal.Value
public import proofs.«01_k».proof.Proof.Gen.ConvReferenceIdeal.Run
public import Idealize.ShloMosaic.Adequacy
public import Idealize.ShloMosaic.Init

@[expose] public section

namespace Cert.Proof

open Idealize.ShloMosaic Idealize.SL.Sem

theorem claim : Cert.Claim := ⟨Cert.Kernel.Gen.facts, Cert.FfnKernel.Gen.facts, Cert.FfnKernelIdeal.Gen.facts, Cert.FfnReferenceIdeal.Gen.facts, Cert.Ffn0Kernel.Gen.facts, Cert.Ffn0KernelIdeal.Gen.facts, Cert.Ffn0ReferenceIdeal.Gen.facts, Cert.GluKernel.Gen.facts, Cert.GluKernelIdeal.Gen.facts, Cert.GluReferenceIdeal.Gen.facts, Cert.ProjKernel.Gen.facts, Cert.ProjKernelIdeal.Gen.facts, Cert.ProjReferenceIdeal.Gen.facts, Cert.ConvKernel.Gen.facts, Cert.ConvKernelIdeal.Gen.facts, Cert.ConvReferenceIdeal.Gen.facts,
  fun m g _ => Cert.Proof.Attn.frame m g,
  fun m g _ => Cert.FfnKernel.Gen.frame m g,
  fun m g _ => Cert.FfnKernelIdeal.Gen.frame m g,
  fun m g _ => (θ_run Cert.FfnReferenceIdeal.defs _ _).mono (fun r h => ⟨fun c => (h c).2, sem_eq_zero_of_no_sems (by decide) r.2⟩)
    (Cert.FfnReferenceIdeal.Value.run (F := Ideal) m g),
  fun m g _ => Cert.Ffn0Kernel.Gen.frame m g,
  fun m g _ => Cert.Ffn0KernelIdeal.Gen.frame m g,
  fun m g _ => (θ_run Cert.Ffn0ReferenceIdeal.defs _ _).mono (fun r h => ⟨fun c => (h c).2, sem_eq_zero_of_no_sems (by decide) r.2⟩)
    (Cert.Ffn0ReferenceIdeal.Value.run (F := Ideal) m g),
  fun m g _ => Cert.GluKernel.Gen.frame m g,
  fun m g _ => Cert.GluKernelIdeal.Gen.frame m g,
  fun m g _ => (θ_run Cert.GluReferenceIdeal.defs _ _).mono (fun r h => ⟨fun c => (h c).2, sem_eq_zero_of_no_sems (by decide) r.2⟩)
    (Cert.GluReferenceIdeal.Value.run (F := Ideal) m g),
  fun m g _ => Cert.Proof.Proj.frame_bits m g,
  fun m g _ => Cert.Proof.Proj.frame m g,
  fun m g _ => (θ_run Cert.ProjReferenceIdeal.defs _ _).mono (fun r h => ⟨fun c => (h c).2.2.2.2.2.2.2, sem_eq_zero_of_no_sems (by decide) r.2⟩)
    (Cert.ProjReferenceIdeal.Value.run (F := Ideal) m g),
  fun m g _ => Cert.ConvKernel.Gen.frame m g,
  fun m g _ => Cert.ConvKernelIdeal.Gen.frame m g,
  fun m g _ => (θ_run Cert.ConvReferenceIdeal.defs _ _).mono (fun r h => ⟨fun c => (h c).2, sem_eq_zero_of_no_sems (by decide) r.2⟩)
    (Cert.ConvReferenceIdeal.Value.run (F := Ideal) m g),
  trivial, Cert.Proof.Ffn.algebraic, trivial, Cert.Proof.Ffn0.algebraic, trivial, Cert.Proof.Glu.algebraic,
  trivial, Cert.Proof.Proj.algebraic, trivial, Cert.Proof.Conv.algebraic⟩

end Cert.Proof

end
